-- ==== Defs.lean ====
def Pre_Kernel [hPre_table_in_range : Cert.Pre_table_in_range.Facts] (m : (ℓ : Loc Cert.Kernel.nD Cert.Kernel.τ Cert.Kernel.sig) → Buf (Elt Bits) ℓ) : Prop :=
  ∀ c : Dev Cert.Kernel.nD,
    (Cert.Pre_table_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_table_in_range : Cert.Pre_table_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_table_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_attends [hPre_attends : Cert.Pre_attends.Facts] (m : (ℓ : Loc Cert.KernelIdeal.nD Cert.KernelIdeal.τ Cert.KernelIdeal.sig) → Buf (Elt Ideal) ℓ) : Prop :=
  ∀ c : Dev Cert.KernelIdeal.nD,
    (Cert.Pre_attends.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attends [hPre_attends : Cert.Pre_attends.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attends.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] [hPre_table_in_range : Cert.Pre_table_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_table_in_range : Cert.Pre_table_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_attends [hKernelIdeal : Cert.KernelIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attends m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_attends [hReferenceIdeal : Cert.ReferenceIdeal.Facts] [hPre_attends : Cert.Pre_attends.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attends m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8)
      ∧ r.2.mem ((c.tc : Thread Cert.FinishRefIdeal.nD Cert.FinishRefIdeal.τ).loc Cert.FinishRefIdeal.main_arg9) = m ((c.tc : Thread Cert.FinishRefIdeal.nD Cert.FinishRefIdeal.τ).loc Cert.FinishRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def preserves_Kernel_KernelIdeal : Prop :=
  True

def algebraic_KernelIdeal_ReferenceIdeal_pre_attends [hKernelIdeal : Cert.KernelIdeal.Facts] [hReferenceIdeal : Cert.ReferenceIdeal.Facts] [hPre_attends : Cert.Pre_attends.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attends m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)
      ∧ m' ((c.tc : Thread Cert.FinishRefIdeal.nD Cert.FinishRefIdeal.τ).loc Cert.FinishRefIdeal.main_arg6) = m ((c.tc : Thread Cert.FinishIdeal.nD Cert.FinishIdeal.τ).loc Cert.FinishIdeal.main_arg6)
      ∧ m' ((c.tc : Thread Cert.FinishRefIdeal.nD Cert.FinishRefIdeal.τ).loc Cert.FinishRefIdeal.main_arg7) = m ((c.tc : Thread Cert.FinishIdeal.nD Cert.FinishIdeal.τ).loc Cert.FinishIdeal.main_arg7)
      ∧ m' ((c.tc : Thread Cert.FinishRefIdeal.nD Cert.FinishRefIdeal.τ).loc Cert.FinishRefIdeal.main_arg8) = m ((c.tc : Thread Cert.FinishIdeal.nD Cert.FinishIdeal.τ).loc Cert.FinishIdeal.main_arg8)
      ∧ m' ((c.tc : Thread Cert.FinishRefIdeal.nD Cert.FinishRefIdeal.τ).loc Cert.FinishRefIdeal.main_arg9) = m ((c.tc : Thread Cert.FinishIdeal.nD Cert.FinishIdeal.τ).loc Cert.FinishIdeal.main_arg9)) →
    ∃ (v0 : (c : Dev Cert.FinishIdeal.nD) → Buf (Elt Ideal) ((c.tc : Thread Cert.FinishIdeal.nD Cert.FinishIdeal.τ).loc Cert.FinishIdeal.main_v18)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v18) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v59) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5)
          ∧ r.2.mem ((c.tc : Thread Cert.FinishRefIdeal.nD Cert.FinishRefIdeal.τ).loc Cert.FinishRefIdeal.main_arg6) = m' ((c.tc : Thread Cert.FinishRefIdeal.nD Cert.FinishRefIdeal.τ).loc Cert.FinishRefIdeal.main_arg6)
          ∧ r.2.mem ((c.tc : Thread Cert.FinishRefIdeal.nD Cert.FinishRefIdeal.τ).loc Cert.FinishRefIdeal.main_arg7) = m' ((c.tc : Thread Cert.FinishRefIdeal.nD Cert.FinishRefIdeal.τ).loc Cert.FinishRefIdeal.main_arg7)
          ∧ r.2.mem ((c.tc : Thread Cert.FinishRefIdeal.nD Cert.FinishRefIdeal.τ).loc Cert.FinishRefIdeal.main_arg8) = m' ((c.tc : Thread Cert.FinishRefIdeal.nD Cert.FinishRefIdeal.τ).loc Cert.FinishRefIdeal.main_arg8)
          ∧ r.2.mem ((c.tc : Thread Cert.FinishRefIdeal.nD Cert.FinishRefIdeal.τ).loc Cert.FinishRefIdeal.main_arg9) = m' ((c.tc : Thread Cert.FinishRefIdeal.nD Cert.FinishRefIdeal.τ).loc Cert.FinishRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6_0)) (v1 : (c : Dev Cert.ProjIdeal.nD) → Buf (Elt Ideal) ((c.tc : Thread Cert.ProjIdeal.nD Cert.ProjIdeal.τ).loc Cert.ProjIdeal.main_v6_1)) (v2 : (c : Dev Cert.ProjIdeal.nD) → Buf (Elt Ideal) ((c.tc : Thread Cert.ProjIdeal.nD Cert.ProjIdeal.τ).loc Cert.ProjIdeal.main_v6_2)) (v3 : (c : Dev Cert.ProjIdeal.nD) → Buf (Elt Ideal) ((c.tc : Thread Cert.ProjIdeal.nD Cert.ProjIdeal.τ).loc Cert.ProjIdeal.main_v6_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6_0) = v0 c
          ∧ r.2.mem ((c.tc : Thread Cert.ProjIdeal.nD Cert.ProjIdeal.τ).loc Cert.ProjIdeal.main_v6_1) = v1 c
          ∧ r.2.mem ((c.tc : Thread Cert.ProjIdeal.nD Cert.ProjIdeal.τ).loc Cert.ProjIdeal.main_v6_2) = v2 c
          ∧ r.2.mem ((c.tc : Thread Cert.ProjIdeal.nD Cert.ProjIdeal.τ).loc Cert.ProjIdeal.main_v6_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_v21) = v1 c
          ∧ r.2.mem ((c.tc : Thread Cert.ProjRefIdeal.nD Cert.ProjRefIdeal.τ).loc Cert.ProjRefIdeal.main_v22) = v2 c
          ∧ r.2.mem ((c.tc : Thread Cert.ProjRefIdeal.nD Cert.ProjRefIdeal.τ).loc Cert.ProjRefIdeal.main_v23) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def Claim : Prop :=
  ∃ (hKernel : Cert.Kernel.Facts) (hKernelIdeal : Cert.KernelIdeal.Facts) (hReferenceIdeal : Cert.ReferenceIdeal.Facts) (hFinish : Cert.Finish.Facts) (hFinishIdeal : Cert.FinishIdeal.Facts) (hFinishRefIdeal : Cert.FinishRefIdeal.Facts) (hProj : Cert.Proj.Facts) (hProjIdeal : Cert.ProjIdeal.Facts) (hProjRefIdeal : Cert.ProjRefIdeal.Facts) (hPre_table_in_range : Cert.Pre_table_in_range.Facts) (hPre_attends : Cert.Pre_attends.Facts),
    quiescent_Kernel (hKernel := hKernel) (hPre_table_in_range := hPre_table_in_range)
    ∧ quiescent_KernelIdeal (hKernelIdeal := hKernelIdeal) (hPre_table_in_range := hPre_table_in_range)
    ∧ quiescent_KernelIdeal_pre_attends (hKernelIdeal := hKernelIdeal) (hPre_attends := hPre_attends)
    ∧ quiescent_ReferenceIdeal (hReferenceIdeal := hReferenceIdeal)
    ∧ quiescent_ReferenceIdeal_pre_attends (hReferenceIdeal := hReferenceIdeal) (hPre_attends := hPre_attends)
    ∧ quiescent_Finish (hFinish := hFinish)
    ∧ quiescent_FinishIdeal (hFinishIdeal := hFinishIdeal)
    ∧ quiescent_FinishRefIdeal (hFinishRefIdeal := hFinishRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal_pre_attends (hKernelIdeal := hKernelIdeal) (hReferenceIdeal := hReferenceIdeal) (hPre_attends := hPre_attends)
    ∧ preserves_Finish_FinishIdeal
    ∧ algebraic_FinishIdeal_FinishRefIdeal (hFinishIdeal := hFinishIdeal) (hFinishRefIdeal := hFinishRefIdeal)
    ∧ preserves_Proj_ProjIdeal
    ∧ algebraic_ProjIdeal_ProjRefIdeal (hProjIdeal := hProjIdeal) (hProjRefIdeal := hProjRefIdeal)
-- ==== Pre_attends.lean ====
abbrev S32x64 : Shape := ⟨2, ![32, 64]⟩
abbrev S32x4x8x64 : Shape := ⟨4, ![32, 4, 8, 64]⟩
abbrev S32x4x8196 : Shape := ⟨3, ![32, 4, 8196]⟩
abbrev S1x2560x128x8x64 : Shape := ⟨5, ![1, 2560, 128, 8, 64]⟩
abbrev S_ : Shape := ⟨0, ![]⟩
abbrev S32x4 : Shape := ⟨2, ![32, 4]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S32x4x8x64 : S_.BroadcastsInDim S32x4x8x64 (![] : Fin 0 → Fin S32x4x8x64.rank)
  reducesTo_S32x4x8x64_S_d0_1_2_3 : S32x4x8x64.ReducesTo [0, 1, 2, 3] S_
  bcast_S_S1x2560x128x8x64 : S_.BroadcastsInDim S1x2560x128x8x64 (![] : Fin 0 → Fin S1x2560x128x8x64.rank)
  reducesTo_S1x2560x128x8x64_S_d0_1_2_3_4 : S1x2560x128x8x64.ReducesTo [0, 1, 2, 3, 4] S_
  bcast_S_S32x4x8196 : S_.BroadcastsInDim S32x4x8196 (![] : Fin 0 → Fin S32x4x8196.rank)
  reducesTo_S32x4x8196_S32x4_d2 : S32x4x8196.ReducesTo [2] S32x4
  reducesTo_S32x4_S_d0_1 : S32x4.ReducesTo [0, 1] S_

variable [Facts]

def fn_part1 {F : FTy → Type} [FloatOps F] (main_arg4 : IVec S32x4x8196 32) (main_v5 : IVec S_ 1) (main_v9 : IVec S_ 1) (main_v13 : IVec S_ 1) (main_v14 : FVec F S1x2560x128x8x64 .f32) (main_v15 : FVec F S1x2560x128x8x64 .f32) : IVec S_ 1 :=
  let main_v16 : IVec S1x2560x128x8x64 1 := cmpf .olt main_v14 main_v15
  let main_c_6 : IVec S_ 1 := constantI S_ 1 1#1
  let main_v17 : IVec S_ 1 := (fun x v => Host.reduce IntOp.andi x v reducesTo_S1x2560x128x8x64_S_d0_1_2_3_4 h_S_) main_v16 main_c_6
  let main_v18 : IVec S_ 1 := andi main_v5 main_v9
  let main_v19 : IVec S_ 1 := andi main_v18 main_v13
  let main_v20 : IVec S_ 1 := andi main_v19 main_v17
  let main_c_7 : IVec S_ 32 := constantI S_ 32 0#32
  let main_v21 : IVec S32x4x8196 32 := broadcastInDim S32x4x8196 ![] bcast_S_S32x4x8196 main_c_7
  let main_v22 : IVec S32x4x8196 1 := cmpi .ne main_arg4 main_v21
  let main_c_8 : IVec S_ 1 := constantI S_ 1 0#1
  let main_v23 : IVec S32x4 1 := (fun x v => Host.reduce IntOp.ori x v reducesTo_S32x4x8196_S32x4_d2 h_S_) main_v22 main_c_8
  let main_c_9 : IVec S_ 1 := constantI S_ 1 1#1
  let main_v24 : IVec S_ 1 := (fun x v => Host.reduce IntOp.andi x v reducesTo_S32x4_S_d0_1 h_S_) main_v23 main_c_9
  let main_v25 : IVec S_ 1 := andi main_v20 main_v24
  main_v25

def fn {F : FTy → Type} [FloatOps F] (main_arg0 : IVec S32x64 32) (main_arg1 : FVec F S32x4x8x64 .f32) (main_arg2 : FVec F S32x4x8x64 .f32) (main_arg3 : FVec F S32x4x8x64 .f32) (main_arg4 : IVec S32x4x8196 32) (main_arg5 : FVec F S1x2560x128x8x64 .f32) (main_arg6 : FVec F S1x2560x128x8x64 .f32) : IVec S_ 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 2560#32
  let main_v2 : IVec S32x64 32 := broadcastInDim S32x64 ![] bcast_S_S32x64 main_c_0
  let main_v3 : IVec S32x64 1 := cmpi .slt main_arg0 main_v2
  let main_v4 : IVec S32x64 1 := andi main_v1 main_v3
  let main_c_1 : IVec S_ 1 := constantI S_ 1 1#1
  let main_v5 : IVec S_ 1 := (fun x v => Host.reduce IntOp.andi x v reducesTo_S32x64_S_d0_1 h_S_) main_v4 main_c_1
  let main_v6 : FVec F S32x4x8x64 .f32 := Host.absf main_arg1
  let main_cst : FVec F S_ .f32 := constant S_ .f32 0x7F800000#32
  let main_v7 : FVec F S32x4x8x64 .f32 := broadcastInDim S32x4x8x64 ![] bcast_S_S32x4x8x64 main_cst
  let main_v8 : IVec S32x4x8x64 1 := cmpf .olt main_v6 main_v7
  let main_c_2 : IVec S_ 1 := constantI S_ 1 1#1
  let main_v9 : IVec S_ 1 := (fun x v => Host.reduce IntOp.andi x v reducesTo_S32x4x8x64_S_d0_1_2_3 h_S_) main_v8 main_c_2
  let main_v10 : FVec F S32x4x8x64 .f32 := Host.absf main_arg2
  let main_cst_3 : FVec F S_ .f32 := constant S_ .f32 0x7F800000#32
  let main_v11 : FVec F S32x4x8x64 .f32 := broadcastInDim S32x4x8x64 ![] bcast_S_S32x4x8x64 main_cst_3
  let main_v12 : IVec S32x4x8x64 1 := cmpf .olt main_v10 main_v11
  let main_c_4 : IVec S_ 1 := constantI S_ 1 1#1
  let main_v13 : IVec S_ 1 := (fun x v => Host.reduce IntOp.andi x v reducesTo_S32x4x8x64_S_d0_1_2_3 h_S_) main_v12 main_c_4
  let main_v14 : FVec F S1x2560x128x8x64 .f32 := Host.absf main_arg5
  let main_cst_5 : FVec F S_ .f32 := constant S_ .f32 0x7F800000#32
  let main_v15 : FVec F S1x2560x128x8x64 .f32 := broadcastInDim S1x2560x128x8x64 ![] bcast_S_S1x2560x128x8x64 main_cst_5
  fn_part1 (F := F) main_arg4 main_v5 main_v9 main_v13 main_v14 main_v15
-- ==== Pre_table_in_range.lean ====
abbrev S32x64 : Shape := ⟨2, ![32, 64]⟩
abbrev S32x4x8x64 : Shape := ⟨4, ![32, 4, 8, 64]⟩
abbrev S32x4x8196 : Shape := ⟨3, ![32, 4, 8196]⟩
abbrev S1x2560x128x8x64 : Shape := ⟨5, ![1, 2560, 128, 8, 64]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : IVec S32x64 32) (main_arg1 : FVec F S32x4x8x64 .f32) (main_arg2 : FVec F S32x4x8x64 .f32) (main_arg3 : FVec F S32x4x8x64 .f32) (main_arg4 : IVec S32x4x8196 32) (main_arg5 : FVec F S1x2560x128x8x64 .f32) (main_arg6 : FVec F S1x2560x128x8x64 .f32) : IVec S32x64 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 2560#32
  let main_v2 : IVec S32x64 32 := broadcastInDim S32x64 ![] bcast_S_S32x64 main_c_0
  let main_v3 : IVec S32x64 1 := cmpi .slt main_arg0 main_v2
  let main_v4 : IVec S32x64 1 := andi main_v1 main_v3
  main_v4
-- ==== Kernel.lean ====
abbrev S32x64 : Shape := ⟨2, ![32, 64]⟩
abbrev S32x4x8x64 : Shape := ⟨4, ![32, 4, 8, 64]⟩
abbrev S32x4x8196 : Shape := ⟨3, ![32, 4, 8196]⟩
abbrev S1x2560x128x8x64 : Shape := ⟨5, ![1, 2560, 128, 8, 64]⟩
abbrev S128x512 : Shape := ⟨2, ![128, 512]⟩
abbrev S_ : Shape := ⟨0, ![]⟩
abbrev S32x8x8320 : Shape := ⟨3, ![32, 8, 8320]⟩
abbrev S32x8x65x128 : Shape := ⟨4, ![32, 8, 65, 128]⟩
abbrev S32x65x8x128 : Shape := ⟨4, ![32, 65, 8, 128]⟩
abbrev S32x4x512 : Shape := ⟨3, ![32, 4, 512]⟩
abbrev S32x8x512 : Shape := ⟨3, ![32, 8, 512]⟩
abbrev S32x8x64x4 : Shape := ⟨4, ![32, 8, 64, 4]⟩
abbrev S32x8x64x128 : Shape := ⟨4, ![32, 8, 64, 128]⟩
abbrev S2560x128x8x64 : Shape := ⟨4, ![2560, 128, 8, 64]⟩
abbrev S2560x8x64x128 : Shape := ⟨4, ![2560, 8, 64, 128]⟩
abbrev S1x8x512 : Shape := ⟨3, ![1, 8, 512]⟩
abbrev S1x65x8x128 : Shape := ⟨4, ![1, 65, 8, 128]⟩
abbrev S1x8x64x128 : Shape := ⟨4, ![1, 8, 64, 128]⟩
abbrev S1x1 : Shape := ⟨2, ![1, 1]⟩
abbrev S8x64x1024 : Shape := ⟨3, ![8, 64, 1024]⟩
abbrev S8x8x1 : Shape := ⟨3, ![8, 8, 1]⟩
abbrev S8x512 : Shape := ⟨2, ![8, 512]⟩
abbrev S1x1x8x128 : Shape := ⟨4, ![1, 1, 8, 128]⟩
abbrev S8x128 : Shape := ⟨2, ![8, 128]⟩
abbrev S8x64 : Shape := ⟨2, ![8, 64]⟩
abbrev S1x1x64x128 : Shape := ⟨4, ![1, 1, 64, 128]⟩
abbrev S64x128 : Shape := ⟨2, ![64, 128]⟩
abbrev S1x8x1 : Shape := ⟨3, ![1, 8, 1]⟩
abbrev S8x1 : Shape := ⟨2, ![8, 1]⟩
abbrev S8 : Shape := ⟨1, ![8]⟩
abbrev S1x64x128 : Shape := ⟨3, ![1, 64, 128]⟩
abbrev S8x1024 : Shape := ⟨2, ![8, 1024]⟩
abbrev S1x64x1024 : Shape := ⟨3, ![1, 64, 1024]⟩
abbrev S64x1024 : Shape := ⟨2, ![64, 1024]⟩

abbrev nBuf : Space → Nat
  | .hbm => 43
  | .vmem => 47
  | .smem => 1
  | _ => 0

abbrev bufTy : (tb : Table) → Fin (tcTables nBuf tb) → BufTy
  | .hbm, ⟨0, _⟩ => ⟨S32x4x8x64, .f32⟩
  | .hbm, ⟨1, _⟩ => ⟨S32x4x8x64, .f32⟩
  | .hbm, ⟨2, _⟩ => ⟨S32x4x8x64, .f32⟩
  | .hbm, ⟨3, _⟩ => ⟨S32x4x8196, .i32⟩
  | .hbm, ⟨4, _⟩ => ⟨S1x2560x128x8x64, .f32⟩
  | .hbm, ⟨5, _⟩ => ⟨S1x2560x128x8x64, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S128x512, .bf16⟩
  | .hbm, ⟨11, _⟩ => ⟨S_, .i32⟩
  | .hbm, ⟨12, _⟩ => ⟨S_, .i32⟩
  | .hbm, ⟨13, _⟩ => ⟨S32x8x8320, .i32⟩
  | .hbm, ⟨14, _⟩ => ⟨S32x8x65x128, .i32⟩
  | .hbm, ⟨15, _⟩ => ⟨S32x65x8x128, .i32⟩
  | .hbm, ⟨16, _⟩ => ⟨S_, .i32⟩
  | .hbm, ⟨17, _⟩ => ⟨S32x65x8x128, .i32⟩
  | .hbm, ⟨18, _⟩ => ⟨S32x65x8x128, .i1⟩
  | .hbm, ⟨19, _⟩ => ⟨S_, .f32⟩
  | .hbm, ⟨20, _⟩ => ⟨S_, .f32⟩
  | .hbm, ⟨21, _⟩ => ⟨S32x65x8x128, .f32⟩
  | .hbm, ⟨22, _⟩ => ⟨S32x65x8x128, .f32⟩
  | .hbm, ⟨23, _⟩ => ⟨S32x65x8x128, .f32⟩
  | .hbm, ⟨24, _⟩ => ⟨S32x4x512, .bf16⟩
  | .hbm, ⟨25, _⟩ => ⟨S32x4x512, .f32⟩
  | .hbm, ⟨26, _⟩ => ⟨S_, .i32⟩
  | .hbm, ⟨27, _⟩ => ⟨S_, .f32⟩
  | .hbm, ⟨28, _⟩ => ⟨S32x8x512, .f32⟩
  | .hbm, ⟨29, _⟩ => ⟨S32x8x64x4, .f32⟩
  | .hbm, ⟨30, _⟩ => ⟨S_, .i32⟩
  | .hbm, ⟨31, _⟩ => ⟨S_, .f32⟩
  | .hbm, ⟨32, _⟩ => ⟨S32x8x64x128, .f32⟩
  | .hbm, ⟨33, _⟩ => ⟨S32x8x64x4, .f32⟩
  | .hbm, ⟨34, _⟩ => ⟨S_, .i32⟩
  | .hbm, ⟨35, _⟩ => ⟨S_, .f32⟩
  | .hbm, ⟨36, _⟩ => ⟨S32x8x64x128, .f32⟩
  | .hbm, ⟨37, _⟩ => ⟨S2560x128x8x64, .f32⟩
  | .hbm, ⟨38, _⟩ => ⟨S2560x8x64x128, .f32⟩
  | .hbm, ⟨39, _⟩ => ⟨S2560x128x8x64, .f32⟩
  | .hbm, ⟨40, _⟩ => ⟨S2560x8x64x128, .f32⟩
  | .hbm, ⟨41, _⟩ => ⟨S32x8x512, .f32⟩
  | .hbm, ⟨42, _⟩ => ⟨S32x4x512, .f32⟩
  | .local _ .vmem, ⟨0, _⟩ => ⟨S1x8x512, .f32⟩
  | .local _ .vmem, ⟨1, _⟩ => ⟨S1x8x512, .f32⟩
  | .local _ .vmem, ⟨2, _⟩ => ⟨S1x65x8x128, .f32⟩
  | .local _ .vmem, ⟨3, _⟩ => ⟨S1x65x8x128, .f32⟩
  | .local _ .vmem, ⟨4, _⟩ => ⟨S1x8x64x128, .f32⟩
  | .local _ .vmem, ⟨5, _⟩ => ⟨S1x8x64x128, .f32⟩
  | .local _ .vmem, ⟨6, _⟩ => ⟨S1x8x64x128, .f32⟩
  | .local _ .vmem, ⟨7, _⟩ => ⟨S1x8x64x128, .f32⟩
  | .local _ .vmem, ⟨8, _⟩ => ⟨S1x8x64x128, .f32⟩
  | .local _ .vmem, ⟨9, _⟩ => ⟨S1x8x64x128, .f32⟩
  | .local _ .vmem, ⟨10, _⟩ => ⟨S1x8x64x128, .f32⟩
  | .local _ .vmem, ⟨11, _⟩ => ⟨S1x8x64x128, .f32⟩
  | .local _ .vmem, ⟨12, _⟩ => ⟨S1x8x64x128, .f32⟩
  | .local _ .vmem, ⟨13, _⟩ => ⟨S1x8x64x128, .f32⟩
  | .local _ .vmem, ⟨14, _⟩ => ⟨S1x8x64x128, .f32⟩
  | .local _ .vmem, ⟨15, _⟩ => ⟨S1x8x64x128, .f32⟩
  | .local _ .vmem, ⟨16, _⟩ => ⟨S1x8x64x128, .f32⟩
  | .local _ .vmem, ⟨17, _⟩ => ⟨S1x8x64x128, .f32⟩
  | .local _ .vmem, ⟨18, _⟩ => ⟨S1x8x64x128, .f32⟩
  | .local _ .vmem, ⟨19, _⟩ => ⟨S1x8x64x128, .f32⟩
  | .local _ .vmem, ⟨20, _⟩ => ⟨S1x8x64x128, .f32⟩
  | .local _ .vmem, ⟨21, _⟩ => ⟨S1x8x64x128, .f32⟩
  | .local _ .vmem, ⟨22, _⟩ => ⟨S1x8x64x128, .f32⟩
  | .local _ .vmem, ⟨23, _⟩ => ⟨S1x8x64x128, .f32⟩
  | .local _ .vmem, ⟨24, _⟩ => ⟨S1x8x64x128, .f32⟩
  | .local _ .vmem, ⟨25, _⟩ => ⟨S1x8x64x128, .f32⟩
  | .local _ .vmem, ⟨26, _⟩ => ⟨S1x8x64x128, .f32⟩
  | .local _ .vmem, ⟨27, _⟩ => ⟨S1x8x64x128, .f32⟩
  | .local _ .vmem, ⟨28, _⟩ => ⟨S1x8x64x128, .f32⟩
  | .local _ .vmem, ⟨29, _⟩ => ⟨S1x8x64x128, .f32⟩
  | .local _ .vmem, ⟨30, _⟩ => ⟨S1x8x64x128, .f32⟩
  | .local _ .vmem, ⟨31, _⟩ => ⟨S1x8x64x128, .f32⟩
  | .local _ .vmem, ⟨32, _⟩ => ⟨S1x8x64x128, .f32⟩
  | .local _ .vmem, ⟨33, _⟩ => ⟨S1x8x64x128, .f32⟩
  | .local _ .vmem, ⟨34, _⟩ => ⟨S1x8x64x128, .f32⟩
  | .local _ .vmem, ⟨35, _⟩ => ⟨S1x8x64x128, .f32⟩
  | .local _ .vmem, ⟨36, _⟩ => ⟨S1x8x64x128, .f32⟩
  | .local _ .vmem, ⟨37, _⟩ => ⟨S1x8x64x128, .f32⟩
  | .local _ .vmem, ⟨38, _⟩ => ⟨S1x8x64x128, .f32⟩
  | .local _ .vmem, ⟨39, _⟩ => ⟨S1x8x64x128, .f32⟩
  | .local _ .vmem, ⟨40, _⟩ => ⟨S1x8x512, .f32⟩
  | .local _ .vmem, ⟨41, _⟩ => ⟨S1x8x512, .f32⟩
  | .local _ .vmem, ⟨42, _⟩ => ⟨S8x64x1024, .bf16⟩
  | .local _ .vmem, ⟨43, _⟩ => ⟨S8x64x1024, .bf16⟩
  | .local _ .vmem, ⟨44, _⟩ => ⟨S8x8x1, .f32⟩
  | .local _ .vmem, ⟨45, _⟩ => ⟨S8x8x1, .f32⟩
  | .local _ .vmem, ⟨46, _⟩ => ⟨S8x512, .f32⟩
  | .local _ .smem, ⟨0, _⟩ => ⟨S32x64, .i32⟩
  | _, _ => ⟨S32x4x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_call2_v0 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_call3_v0 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_call4_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def k0_off2 (i : grid0.Coords) (c0_i32_885 : BitVec 32) : Fin 4 → Nat :=
  let c0_886 : Index := 0#32
  let arg1 : BitVec 32 := BitVec.ofNat 32 (i 1).val
  let c8_i32 : BitVec 32 := 8#32
  let v774 : BitVec 32 := Scalar.muli arg1 c8_i32
  let v775 : BitVec 32 := Scalar.addi v774 c0_i32_885
  let v776 : Index := Scalar.indexCast v775
  let c0_887 : Index := 0#32
  let c0_888 : Index := 0#32
  ![0, v776.toNat, 0, 0]
def k0_cond2 (i : grid0.Coords) : BitVec 1 :=
  let arg1 : BitVec 32 := BitVec.ofNat 32 (i 1).val
  let c7_i32_1120 : BitVec 32 := 7#32
  let v1119 : BitVec 1 := Scalar.cmpi .eq arg1 c7_i32_1120
  let v1120 : BitVec 32 := Scalar.extui v1119
  let c0_i32_1121 : BitVec 32 := 0#32
  let v1121 : BitVec 1 := Scalar.cmpi .ne v1120 c0_i32_1121
  v1121

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![v4.toNat, c0_i32_0.toNat, c0_i32_1.toNat, c0_i32_2.toNat]

def cc0_transform_5 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_6 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_7 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_8 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_9 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_10 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_11 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_12 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![v4.toNat, c0_i32_0.toNat, c0_i32_1.toNat, c0_i32_2.toNat]

def cc0_transform_13 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_14 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_15 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_16 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_17 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_18 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_19 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x65x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== ReferenceIdeal.lean ====
abbrev S32x64 : Shape := ⟨2, ![32, 64]⟩
abbrev S32x4x8x64 : Shape := ⟨4, ![32, 4, 8, 64]⟩
abbrev S32x4x8196 : Shape := ⟨3, ![32, 4, 8196]⟩
abbrev S1x2560x128x8x64 : Shape := ⟨5, ![1, 2560, 128, 8, 64]⟩
abbrev S_ : Shape := ⟨0, ![]⟩
abbrev S32x64x1 : Shape := ⟨3, ![32, 64, 1]⟩
abbrev S32x64x2 : Shape := ⟨3, ![32, 64, 2]⟩
abbrev S32x64x128x8x64 : Shape := ⟨5, ![32, 64, 128, 8, 64]⟩
abbrev S32x8192x8x64 : Shape := ⟨4, ![32, 8192, 8, 64]⟩
abbrev S32x8196x8x64 : Shape := ⟨4, ![32, 8196, 8, 64]⟩
abbrev S32x8x8196x4 : Shape := ⟨4, ![32, 8, 8196, 4]⟩
abbrev S32x4x8x8196 : Shape := ⟨4, ![32, 4, 8, 8196]⟩
abbrev S32x4x1x8196 : Shape := ⟨4, ![32, 4, 1, 8196]⟩
abbrev S32x4x8 : Shape := ⟨3, ![32, 4, 8]⟩
abbrev S32x4x8x1 : Shape := ⟨4, ![32, 4, 8, 1]⟩
abbrev S32x8x64x4 : Shape := ⟨4, ![32, 8, 64, 4]⟩
abbrev S32x4x512 : Shape := ⟨3, ![32, 4, 512]⟩

abbrev nBuf : Space → Nat
  | .hbm => 70
  | .vmem => 0
  | .smem => 0
  | _ => 0

abbrev bufTy : (tb : Table) → Fin (tcTables nBuf tb) → BufTy
  | .hbm, ⟨0, _⟩ => ⟨S32x64, .i32⟩
  | .hbm, ⟨1, _⟩ => ⟨S32x4x8x64, .f32⟩
  | .hbm, ⟨2, _⟩ => ⟨S32x4x8x64, .f32⟩
  | .hbm, ⟨3, _⟩ => ⟨S32x4x8x64, .f32⟩
  | .hbm, ⟨4, _⟩ => ⟨S32x4x8196, .i32⟩
  | .hbm, ⟨5, _⟩ => ⟨S1x2560x128x8x64, .f32⟩
  | .hbm, ⟨6, _⟩ => ⟨S1x2560x128x8x64, .f32⟩
  | .hbm, ⟨7, _⟩ => ⟨S_, .i32⟩
  | .hbm, ⟨8, _⟩ => ⟨S32x64, .i32⟩
  | .hbm, ⟨9, _⟩ => ⟨S32x64, .i1⟩
  | .hbm, ⟨10, _⟩ => ⟨S_, .i32⟩
  | .hbm, ⟨11, _⟩ => ⟨S32x64, .i32⟩
  | .hbm, ⟨12, _⟩ => ⟨S32x64, .i32⟩
  | .hbm, ⟨13, _⟩ => ⟨S32x64, .i32⟩
  | .hbm, ⟨14, _⟩ => ⟨S_, .i32⟩
  | .hbm, ⟨15, _⟩ => ⟨S32x64, .i32⟩
  | .hbm, ⟨16, _⟩ => ⟨S32x64, .i32⟩
  | .hbm, ⟨17, _⟩ => ⟨S32x64x1, .i32⟩
  | .hbm, ⟨18, _⟩ => ⟨S32x64x1, .i32⟩
  | .hbm, ⟨19, _⟩ => ⟨S32x64x2, .i32⟩
  | .hbm, ⟨20, _⟩ => ⟨S32x64x128x8x64, .f32⟩
  | .hbm, ⟨21, _⟩ => ⟨S32x8192x8x64, .f32⟩
  | .hbm, ⟨22, _⟩ => ⟨S32x8196x8x64, .f32⟩
  | .hbm, ⟨23, _⟩ => ⟨S_, .i32⟩
  | .hbm, ⟨24, _⟩ => ⟨S32x64, .i32⟩
  | .hbm, ⟨25, _⟩ => ⟨S32x64, .i1⟩
  | .hbm, ⟨26, _⟩ => ⟨S_, .i32⟩
  | .hbm, ⟨27, _⟩ => ⟨S32x64, .i32⟩
  | .hbm, ⟨28, _⟩ => ⟨S32x64, .i32⟩
  | .hbm, ⟨29, _⟩ => ⟨S32x64, .i32⟩
  | .hbm, ⟨30, _⟩ => ⟨S_, .i32⟩
  | .hbm, ⟨31, _⟩ => ⟨S32x64, .i32⟩
  | .hbm, ⟨32, _⟩ => ⟨S32x64, .i32⟩
  | .hbm, ⟨33, _⟩ => ⟨S32x64x1, .i32⟩
  | .hbm, ⟨34, _⟩ => ⟨S32x64x1, .i32⟩
  | .hbm, ⟨35, _⟩ => ⟨S32x64x2, .i32⟩
  | .hbm, ⟨36, _⟩ => ⟨S32x64x128x8x64, .f32⟩
  | .hbm, ⟨37, _⟩ => ⟨S32x8192x8x64, .f32⟩
  | .hbm, ⟨38, _⟩ => ⟨S32x8196x8x64, .f32⟩
  | .hbm, ⟨39, _⟩ => ⟨S32x8x8196x4, .f32⟩
  | .hbm, ⟨40, _⟩ => ⟨S32x4x8x8196, .f32⟩
  | .hbm, ⟨41, _⟩ => ⟨S_, .f32⟩
  | .hbm, ⟨42, _⟩ => ⟨S32x4x8x8196, .f32⟩
  | .hbm, ⟨43, _⟩ => ⟨S32x4x8x8196, .f32⟩
  | .hbm, ⟨44, _⟩ => ⟨S32x4x1x8196, .i32⟩
  | .hbm, ⟨45, _⟩ => ⟨S_, .i32⟩
  | .hbm, ⟨46, _⟩ => ⟨S32x4x1x8196, .i32⟩
  | .hbm, ⟨47, _⟩ => ⟨S32x4x1x8196, .i1⟩
  | .hbm, ⟨48, _⟩ => ⟨S_, .f32⟩
  | .hbm, ⟨49, _⟩ => ⟨S_, .f32⟩
  | .hbm, ⟨50, _⟩ => ⟨S32x4x8x8196, .i1⟩
  | .hbm, ⟨51, _⟩ => ⟨S32x4x8x8196, .f32⟩
  | .hbm, ⟨52, _⟩ => ⟨S32x4x8x8196, .f32⟩
  | .hbm, ⟨53, _⟩ => ⟨S_, .f32⟩
  | .hbm, ⟨54, _⟩ => ⟨S32x4x8, .f32⟩
  | .hbm, ⟨55, _⟩ => ⟨S_, .f32⟩
  | .hbm, ⟨56, _⟩ => ⟨S32x4x8, .f32⟩
  | .hbm, ⟨57, _⟩ => ⟨S32x4x8, .f32⟩
  | .hbm, ⟨58, _⟩ => ⟨S32x4x8x1, .f32⟩
  | .hbm, ⟨59, _⟩ => ⟨S32x4x8x8196, .f32⟩
  | .hbm, ⟨60, _⟩ => ⟨S32x4x8x8196, .f32⟩
  | .hbm, ⟨61, _⟩ => ⟨S32x4x8x8196, .f32⟩
  | .hbm, ⟨62, _⟩ => ⟨S_, .f32⟩
  | .hbm, ⟨63, _⟩ => ⟨S32x4x8, .f32⟩
  | .hbm, ⟨64, _⟩ => ⟨S32x4x8x1, .f32⟩
  | .hbm, ⟨65, _⟩ => ⟨S32x4x8x8196, .f32⟩
  | .hbm, ⟨66, _⟩ => ⟨S32x4x8x8196, .f32⟩
  | .hbm, ⟨67, _⟩ => ⟨S32x8x64x4, .f32⟩
  | .hbm, ⟨68, _⟩ => ⟨S32x4x8x64, .f32⟩
  | .hbm, ⟨69, _⟩ => ⟨S32x4x512, .f32⟩
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Finish.lean ====
abbrev S2x8192x1024 : Shape := ⟨3, ![2, 8192, 1024]⟩
abbrev S2x8192x512 : Shape := ⟨3, ![2, 8192, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S4x128x128 : Shape := ⟨3, ![4, 128, 128]⟩
abbrev S1024x1024 : Shape := ⟨2, ![1024, 1024]⟩
abbrev S1024x4096 : Shape := ⟨2, ![1024, 4096]⟩
abbrev S4096x1024 : Shape := ⟨2, ![4096, 1024]⟩
abbrev S512 : Shape := ⟨1, ![512]⟩
abbrev S16384x1024 : Shape := ⟨2, ![16384, 1024]⟩
abbrev S16384x512 : Shape := ⟨2, ![16384, 512]⟩
abbrev S256x1024 : Shape := ⟨2, ![256, 1024]⟩
abbrev S256x512 : Shape := ⟨2, ![256, 512]⟩
abbrev S256x128 : Shape := ⟨2, ![256, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩

abbrev nBuf : Space → Nat
  | .hbm => 29
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S4x128x128, .f32⟩
  | .hbm, ⟨11, _⟩ => ⟨S4x128x128, .bf16⟩
  | .hbm, ⟨12, _⟩ => ⟨S1024x1024, .f32⟩
  | .hbm, ⟨13, _⟩ => ⟨S1024x1024, .bf16⟩
  | .hbm, ⟨14, _⟩ => ⟨S1024x4096, .f32⟩
  | .hbm, ⟨15, _⟩ => ⟨S1024x4096, .bf16⟩
  | .hbm, ⟨16, _⟩ => ⟨S4096x1024, .f32⟩
  | .hbm, ⟨17, _⟩ => ⟨S4096x1024, .bf16⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S512, .f32⟩
  | .hbm, ⟨22, _⟩ => ⟨S1x512, .f32⟩
  | .hbm, ⟨23, _⟩ => ⟨S16384x1024, .f32⟩
  | .hbm, ⟨24, _⟩ => ⟨S16384x512, .f32⟩
  | .hbm, ⟨25, _⟩ => ⟨S16384x512, .bf16⟩
  | .hbm, ⟨26, _⟩ => ⟨S16384x512, .f32⟩
  | .hbm, ⟨27, _⟩ => ⟨S16384x512, .bf16⟩
  | .hbm, ⟨28, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S4x128x128, .bf16⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FinishRefIdeal.lean ====
abbrev S2x8192x1024 : Shape := ⟨3, ![2, 8192, 1024]⟩
abbrev S2x8192x512 : Shape := ⟨3, ![2, 8192, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S2x8192x128 : Shape := ⟨3, ![2, 8192, 128]⟩
abbrev S1x1x128x128 : Shape := ⟨4, ![1, 1, 128, 128]⟩
abbrev S128x128 : Shape := ⟨2, ![128, 128]⟩
abbrev S512 : Shape := ⟨1, ![512]⟩
abbrev S1x1x512 : Shape := ⟨3, ![1, 1, 512]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S4096x1024 : Shape := ⟨2, ![4096, 1024]⟩
abbrev S16384x1024 : Shape := ⟨2, ![16384, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S2x8192x128, .f32⟩
  | .hbm, ⟨11, _⟩ => ⟨S1x1x128x128, .f32⟩
  | .hbm, ⟨12, _⟩ => ⟨S128x128, .f32⟩
  | .hbm, ⟨13, _⟩ => ⟨S2x8192x128, .f32⟩
  | .hbm, ⟨14, _⟩ => ⟨S2x8192x128, .f32⟩
  | .hbm, ⟨15, _⟩ => ⟨S1x1x128x128, .f32⟩
  | .hbm, ⟨16, _⟩ => ⟨S128x128, .f32⟩
  | .hbm, ⟨17, _⟩ => ⟨S2x8192x128, .f32⟩
  | .hbm, ⟨18, _⟩ => ⟨S2x8192x128, .f32⟩
  | .hbm, ⟨19, _⟩ => ⟨S1x1x128x128, .f32⟩
  | .hbm, ⟨20, _⟩ => ⟨S128x128, .f32⟩
  | .hbm, ⟨21, _⟩ => ⟨S2x8192x128, .f32⟩
  | .hbm, ⟨22, _⟩ => ⟨S2x8192x128, .f32⟩
  | .hbm, ⟨23, _⟩ => ⟨S1x1x128x128, .f32⟩
  | .hbm, ⟨24, _⟩ => ⟨S128x128, .f32⟩
  | .hbm, ⟨25, _⟩ => ⟨S2x8192x128, .f32⟩
  | .hbm, ⟨26, _⟩ => ⟨S2x8192x512, .f32⟩
  | .hbm, ⟨27, _⟩ => ⟨S512, .f32⟩
  | .hbm, ⟨28, _⟩ => ⟨S1x1x512, .f32⟩
  | .hbm, ⟨29, _⟩ => ⟨S2x8192x512, .f32⟩
  | .hbm, ⟨30, _⟩ => ⟨S2x8192x512, .f32⟩
  | .hbm, ⟨31, _⟩ => ⟨S2x8192x1024, .f32⟩
  | .hbm, ⟨32, _⟩ => ⟨S1024x1024, .f32⟩
  | .hbm, ⟨33, _⟩ => ⟨S2x8192x1024, .f32⟩
  | .hbm, ⟨34, _⟩ => ⟨S2x8192x1024, .f32⟩
  | .hbm, ⟨35, _⟩ => ⟨S1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S1024x4096, .f32⟩
  | .hbm, ⟨53, _⟩ => ⟨S2x8192x4096, .f32⟩
  | .hbm, ⟨54, _⟩ => ⟨S_, .f32⟩
  | .hbm, ⟨55, _⟩ => ⟨S2x8192x4096, .f32⟩
  | .hbm, ⟨56, _⟩ => ⟨S2x8192x4096, .f32⟩
  | .hbm, ⟨57, _⟩ => ⟨S2x8192x4096, .f32⟩
  | .hbm, ⟨58, _⟩ => ⟨S4096x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x1024, .f32⟩
  | .hbm, ⟨73, _⟩ => ⟨S2x8192x1024, .f32⟩
  | .hbm, ⟨74, _⟩ => ⟨S1x1x1024, .f32⟩
  | .hbm, ⟨75, _⟩ => ⟨S2x8192x1024, .f32⟩
  | .hbm, ⟨76, _⟩ => ⟨S2x8192x1024, .f32⟩
  | .hbm, ⟨77, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_cst : Ref sig .tc := ⟨.hbm, 54, rfl⟩
abbrev main_call0_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_2 : Ref sig .tc := ⟨.hbm, 62, rfl⟩
abbrev main_v47 : Ref sig .tc := ⟨.hbm, 63, rfl⟩
abbrev main_v48 : Ref sig .tc := ⟨.hbm, 64, rfl⟩
abbrev main_cst_3 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Proj.lean ====
abbrev S2x8192x1024 : Shape := ⟨3, ![2, 8192, 1024]⟩
abbrev S1x1024 : Shape := ⟨2, ![1, 1024]⟩
abbrev S1x1024x2372 : Shape := ⟨3, ![1, 1024, 2372]⟩
abbrev S1024x2372 : Shape := ⟨2, ![1024, 2372]⟩
abbrev S_ : Shape := ⟨0, ![]⟩
abbrev S1024x2432 : Shape := ⟨2, ![1024, 2432]⟩
abbrev S1024 : Shape := ⟨1, ![1024]⟩
abbrev S16384x1024 : Shape := ⟨2, ![16384, 1024]⟩
abbrev S16384x512 : Shape := ⟨2, ![16384, 512]⟩
abbrev S2x512x8192 : Shape := ⟨3, ![2, 512, 8192]⟩
abbrev S2x64x8192 : Shape := ⟨3, ![2, 64, 8192]⟩
abbrev S16384x64 : Shape := ⟨2, ![16384, 64]⟩
abbrev S32x512x512 : Shape := ⟨3, ![32, 512, 512]⟩
abbrev S32x256x512 : Shape := ⟨3, ![32, 256, 512]⟩
abbrev S32x576x512 : Shape := ⟨3, ![32, 576, 512]⟩
abbrev S32x128x512 : Shape := ⟨3, ![32, 128, 512]⟩
abbrev S512x1024 : Shape := ⟨2, ![512, 1024]⟩
abbrev S512x512 : Shape := ⟨2, ![512, 512]⟩
abbrev S1x512x512 : Shape := ⟨3, ![1, 512, 512]⟩
abbrev S1x64x512 : Shape := ⟨3, ![1, 64, 512]⟩
abbrev S512x64 : Shape := ⟨2, ![512, 64]⟩
abbrev S1x256x512 : Shape := ⟨3, ![1, 256, 512]⟩
abbrev S1x576x512 : Shape := ⟨3, ![1, 576, 512]⟩
abbrev S1x128x512 : Shape := ⟨3, ![1, 128, 512]⟩
abbrev S512 : Shape := ⟨1, ![512]⟩
abbrev S512x1 : Shape := ⟨2, ![512, 1]⟩
abbrev S512x2432 : Shape := ⟨2, ![512, 2432]⟩
abbrev S512x256 : Shape := ⟨2, ![512, 256]⟩
abbrev S512x128 : Shape := ⟨2, ![512, 128]⟩
abbrev S128x512 : Shape := ⟨2, ![128, 512]⟩
abbrev S64x512 : Shape := ⟨2, ![64, 512]⟩
abbrev S256x512 : Shape := ⟨2, ![256, 512]⟩
abbrev S16x512 : Shape := ⟨2, ![16, 512]⟩
abbrev S576x512 : Shape := ⟨2, ![576, 512]⟩

abbrev nBuf : Space → Nat
  | .hbm => 21
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2372, .f32⟩
  | .hbm, ⟨3, _⟩ => ⟨S1024x2372, .f32⟩
  | .hbm, ⟨4, _⟩ => ⟨S_, .i32⟩
  | .hbm, ⟨5, _⟩ => ⟨S_, .f32⟩
  | .hbm, ⟨6, _⟩ => ⟨S1024x2432, .f32⟩
  | .hbm, ⟨7, _⟩ => ⟨S1024x2432, .bf16⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x512, .f32⟩
  | .hbm, ⟨12, _⟩ => ⟨S2x512x8192, .f32⟩
  | .hbm, ⟨13, _⟩ => ⟨S2x512x8192, .f32⟩
  | .hbm, ⟨14, _⟩ => ⟨S2x64x8192, .f32⟩
  | .hbm, ⟨15, _⟩ => ⟨S16384x512, .bf16⟩
  | .hbm, ⟨16, _⟩ => ⟨S16384x64, .bf16⟩
  | .hbm, ⟨17, _⟩ => ⟨S32x512x512, .bf16⟩
  | .hbm, ⟨18, _⟩ => ⟨S32x256x512, .bf16⟩
  | .hbm, ⟨19, _⟩ => ⟨S32x576x512, .bf16⟩
  | .hbm, ⟨20, _⟩ => ⟨S32x128x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x512, .f32⟩
  | .local _ .vmem, ⟨5, _⟩ => ⟨S512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x64x512, .f32⟩
  | .local _ .vmem, ⟨11, _⟩ => ⟨S1x64x512, .f32⟩
  | .local _ .vmem, ⟨12, _⟩ => ⟨S512x512, .bf16⟩
  | .local _ .vmem, ⟨13, _⟩ => ⟨S512x512, .bf16⟩
  | .local _ .vmem, ⟨14, _⟩ => ⟨S512x64, .bf16⟩
  | .local _ .vmem, ⟨15, _⟩ => ⟨S512x64, .bf16⟩
  | .local _ .vmem, ⟨16, _⟩ => ⟨S1x512x512, .bf16⟩
  | .local _ .vmem, ⟨17, _⟩ => ⟨S1x512x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x576x512, .bf16⟩
  | .local _ .vmem, ⟨21, _⟩ => ⟨S1x576x512, .bf16⟩
  | .local _ .vmem, ⟨22, _⟩ => ⟨S1x128x512, .f32⟩
  | .local _ .vmem, ⟨23, _⟩ => ⟨S1x128x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev main_v6_7 : Ref sig .tc := ⟨.hbm, 18, rfl⟩
abbrev main_v6_8 : Ref sig .tc := ⟨.hbm, 19, rfl⟩
abbrev main_v6_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x576x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S2x8192x1024 : Shape := ⟨3, ![2, 8192, 1024]⟩
abbrev S1x1024 : Shape := ⟨2, ![1, 1024]⟩
abbrev S1x1024x2372 : Shape := ⟨3, ![1, 1024, 2372]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2372 : Shape := ⟨2, ![1024, 2372]⟩
abbrev S2x8192x2372 : Shape := ⟨3, ![2, 8192, 2372]⟩
abbrev S2x8192x512 : Shape := ⟨3, ![2, 8192, 512]⟩
abbrev S2x8192x64 : Shape := ⟨3, ![2, 8192, 64]⟩
abbrev S16384x512 : Shape := ⟨2, ![16384, 512]⟩
abbrev S2x512x8192 : Shape := ⟨3, ![2, 512, 8192]⟩
abbrev S2x64x8192 : Shape := ⟨3, ![2, 64, 8192]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2372, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x2372, .f32⟩
  | .hbm, ⟨21, _⟩ => ⟨S2x8192x2372, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x64, .f32⟩
  | .hbm, ⟨26, _⟩ => ⟨S16384x512, .f32⟩
  | .hbm, ⟨27, _⟩ => ⟨S2x512x8192, .f32⟩
  | .hbm, ⟨28, _⟩ => ⟨S2x512x8192, .f32⟩
  | .hbm, ⟨29, _⟩ => ⟨S2x64x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.AttnArr.lean ====
/-
  What the host lays out in front of the sample attention, read at an index: the scaled queries, the bias (0 on a kept key,
  −∞ elsewhere), the new keys and values and the page caches, the tokens on the last axis.
-/
module

public import proofs.«01_k».proof.Proof.Gen.KernelIdeal.Frame.Runs
public import Idealize.ShloMosaic.Lib.StableHlo.Run
public import Idealize.ShloMosaic.Lib.Pipeline.Value
public import Idealize.ShloMosaic.Lib.KernelVsHost
public import Idealize.ShloMosaic.Lib.Pointwise

@[expose] public section

set_option maxRecDepth 16384

noncomputable section

namespace Cert.KernelIdeal.AttnArr

open Cert.KernelIdeal Cert.KernelIdeal.Gen Idealize.ShloMosaic Idealize.ShloMosaic.TcCoe

variable (m : (ℓ : Loc nD τ sig) → Buf (Elt Ideal) ℓ) (c : Dev nD)

/-- The queries' scale. -/
abbrev scale : EReal := Ideal.ofBits .f32 0x3E000000#32

/-- The arguments, and the laid-out arrays, as functions of an index. -/
abbrev argQ : S32x4x8x64.Idx → EReal := m ((c : Thread nD τ).loc main_arg1)
abbrev argK : S32x4x8x64.Idx → EReal := m ((c : Thread nD τ).loc main_arg2)
abbrev argV : S32x4x8x64.Idx → EReal := m ((c : Thread nD τ).loc main_arg3)
abbrev argKeep : S32x4x8196.Idx → BitVec 32 := m ((c : Thread nD τ).loc main_arg4)
abbrev argCK : S1x2560x128x8x64.Idx → EReal := m ((c : Thread nD τ).loc main_arg5)
abbrev argCV : S1x2560x128x8x64.Idx → EReal := m ((c : Thread nD τ).loc main_arg6)
abbrev laidQ : S32x8x512.Idx → EReal := V m c main_v12
abbrev laidB : S32x65x8x128.Idx → EReal := V m c main_v9
abbrev laidK : S32x8x64x128.Idx → EReal := V m c main_v14
abbrev laidV : S32x8x64x128.Idx → EReal := V m c main_v16
abbrev laidCK : S2560x8x64x128.Idx → EReal := V m c main_v18
abbrev laidCV : S2560x8x64x128.Idx → EReal := V m c main_v20

theorem v12_eq : V m c main_v12 = pad S32x8x512 ![0, 0, 0] ![0, 4, 0] ![0, 0, 0]
    (shapeCast S32x4x512 (fun i : S128x512.Idx => shapeCast S128x512 (argQ m c) shapeCasts_S32x4x8x64_S128x512 i * scale)
      shapeCasts_S128x512_S32x4x512) (fun _ : S_.Idx => (Scalar.sitofp .f32 0#32 : Ideal .f32)) pads_S32x4x512_S32x8x512_000_040_000 h_S_ := by
  show StableHlo.after _ (fun b => m (c, b)) (Proc.devRef .tc main_v12) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem v12_apply (b : Fin 32) (r : Fin 4) (h : Fin 8) (d : Fin 64) :
    laidQ m c (ix3 b ⟨r, by omega⟩ ⟨64 * h + d, by omega⟩)
      = argQ m c (ix4 b r h d) * scale := by
  rw [show laidQ m c = _ from v12_eq m c]
  refine (pad_apply_of_inside _ _ _ _ _ _ _ _ (ix3 b r ⟨64 * h + d, by omega⟩ : S32x4x512.Idx) fun a => ?_).trans ?_
  · match a with
    | ⟨0, _⟩ => show (b : Nat) = 0 + b * 1; omega
    | ⟨1, _⟩ => show (r : Nat) = 0 + r * 1; omega
    | ⟨2, _⟩ => show 64 * (h : Nat) + d = 0 + (64 * h + d) * 1; omega
  refine (shapeCast_apply _ _ _ (ix2 ⟨4 * b + r, by omega⟩ ⟨64 * h + d, by omega⟩ : S128x512.Idx) (by
    rewrite [Shape.rowMajor_val_two, Shape.rowMajor_val_three]
    show (4 * (b : Nat) + r) * 512 + (64 * h + d) = (b * 4 + r) * 512 + (64 * h + d)
    omega)).trans ?_
  refine congrArg (· * scale) (shapeCast_apply _ _ _ (ix4 b r h d : S32x4x8x64.Idx) (by
    rewrite [Shape.rowMajor_val_two, Shape.rowMajor_val_four]
    show (((b : Nat) * 4 + r) * 8 + h) * 64 + d = (4 * b + r) * 512 + (64 * h + d)
    omega))

theorem v14_eq : V m c main_v14 = pad S32x8x64x128 ![0, 0, 0, 0] ![0, 0, 0, 124] ![0, 0, 0, 0]
    (transpose S32x8x64x4 [0, 2, 3, 1] (m ((c : Thread nD τ).loc main_arg2)) transposes_S32x4x8x64_S32x8x64x4_0_2_3_1)
      (fun _ : S_.Idx => (Scalar.sitofp .f32 0#32 : Ideal .f32)) pads_S32x8x64x4_S32x8x64x128_000_000_000_01240 h_S_ := by
  show StableHlo.after _ (fun b => m (c, b)) (Proc.devRef .tc main_v14) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem v16_eq : V m c main_v16 = pad S32x8x64x128 ![0, 0, 0, 0] ![0, 0, 0, 124] ![0, 0, 0, 0]
    (transpose S32x8x64x4 [0, 2, 3, 1] (m ((c : Thread nD τ).loc main_arg3)) transposes_S32x4x8x64_S32x8x64x4_0_2_3_1)
      (fun _ : S_.Idx => (Scalar.sitofp .f32 0#32 : Ideal .f32)) pads_S32x8x64x4_S32x8x64x128_000_000_000_01240 h_S_ := by
  show StableHlo.after _ (fun b => m (c, b)) (Proc.devRef .tc main_v16) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-- The padded transpose read on a new row. -/
theorem padded_apply (x : S32x4x8x64.Idx → EReal) (z : S_.Idx → EReal) (b : Fin 32) (h : Fin 8) (d : Fin 64) (k : Fin 4) :
    pad S32x8x64x128 ![0, 0, 0, 0] ![0, 0, 0, 124] ![0, 0, 0, 0] (transpose S32x8x64x4 [0, 2, 3, 1] x transposes_S32x4x8x64_S32x8x64x4_0_2_3_1)
      z pads_S32x8x64x4_S32x8x64x128_000_000_000_01240 h_S_ (ix4 b h d ⟨k, by omega⟩) = x (ix4 b k h d) := by
  refine (pad_apply_of_inside _ _ _ _ _ _ _ _ (ix4 b h d k : S32x8x64x4.Idx) fun a => ?_).trans ?_
  · match a with
    | ⟨0, _⟩ => show (b : Nat) = 0 + b * 1; omega
    | ⟨1, _⟩ => show (h : Nat) = 0 + h * 1; omega
    | ⟨2, _⟩ => show (d : Nat) = 0 + d * 1; omega
    | ⟨3, _⟩ => show (k : Nat) = 0 + k * 1; omega
  exact transpose_apply _ _ _ _ (ix4 b k h d : S32x4x8x64.Idx) fun a => by
    match a with
    | ⟨0, _⟩ => rfl
    | ⟨1, _⟩ => rfl
    | ⟨2, _⟩ => rfl
    | ⟨3, _⟩ => rfl

theorem v14_apply (b : Fin 32) (h : Fin 8) (d : Fin 64) (k : Fin 4) :
    laidK m c (ix4 b h d ⟨k, by omega⟩) = argK m c (ix4 b k h d) := by
  rw [show laidK m c = _ from v14_eq m c]; exact padded_apply _ _ b h d k

theorem v16_apply (b : Fin 32) (h : Fin 8) (d : Fin 64) (k : Fin 4) :
    laidV m c (ix4 b h d ⟨k, by omega⟩) = argV m c (ix4 b k h d) := by
  rw [show laidV m c = _ from v16_eq m c]; exact padded_apply _ _ b h d k

theorem v18_eq : V m c main_v18 = transpose S2560x8x64x128 [0, 2, 3, 1] (shapeCast S2560x128x8x64 (m ((c : Thread nD τ).loc main_arg5)) shapeCasts_S1x2560x128x8x64_S2560x128x8x64)
    transposes_S2560x128x8x64_S2560x8x64x128_0_2_3_1 := by
  show StableHlo.after _ (fun b => m (c, b)) (Proc.devRef .tc main_v18) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem v20_eq : V m c main_v20 = transpose S2560x8x64x128 [0, 2, 3, 1] (shapeCast S2560x128x8x64 (m ((c : Thread nD τ).loc main_arg6)) shapeCasts_S1x2560x128x8x64_S2560x128x8x64)
    transposes_S2560x128x8x64_S2560x8x64x128_0_2_3_1 := by
  show StableHlo.after _ (fun b => m (c, b)) (Proc.devRef .tc main_v20) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-- The transposed cache read at an index. -/
theorem cache_apply (x : S1x2560x128x8x64.Idx → EReal) (p : Fin 2560) (h : Fin 8) (d : Fin 64) (k : Fin 128) :
    transpose S2560x8x64x128 [0, 2, 3, 1] (shapeCast S2560x128x8x64 x shapeCasts_S1x2560x128x8x64_S2560x128x8x64)
      transposes_S2560x128x8x64_S2560x8x64x128_0_2_3_1 (ix4 p h d k) = x (ix5 0 p k h d) := by
  refine (transpose_apply _ _ _ _ (ix4 p k h d : S2560x128x8x64.Idx) fun a => by
    match a with
    | ⟨0, _⟩ => rfl
    | ⟨1, _⟩ => rfl
    | ⟨2, _⟩ => rfl
    | ⟨3, _⟩ => rfl).trans ?_
  exact shapeCast_apply _ _ _ (ix5 0 p k h d : S1x2560x128x8x64.Idx) (by
    rewrite [Shape.rowMajor_val_four, Shape.rowMajor_val_five]
    show ((((0 : Nat) * 2560 + p) * 128 + k) * 8 + h) * 64 + d = ((p * 128 + k) * 8 + h) * 64 + d
    omega)

theorem v18_apply (p : Fin 2560) (h : Fin 8) (d : Fin 64) (k : Fin 128) :
    laidCK m c (ix4 p h d k) = argCK m c (ix5 0 p k h d) := by
  rw [show laidCK m c = _ from v18_eq m c]; exact cache_apply _ p h d k

theorem v20_apply (p : Fin 2560) (h : Fin 8) (d : Fin 64) (k : Fin 128) :
    laidCV m c (ix4 p h d k) = argCV m c (ix5 0 p k h d) := by
  rw [show laidCV m c = _ from v20_eq m c]; exact cache_apply _ p h d k

theorem v9_eq : V m c main_v9 = select (cmpi .ne (transpose S32x65x8x128 [0, 2, 1, 3] (shapeCast S32x8x65x128
      (pad S32x8x8320 ![0, 0, 0] ![0, 4, 124] ![0, 0, 0] (argKeep m c) (fun _ : S_.Idx => 0#32) pads_S32x4x8196_S32x8x8320_000_040_01240 h_S_)
        shapeCasts_S32x8x8320_S32x8x65x128) transposes_S32x8x65x128_S32x65x8x128_0_2_1_3) (fun _ => 0#32))
      (fun _ => Ideal.ofBits .f32 0x00000000#32 : FVec Ideal S32x65x8x128 .f32) (fun _ => Ideal.ofBits .f32 0xFF800000#32) := by
  show StableHlo.after _ (fun b => m (c, b)) (Proc.devRef .tc main_v9) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-- A key's place in the bias, read through the reshape and the transpose. -/
theorem laid_apply (x : S32x8x8320.Idx → BitVec 32) (b : Fin 32) (r : Fin 8) (p : Fin 65) (k : Fin 128) :
    transpose S32x65x8x128 [0, 2, 1, 3] (shapeCast S32x8x65x128 x shapeCasts_S32x8x8320_S32x8x65x128) transposes_S32x8x65x128_S32x65x8x128_0_2_1_3 (ix4 b p r k)
      = x (ix3 b r ⟨128 * p + k, by omega⟩) := by
  refine (transpose_apply _ _ _ _ (ix4 b r p k : S32x8x65x128.Idx) fun a => by
    match a with
    | ⟨0, _⟩ => rfl
    | ⟨1, _⟩ => rfl
    | ⟨2, _⟩ => rfl
    | ⟨3, _⟩ => rfl).trans ?_
  exact shapeCast_apply _ _ _ (ix3 b r ⟨128 * p + k, by omega⟩ : S32x8x8320.Idx) (by
    rewrite [Shape.rowMajor_val_four, Shape.rowMajor_val_three]
    show ((b : Nat) * 8 + r) * 8320 + (128 * p + k) = ((b * 8 + r) * 65 + p) * 128 + k
    omega)

theorem bias_word (w : BitVec 32) (a b : EReal) : (Scalar.select (IntOp.cmpi .ne w 0#32) a b : EReal) = if w = 0#32 then b else a := by
  by_cases h : w = 0#32
  · subst h; rfl
  · have e : IntOp.cmpi .ne w 0#32 = 1#1 := by
      simp only [IntOp.cmpi]; rw [bne_iff_ne.mpr h]; rfl
    rw [e, if_neg h]; rfl

/-- The bias of a key among the cache's and the new ones. -/
theorem v9_apply (b : Fin 32) (r : Fin 4) (p : Fin 65) (k : Fin 128) (hk : 128 * p.val + k.val < 8196) :
    laidB m c (ix4 b p ⟨r, by omega⟩ k)
      = if argKeep m c (ix3 b r ⟨128 * p + k, hk⟩) = 0#32 then ⊥ else 0 := by
  rw [show laidB m c = _ from v9_eq m c]
  refine (bias_word _ _ _).trans ?_
  rw [laid_apply, Ideal.ofBits_zero_f32, show Ideal.ofBits .f32 0xFF800000#32 = (⊥ : EReal) by simp [Ideal.ofBits, Ideal.ieee]]
  rw [pad_apply_of_inside _ _ _ _ _ _ _ _ (ix3 b r ⟨128 * p + k, hk⟩ : S32x4x8196.Idx) fun a => by
    match a with
    | ⟨0, _⟩ => show (b : Nat) = 0 + b * 1; omega
    | ⟨1, _⟩ => show (r : Nat) = 0 + r * 1; omega
    | ⟨2, _⟩ => show 128 * (p : Nat) + k = 0 + (128 * p + k) * 1; omega]

/-- The bias of a key past the last. -/
theorem v9_apply_past (b : Fin 32) (r : Fin 8) (p : Fin 65) (k : Fin 128) (hk : ¬128 * p.val + k.val < 8196) :
    laidB m c (ix4 b p r k) = ⊥ := by
  rw [show laidB m c = _ from v9_eq m c]
  refine (bias_word _ _ _).trans ?_
  rw [laid_apply, show Ideal.ofBits .f32 0xFF800000#32 = (⊥ : EReal) by simp [Ideal.ofBits, Ideal.ieee]]
  rw [pad_apply_of_not_inside _ _ _ _ _ _ _ _ (2 : Fin 3) (fun h => hk (by
    have := h.2.2
    have e : (128 * (p : Nat) + k - 0) / (0 + 1) < 8196 := this
    omega)), if_pos rfl]

end Cert.KernelIdeal.AttnArr

end
-- ==== Proof.Softmax.lean ====
/-
  A softmax-weighted sum over the extended reals, taken at once and taken in blocks. The blockwise form carries the greatest
  logit so far, the sum of the exponentials against it and the weighted sum against it; a new block first rescales both
  sums to the new greatest logit (`mass_step`, `acc_step`), and the quotient at the end is the sum that the softmax weights
  (`weighted_eq`).
-/
module

public import Idealize.ShloMosaic.PureOps.Ideal
public import Idealize.ShloMosaic.Lib.Pointwise

@[expose] public section

noncomputable section

open Idealize.ShloMosaic

namespace Cert.Softmax

variable {ι : Type} [Fintype ι]

/-- The greatest logit (−∞ for no logit). -/
def top (x : ι → EReal) : EReal := Finset.univ.fold max ⊥ x

/-- The exponentials against `m`, summed. -/
def mass (m : EReal) (x : ι → EReal) : EReal := ∑ i, Ideal.exp (x i - m)

/-- The values weighted by the exponentials against `m`, summed. -/
def acc (m : EReal) (x v : ι → EReal) : EReal := ∑ i, Ideal.exp (x i - m) * v i

theorem top_eq_sup (x : ι → EReal) : top x = Finset.univ.sup x := rfl

theorem le_top' (x : ι → EReal) (i : ι) : x i ≤ top x := by
  rw [top_eq_sup]; exact Finset.le_sup (Finset.mem_univ i)

theorem exp_nonneg (x : EReal) : 0 ≤ Ideal.exp x := by
  induction x using EReal.rec with
  | bot => exact le_refl _
  | top => exact le_top
  | coe r => rw [Ideal.exp_coe]; exact_mod_cast (Real.exp_pos r).le

theorem exp_ne_top_of_le {m m' : EReal} (h : m ≤ m') : Ideal.exp (m - m') ≠ ⊤ := by
  induction m using EReal.rec with
  | bot => simp
  | top => obtain rfl := top_le_iff.mp h; simp
  | coe r =>
    induction m' using EReal.rec with
    | bot => exact absurd h (by simp)
    | top => simp
    | coe s => rw [← EReal.coe_sub, Ideal.exp_coe]; exact EReal.coe_ne_top _

/-- One exponential moved from `m` to a greater `m'`. -/
theorem exp_rescale {x m m' : EReal} (hx : x ≤ m) (hm : m ≤ m') :
    Ideal.exp (m - m') * Ideal.exp (x - m) = Ideal.exp (x - m') := by
  induction m using EReal.rec with
  | bot => obtain rfl := le_bot_iff.mp hx; simp
  | top => obtain rfl := top_le_iff.mp hm; simp
  | coe r =>
    induction x using EReal.rec with
    | bot => simp
    | top => exact absurd hx (by simp)
    | coe y =>
      induction m' using EReal.rec with
      | bot => exact absurd hm (by simp)
      | top => simp
      | coe s =>
        rw [← EReal.coe_sub, ← EReal.coe_sub, ← EReal.coe_sub, Ideal.exp_coe, Ideal.exp_coe, Ideal.exp_coe, ← EReal.coe_mul,
          ← Real.exp_add]
        rw [show r - s + (y - r) = y - s by ring]

/-- A factor that is neither negative nor +∞ goes through a sum. -/
theorem mul_sum {κ : Type} (s : Finset κ) {a : EReal} (h0 : 0 ≤ a) (h1 : a ≠ ⊤) (f : κ → EReal) :
    a * ∑ i ∈ s, f i = ∑ i ∈ s, a * f i := by
  classical
  induction s using Finset.induction with
  | empty => simp
  | insert i s hi ih => rw [Finset.sum_insert hi, Finset.sum_insert hi, EReal.left_distrib_of_nonneg_of_ne_top h0 h1, ih]

theorem mass_step {m m' : EReal} (x : ι → EReal) (hx : ∀ i, x i ≤ m) (hm : m ≤ m') :
    Ideal.exp (m - m') * mass m x = mass m' x := by
  unfold mass
  rw [mul_sum _ (exp_nonneg _) (exp_ne_top_of_le hm)]
  exact Finset.sum_congr rfl fun i _ => exp_rescale (hx i) hm

theorem acc_step {m m' : EReal} (x v : ι → EReal) (hx : ∀ i, x i ≤ m) (hm : m ≤ m') :
    Ideal.exp (m - m') * acc m x v = acc m' x v := by
  unfold acc
  rw [mul_sum _ (exp_nonneg _) (exp_ne_top_of_le hm)]
  exact Finset.sum_congr rfl fun i _ => by rw [← mul_assoc, exp_rescale (hx i) hm]

/-- The blockwise state over three blocks of keys, taken in order from nothing. -/
structure State where
  m : EReal
  l : EReal
  a : EReal

/-- The state before the first block. -/
def State.start : State := ⟨⊥, 0, 0⟩

/-- A block of logits and values taken into the state. -/
def State.next (s : State) (x v : ι → EReal) : State where
  m := max s.m (top x)
  l := Ideal.exp (s.m - max s.m (top x)) * s.l + mass (max s.m (top x)) x
  a := Ideal.exp (s.m - max s.m (top x)) * s.a + acc (max s.m (top x)) x v

theorem coe_sum {κ : Type} (t : Finset κ) (s : κ → ℝ) : ∑ i ∈ t, ((s i : ℝ) : EReal) = ((∑ i ∈ t, s i : ℝ) : EReal) := by
  classical
  induction t using Finset.induction with
  | empty => simp
  | insert i t hi ih => rw [Finset.sum_insert hi, Finset.sum_insert hi, ih, EReal.coe_add]

/-- The mass against a real greatest logit is a positive real. -/
theorem mass_pos [Nonempty ι] (x : ι → EReal) (r : ℝ) (h : top x = (r : EReal)) : ∃ s : ℝ, 0 < s ∧ mass (top x) x = (s : EReal) := by
  have hle : ∀ i, x i ≤ (r : EReal) := fun i => h ▸ le_top' x i
  have he : ∀ i, ∃ s : ℝ, 0 ≤ s ∧ Ideal.exp (x i - (r : EReal)) = (s : EReal) := fun i => by
    have := hle i
    generalize x i = y at this
    induction y using EReal.rec with
    | bot => exact ⟨0, le_refl _, by simp⟩
    | top => exact absurd this (by simp)
    | coe y => exact ⟨Real.exp (y - r), (Real.exp_pos _).le, by rw [← EReal.coe_sub, Ideal.exp_coe]⟩
  choose s hs hse using he
  obtain ⟨i, -, hi⟩ := Finset.exists_mem_eq_sup Finset.univ Finset.univ_nonempty x
  have hi' : x i = (r : EReal) := by rw [← hi, ← top_eq_sup, h]
  have hsi : s i = 1 := by
    have := hse i
    rw [hi', ← EReal.coe_sub, sub_self, Ideal.exp_coe, Real.exp_zero] at this
    exact_mod_cast this.symm
  refine ⟨∑ i, s i, ?_, ?_⟩
  · refine lt_of_lt_of_le (by rw [hsi]; exact one_pos : (0 : ℝ) < s i) (Finset.single_le_sum (fun j _ => hs j) (Finset.mem_univ i))
  · unfold mass
    rw [h, Finset.sum_congr rfl fun i _ => hse i]
    exact coe_sum Finset.univ s

/-- The quotient of the weighted sum by the mass is the sum of the values under the softmax's weights. -/
theorem weighted_eq [Nonempty ι] (x v : ι → EReal) (r : ℝ) (h : top x = (r : EReal)) :
    Ideal.div (acc (top x) x v) (mass (top x) x) = ∑ i, Ideal.div (Ideal.exp (x i - top x)) (mass (top x) x) * v i := by
  obtain ⟨s, hs, he⟩ := mass_pos x r h
  have h0 : (0 : EReal) ≤ ((1 / s : ℝ) : EReal) := by exact_mod_cast (one_div_pos.mpr hs).le
  rw [he, Ideal.div_coe hs.ne', mul_comm, acc, mul_sum _ h0 (EReal.coe_ne_top _)]
  refine Finset.sum_congr rfl fun i _ => ?_
  rw [Ideal.div_coe hs.ne', ← mul_assoc, mul_comm ((1 / s : ℝ) : EReal)]

end Cert.Softmax

end
-- ==== Proof.AttnHead.lean ====
/-
  One head's step of the sample attention, at a block of `W` keys, over the extended reals.

  The version's body takes a block of keys in the same way for each of its eight heads: the logits, the new greatest
  logit, the masses rescaled and added to, the weighted values rescaled and added to. Each is written here once, for a
  head's 64 columns from column `o`, and read at an index in terms of `Softmax.State.next`.
-/
module

public import proofs.«01_k».proof.Proof.Gen.KernelIdeal.Skeleton
public import proofs.«01_k».proof.Proof.Softmax
public import Idealize.ShloMosaic.Lib.MatmulPlain
public import Idealize.ShloMosaic.Lib.ValueLayout
public import Idealize.ShloMosaic.Lib.ValueLayoutCasts
public import Idealize.ShloMosaic.Lib.Pointwise

@[expose] public section

noncomputable section

namespace Cert.KernelIdeal.AttnVal

open Cert.KernelIdeal Cert.KernelIdeal.Gen Cert.Softmax
open Idealize.ShloMosaic Idealize.ShloMosaic.TcCoe Idealize.ShloMosaic.Tactic

variable {W : ℕ}

/-- The least value that a register can hold is the floor of the extended reals. -/
theorem ofBits_bot : Ideal.ofBits .f32 4286578688#32 = ⊥ := by simp [Ideal.ofBits, Ideal.ieee]

/-- A head's logits at a block of keys: the head's query columns against the keys, and the bias. -/
def lg (o : ℕ) (hs : S8x512.Slices ![0, o] S8x64) (q : FVec Ideal S8x512 .bf16) (bias : FVec Ideal ⟨2, ![8, W]⟩ .f32)
    (kh : FVec Ideal ⟨2, ![64, W]⟩ .bf16) : FVec Ideal ⟨2, ![8, W]⟩ .f32 :=
  addf (matmul (DotDims.plain 8 64 W) none (extractStridedSlice S8x64 ![0, o] q hs) kh
    (constant ⟨2, ![8, W]⟩ .f32 0x00000000#32)) bias

theorem lg_apply (o : ℕ) (hs : S8x512.Slices ![0, o] S8x64) (ho : o + 64 ≤ 512) (q : FVec Ideal S8x512 .bf16)
    (bias : FVec Ideal ⟨2, ![8, W]⟩ .f32) (kh : FVec Ideal ⟨2, ![64, W]⟩ .bf16) (r : Fin 8) (k : Fin W) :
    lg o hs q bias kh (ix2 r k)
      = (∑ d : Fin 64, q (ix2 r (⟨o + d.val, by have := d.isLt; omega⟩ : Fin 512)) * kh (ix2 d k)) + bias (ix2 r k) := by
  show FloatOps.matmul (DotDims.plain 8 64 W) none (extractStridedSlice S8x64 ![0, o] q hs) kh
    (constant ⟨2, ![8, W]⟩ .f32 0x00000000#32) (ix2 r k) + bias (ix2 r k) = _
  have e : FloatOps.matmul (DotDims.plain 8 64 W) none (extractStridedSlice S8x64 ![0, o] q hs) kh
      (constant ⟨2, ![8, W]⟩ .f32 0x00000000#32) (ix2 r k)
      = constant (F := Ideal) ⟨2, ![8, W]⟩ .f32 0x00000000#32 (ix2 r k)
        + ∑ d : Fin 64, extractStridedSlice S8x64 ![0, o] q hs (ix2 r d) * kh (ix2 d k) :=
    Ideal.matmul_plain_apply _ _ _ _ _ _
  rw [e]
  have h0 : (constant (F := Ideal) ⟨2, ![8, W]⟩ .f32 0x00000000#32) (ix2 r k) = (0 : EReal) := by
    show Ideal.ofBits .f32 0x00000000#32 = 0
    simp [Ideal.ofBits, Ideal.ieee]
  rw [h0, zero_add]
  refine congrArg (· + bias (ix2 r k)) (Finset.sum_congr rfl fun d _ => ?_)
  refine congrArg (· * kh (ix2 d k)) (congrArg q ?_)
  funext a
  match a with
  | ⟨0, _⟩ => exact Fin.ext (Nat.zero_add _)
  | ⟨1, _⟩ => exact Fin.ext rfl

theorem cast_out (m : Vec Ideal S1x8x1 .f32) (r : Fin 8) :
    shapeCast S8x1 m shapeCasts_S1x8x1_S8x1 (ix2 r (0 : Fin 1)) = m (ix3 (0 : Fin 1) r (0 : Fin 1)) :=
  ValueIdx.shapeCast_1ab_ab_apply m _ r (0 : Fin 1)

theorem cast_col (m : FVec Ideal S8 .f32) (r : Fin 8) :
    shapeCast S8x1 m shapeCasts_S8_S8x1 (ix2 r (0 : Fin 1)) = m (ix1 r) :=
  ValueIdx.shapeCast_a_a1_apply m _ r (0 : Fin 1)

/-- The greatest logit once the block is in. -/
def mNew (hr : (⟨2, ![8, W]⟩ : Shape).Reduces [1] S8) (x : FVec Ideal ⟨2, ![8, W]⟩ .f32) (m : Vec Ideal S1x8x1 .f32) :
    FVec Ideal S8x1 .f32 :=
  maximumf (shapeCast S8x1 m shapeCasts_S1x8x1_S8x1)
    (shapeCast S8x1 (multiReduction .maximumf [1] S8 x 0xFF800000#32 hr (.inl rfl) rfl) shapeCasts_S8_S8x1)

theorem lift_eq (hr : (⟨2, ![8, W]⟩ : Shape).Reduces [1] S8) (r : Fin 8) (k : Fin W) :
    hr.lift (ix1 r) k = (ix2 r k : (⟨2, ![8, W]⟩ : Shape).Idx) := by
  funext a
  match a with
  | ⟨0, _⟩ => exact Fin.ext rfl
  | ⟨1, _⟩ => exact Fin.ext rfl

theorem mNew_apply (hr : (⟨2, ![8, W]⟩ : Shape).Reduces [1] S8) (x : FVec Ideal ⟨2, ![8, W]⟩ .f32)
    (m : Vec Ideal S1x8x1 .f32) (r : Fin 8) (u : Fin 1) :
    mNew hr x m (ix2 r u) = max (m (ix3 (0 : Fin 1) r (0 : Fin 1))) (top fun k : Fin W => x (ix2 r k)) := by
  obtain rfl := Subsingleton.elim u 0
  show max (shapeCast S8x1 m shapeCasts_S1x8x1_S8x1 (ix2 r (0 : Fin 1))) (shapeCast S8x1 (multiReduction .maximumf [1] S8 x
    0xFF800000#32 hr (.inl rfl) rfl) shapeCasts_S8_S8x1 (ix2 r (0 : Fin 1))) = _
  rw [cast_out, cast_col]
  refine congrArg (max _) ((Ideal.multiReduction_maximumf_single x 0xFF800000#32 hr (.inl rfl) rfl (ix1 r)).trans ?_)
  have hb : FloatOps.ofBits (F := Ideal) .f32 0xFF800000#32 = (⊥ : EReal) := ofBits_bot
  rw [hb]
  refine congrArg (Finset.univ.fold max ⊥) (funext fun k => ?_)
  exact congrArg x (lift_eq hr r k)

/-- The weight that the earlier blocks' sums carry over. -/
def alpha (hr : (⟨2, ![8, W]⟩ : Shape).Reduces [1] S8) (x : FVec Ideal ⟨2, ![8, W]⟩ .f32) (m : Vec Ideal S1x8x1 .f32) :
    FVec Ideal S8x1 .f32 := exp (subf (shapeCast S8x1 m shapeCasts_S1x8x1_S8x1) (mNew hr x m))

theorem alpha_apply (hr : (⟨2, ![8, W]⟩ : Shape).Reduces [1] S8) (x : FVec Ideal ⟨2, ![8, W]⟩ .f32)
    (m : Vec Ideal S1x8x1 .f32) (r : Fin 8) (u : Fin 1) :
    alpha hr x m (ix2 r u) = Ideal.exp (m (ix3 (0 : Fin 1) r (0 : Fin 1))
      - max (m (ix3 (0 : Fin 1) r (0 : Fin 1))) (top fun k : Fin W => x (ix2 r k))) := by
  obtain rfl := Subsingleton.elim u 0
  show Ideal.exp (shapeCast S8x1 m shapeCasts_S1x8x1_S8x1 (ix2 r (0 : Fin 1)) - mNew hr x m (ix2 r (0 : Fin 1))) = _
  rw [cast_out, mNew_apply]

/-- The exponentials of the block's logits against the greatest one. -/
def probs (hr : (⟨2, ![8, W]⟩ : Shape).Reduces [1] S8) (hb : S8x1.Broadcasts ⟨2, ![8, W]⟩)
    (x : FVec Ideal ⟨2, ![8, W]⟩ .f32) (m : Vec Ideal S1x8x1 .f32) :
    FVec Ideal ⟨2, ![8, W]⟩ .f32 := exp (subf x (broadcastTo ⟨2, ![8, W]⟩ (mNew hr x m) hb))

theorem probs_apply (hr : (⟨2, ![8, W]⟩ : Shape).Reduces [1] S8) (hb : S8x1.Broadcasts ⟨2, ![8, W]⟩)
    (x : FVec Ideal ⟨2, ![8, W]⟩ .f32) (m : Vec Ideal S1x8x1 .f32) (r : Fin 8) (k : Fin W) :
    probs hr hb x m (ix2 r k) = Ideal.exp (x (ix2 r k)
      - max (m (ix3 (0 : Fin 1) r (0 : Fin 1))) (top fun k : Fin W => x (ix2 r k))) := by
  show Ideal.exp (x (ix2 r k) - broadcastTo ⟨2, ![8, W]⟩ (mNew hr x m) hb (ix2 r k)) = _
  rw [Pointwise.broadcastTo_apply]
  rw [← mNew_apply hr x m r 0]
  refine congrArg (fun z => Ideal.exp (x (ix2 r k) - z)) (congrArg (mNew hr x m) ?_)
  funext a
  match a with
  | ⟨0, _⟩ => exact Fin.ext rfl
  | ⟨1, _⟩ => exact Fin.ext rfl

/-- The mass once the block is in. -/
def lNew (hr : (⟨2, ![8, W]⟩ : Shape).Reduces [1] S8) (hb : S8x1.Broadcasts ⟨2, ![8, W]⟩)
    (x : FVec Ideal ⟨2, ![8, W]⟩ .f32) (m l : Vec Ideal S1x8x1 .f32) : FVec Ideal S8x1 .f32 :=
  addf (mulf (alpha hr x m) (shapeCast S8x1 l shapeCasts_S1x8x1_S8x1))
    (shapeCast S8x1 (multiReduction .add [1] S8 (probs hr hb x m) 0x00000000#32 hr (.inl rfl) rfl) shapeCasts_S8_S8x1)

theorem lNew_apply (hr : (⟨2, ![8, W]⟩ : Shape).Reduces [1] S8) (hb : S8x1.Broadcasts ⟨2, ![8, W]⟩)
    (x : FVec Ideal ⟨2, ![8, W]⟩ .f32) (m l : Vec Ideal S1x8x1 .f32) (r : Fin 8) (u : Fin 1) (a : EReal) (v : Fin W → EReal) :
    lNew hr hb x m l (ix2 r u) = (State.next ⟨m (ix3 (0 : Fin 1) r (0 : Fin 1)), l (ix3 (0 : Fin 1) r (0 : Fin 1)), a⟩
      (fun k : Fin W => x (ix2 r k)) v).l := by
  obtain rfl := Subsingleton.elim u 0
  show alpha hr x m (ix2 r (0 : Fin 1)) * shapeCast S8x1 l shapeCasts_S1x8x1_S8x1 (ix2 r (0 : Fin 1))
    + shapeCast S8x1 (multiReduction .add [1] S8 (probs hr hb x m) 0x00000000#32 hr (.inl rfl) rfl) shapeCasts_S8_S8x1
      (ix2 r (0 : Fin 1)) = _
  rw [cast_out, cast_col, alpha_apply]
  refine congrArg (_ + ·) ((Ideal.multiReduction_add_single (probs hr hb x m) 0x00000000#32 hr (.inl rfl) rfl (ix1 r)).trans
    (Finset.sum_congr rfl fun k _ => ?_))
  exact (congrArg (probs hr hb x m) (lift_eq hr r k)).trans (probs_apply hr hb x m r k)

/-- The weighted values once the block is in. -/
def aNew (hr : (⟨2, ![8, W]⟩ : Shape).Reduces [1] S8) (hb : S8x1.Broadcasts ⟨2, ![8, W]⟩)
    (x : FVec Ideal ⟨2, ![8, W]⟩ .f32) (m : Vec Ideal S1x8x1 .f32) (vh : FVec Ideal ⟨2, ![64, W]⟩ .bf16)
    (a : Vec Ideal S8x64 .f32) : FVec Ideal S8x64 .f32 :=
  addf (mulf (broadcastTo S8x64 (alpha hr x m) broadcasts_S8x1_S8x64) a)
    (matmul (DotDims.transposedRhs 8 W 64) none (truncf .bf16 (probs hr hb x m) bitsLt_bf16_f32) vh
      (constant S8x64 .f32 0x00000000#32))

theorem aNew_apply (hr : (⟨2, ![8, W]⟩ : Shape).Reduces [1] S8) (hb : S8x1.Broadcasts ⟨2, ![8, W]⟩)
    (x : FVec Ideal ⟨2, ![8, W]⟩ .f32) (m : Vec Ideal S1x8x1 .f32) (vh : FVec Ideal ⟨2, ![64, W]⟩ .bf16)
    (a : Vec Ideal S8x64 .f32) (r : Fin 8) (d : Fin 64) (l : EReal) :
    aNew hr hb x m vh a (ix2 r d) = (State.next ⟨m (ix3 (0 : Fin 1) r (0 : Fin 1)), l, a (ix2 r d)⟩
      (fun k : Fin W => x (ix2 r k)) (fun k : Fin W => vh (ix2 d k))).a := by
  show broadcastTo S8x64 (alpha hr x m) broadcasts_S8x1_S8x64 (ix2 r d) * a (ix2 r d)
    + FloatOps.matmul (DotDims.transposedRhs 8 W 64) none (truncf .bf16 (probs hr hb x m) bitsLt_bf16_f32) vh
      (constant S8x64 .f32 0x00000000#32) (ix2 r d) = _
  rw [Pointwise.broadcastTo_apply]
  have e : FloatOps.matmul (DotDims.transposedRhs 8 W 64) none (truncf .bf16 (probs hr hb x m) bitsLt_bf16_f32) vh
      (constant S8x64 .f32 0x00000000#32) (ix2 r d)
      = constant (F := Ideal) S8x64 .f32 0x00000000#32 (ix2 r d)
        + ∑ k : Fin W, probs hr hb x m (ix2 r k) * vh (ix2 d k) := Ideal.matmul_transposedRhs_apply _ _ _ _ _ _
  rw [e]
  have h0 : (constant (F := Ideal) S8x64 .f32 0x00000000#32) (ix2 r d) = (0 : EReal) := by
    show Ideal.ofBits .f32 0x00000000#32 = 0
    simp [Ideal.ofBits, Ideal.ieee]
  rw [h0, zero_add]
  refine congrArg₂ (· + ·) (congrArg (· * a (ix2 r d)) ?_) (Finset.sum_congr rfl fun k _ => ?_)
  · rw [← alpha_apply hr x m r 0]
    refine congrArg (alpha hr x m) ?_
    funext a
    match a with
    | ⟨0, _⟩ => exact Fin.ext rfl
    | ⟨1, _⟩ => exact Fin.ext rfl
  · refine congrArg (· * vh (ix2 d k)) ?_
    exact probs_apply hr hb x m r k

end Cert.KernelIdeal.AttnVal

end
-- ==== Proof.AttnBuf.lean ====
/-
  The two buffers that a step of the sample attention fills from its eight pages.

  A step writes its 64 tiles (eight pages by eight heads) into the buffer of the keys and the 64 of the values. Here
  each buffer is read back at an index: the page that the token's number divided by 128 names, at the head, the
  dimension and the token's place in its page.
-/
module

public import proofs.«01_k».proof.Proof.AttnHead
public import Idealize.ShloMosaic.Lib.Pipeline.Value
public import Idealize.ShloMosaic.Lib.Pipeline.ValueKit.Tiles

@[expose] public section

set_option maxRecDepth 16384

noncomputable section

namespace Cert.KernelIdeal.AttnVal

open Cert.KernelIdeal Cert.KernelIdeal.Gen Cert.Softmax
open Idealize.ShloMosaic Idealize.ShloMosaic.TcCoe Idealize.ShloMosaic.Tactic

/-- Eight pages side by side: heads, dimensions, 1024 tokens. -/
def pages (xs : Fin 8 → Vec Ideal S1x8x64x128 .f32) (z : S8x64x1024.Idx) : EReal :=
  xs (⟨(z 2).val / 128, by have : (z 2).val < 1024 := (z 2).isLt; omega⟩ : Fin 8)
    (ix4 (0 : Fin 1) (⟨(z 0).val, (z 0).isLt⟩ : Fin 8) (⟨(z 1).val, (z 1).isLt⟩ : Fin 64)
      (⟨(z 2).val % 128, Nat.mod_lt _ (by decide)⟩ : Fin 128))

/-- A tile of a page: one head's 64 by 128, as the body writes it. -/
def tile (n : ℕ) (X : Vec Ideal S1x8x64x128 .f32) (inb : ∀ a, ![0, n, 0, 0] a + ![1, 1, 64, 128] a ≤ S1x8x64x128.size a) :
    FVec Ideal S1x64x128 .bf16 :=
  have u : FVec Ideal S1x1x64x128 .f32 := View.ld (Val := Elt Ideal) (e' := .f32) X (Rect.unit ![0, n, 0, 0] ![1, 1, 64, 128] inb)
  have v : FVec Ideal S64x128 .f32 := shapeCast S64x128 u shapeCasts_S1x1x64x128_S64x128
  have w : FVec Ideal S64x128 .bf16 := truncf .bf16 v bitsLt_bf16_f32
  shapeCast S1x64x128 w shapeCasts_S64x128_S1x64x128

/-- A tile read at an index. -/
theorem tile_apply (n : ℕ) (hn : n < 8) (X : Vec Ideal S1x8x64x128 .f32) (inb : ∀ a, ![0, n, 0, 0] a + ![1, 1, 64, 128] a ≤ S1x8x64x128.size a)
    (y : S1x64x128.Idx) :
    (tile n X inb y : EReal)
      = X (ix4 (0 : Fin 1) (⟨n, hn⟩ : Fin 8) (⟨(y 1).val, (y 1).isLt⟩ : Fin 64) (⟨(y 2).val, (y 2).isLt⟩ : Fin 128)) := by
  have hy : y = ix3 (0 : Fin 1) (⟨(y 1).val, (y 1).isLt⟩ : Fin 64) (⟨(y 2).val, (y 2).isLt⟩ : Fin 128) := by
    funext a
    match a with
    | ⟨0, _⟩ => exact Subsingleton.elim (α := Fin 1) _ _
    | ⟨1, _⟩ => rfl
    | ⟨2, _⟩ => rfl
  generalize (⟨(y 1).val, (y 1).isLt⟩ : Fin 64) = d at hy
  generalize (⟨(y 2).val, (y 2).isLt⟩ : Fin 128) = k at hy
  subst hy
  unfold tile
  refine (shapeCast_apply _ shapeCasts_S64x128_S1x64x128 (ix3 (0 : Fin 1) d k) (ix2 d k) ?_).trans ?_
  · rw [Shape.rowMajor_val_three, Shape.rowMajor_val_two]
    show d.val * 128 + k.val = (0 * 64 + d.val) * 128 + k.val
    omega
  show (shapeCast S64x128 (View.ld (Val := Elt Ideal) (e' := .f32) X (Rect.unit ![0, n, 0, 0] ![1, 1, 64, 128] inb))
    shapeCasts_S1x1x64x128_S64x128 (ix2 d k) : EReal) = X (ix4 (0 : Fin 1) (⟨n, hn⟩ : Fin 8) d k)
  refine ((shapeCast_apply _ shapeCasts_S1x1x64x128_S64x128 (ix2 d k) (ix4 (0 : Fin 1) (0 : Fin 1) d k) ?_).trans ?_)
  · rw [Shape.rowMajor_val_four, Shape.rowMajor_val_two]
    show ((0 * 1 + 0) * 64 + d.val) * 128 + k.val = d.val * 128 + k.val
    omega
  · refine View.ld_unit_apply_of X _ _ _ _ _ fun a => ?_
    match a with
    | ⟨0, _⟩ => rfl
    | ⟨1, _⟩ => rfl
    | ⟨2, _⟩ => exact (Nat.zero_add _).symm
    | ⟨3, _⟩ => exact (Nat.zero_add _).symm

theorem tile_eq (xs : Fin 8 → Vec Ideal S1x8x64x128 .f32) (g : Fin 8) (n : ℕ) (hn : n < 8) (X : Vec Ideal S1x8x64x128 .f32)
    (hX : xs g = X) (inb : ∀ a, ![0, n, 0, 0] a + ![1, 1, 64, 128] a ≤ S1x8x64x128.size a)
    (y : S1x64x128.Idx) (z : S8x64x1024.Idx) (h0 : (z 0).val = n + (y 0).val) (h1 : (z 1).val = (y 1).val)
    (h2 : (z 2).val = 128 * g.val + (y 2).val) :
    (tile n X inb y : EReal) = pages xs z := by
  have y0 : (y 0).val < 1 := (y 0).isLt
  have y2 : (y 2).val < 128 := (y 2).isLt
  rw [tile_apply n hn, ← hX]
  have hg : (⟨(z 2).val / 128, by have : (z 2).val < 1024 := (z 2).isLt; omega⟩ : Fin 8) = g := Fin.ext (by show (z 2).val / 128 = g.val; omega)
  unfold pages
  rw [hg]
  refine congrArg (xs g) ?_
  funext a
  match a with
  | ⟨0, _⟩ => rfl
  | ⟨1, _⟩ => exact Fin.ext (by show n = (z 0).val; omega)
  | ⟨2, _⟩ => exact Fin.ext h1.symm
  | ⟨3, _⟩ => exact Fin.ext (by show (y 2).val = (z 2).val % 128; omega)

/-- The buffer of the keys, loaded. -/
theorem kbuf {κ : Kind} {sp : Space} (v : View sig κ sp S8x64x1024 .bf16) (B : LoadRect S8x64x1024)
    (x4 x5 x6 x7 x8 x9 x10 x11 : Vec Ideal S1x8x64x128 .f32) :
    v.readCov (Val := Elt Ideal) [⟨Rect.unit ![7, 0, 896] ![1, 64, 128] inb_S8x64x1024_S1x64x128_7_0_896, k0_pay240 (View.ld x11 (Rect.unit ![0, 7, 0, 0] ![1, 1, 64, 128] inb_S1x8x64x128_S1x1x64x128_0_7_0_0))⟩,
      ⟨Rect.unit ![6, 0, 896] ![1, 64, 128] inb_S8x64x1024_S1x64x128_6_0_896, k0_pay238 (View.ld x11 (Rect.unit ![0, 6, 0, 0] ![1, 1, 64, 128] inb_S1x8x64x128_S1x1x64x128_0_6_0_0))⟩,
      ⟨Rect.unit ![5, 0, 896] ![1, 64, 128] inb_S8x64x1024_S1x64x128_5_0_896, k0_pay236 (View.ld x11 (Rect.unit ![0, 5, 0, 0] ![1, 1, 64, 128] inb_S1x8x64x128_S1x1x64x128_0_5_0_0))⟩,
      ⟨Rect.unit ![4, 0, 896] ![1, 64, 128] inb_S8x64x1024_S1x64x128_4_0_896, k0_pay234 (View.ld x11 (Rect.unit ![0, 4, 0, 0] ![1, 1, 64, 128] inb_S1x8x64x128_S1x1x64x128_0_4_0_0))⟩,
      ⟨Rect.unit ![3, 0, 896] ![1, 64, 128] inb_S8x64x1024_S1x64x128_3_0_896, k0_pay232 (View.ld x11 (Rect.unit ![0, 3, 0, 0] ![1, 1, 64, 128] inb_S1x8x64x128_S1x1x64x128_0_3_0_0))⟩,
      ⟨Rect.unit ![2, 0, 896] ![1, 64, 128] inb_S8x64x1024_S1x64x128_2_0_896, k0_pay230 (View.ld x11 (Rect.unit ![0, 2, 0, 0] ![1, 1, 64, 128] inb_S1x8x64x128_S1x1x64x128_0_2_0_0))⟩,
      ⟨Rect.unit ![1, 0, 896] ![1, 64, 128] inb_S8x64x1024_S1x64x128_1_0_896, k0_pay228 (k0_pay227 (View.ld x11 (Rect.unit ![0, 1, 0, 0] ![1, 1, 64, 128] inb_S1x8x64x128_S1x1x64x128_0_1_0_0)))⟩,
      ⟨Rect.unit ![0, 0, 896] ![1, 64, 128] inb_S8x64x1024_S1x64x128_0_0_896, k0_pay225 (View.ld x11 (Rect.unit ![0, 0, 0, 0] ![1, 1, 64, 128] inb_S1x8x64x128_S1x1x64x128_0_0_0_0))⟩,
      ⟨Rect.unit ![7, 0, 768] ![1, 64, 128] inb_S8x64x1024_S1x64x128_7_0_768, k0_pay223 (k0_pay222 (View.ld x10 (Rect.unit ![0, 7, 0, 0] ![1, 1, 64, 128] inb_S1x8x64x128_S1x1x64x128_0_7_0_0)))⟩,
      ⟨Rect.unit ![6, 0, 768] ![1, 64, 128] inb_S8x64x1024_S1x64x128_6_0_768, k0_pay220 (View.ld x10 (Rect.unit ![0, 6, 0, 0] ![1, 1, 64, 128] inb_S1x8x64x128_S1x1x64x128_0_6_0_0))⟩,
      ⟨Rect.unit ![5, 0, 768] ![1, 64, 128] inb_S8x64x1024_S1x64x128_5_0_768, k0_pay218 (View.ld x10 (Rect.unit ![0, 5, 0, 0] ![1, 1, 64, 128] inb_S1x8x64x128_S1x1x64x128_0_5_0_0))⟩,
      ⟨Rect.unit ![4, 0, 768] ![1, 64, 128] inb_S8x64x1024_S1x64x128_4_0_768, k0_pay216 (View.ld x10 (Rect.unit ![0, 4, 0, 0] ![1, 1, 64, 128] inb_S1x8x64x128_S1x1x64x128_0_4_0_0))⟩,
      ⟨Rect.unit ![3, 0, 768] ![1, 64, 128] inb_S8x64x1024_S1x64x128_3_0_768, k0_pay214 (View.ld x10 (Rect.unit ![0, 3, 0, 0] ![1, 1, 64, 128] inb_S1x8x64x128_S1x1x64x128_0_3_0_0))⟩,
      ⟨Rect.unit ![2, 0, 768] ![1, 64, 128] inb_S8x64x1024_S1x64x128_2_0_768, k0_pay211 (View.ld x10 (Rect.unit ![0, 2, 0, 0] ![1, 1, 64, 128] inb_S1x8x64x128_S1x1x64x128_0_2_0_0))⟩,
      ⟨Rect.unit ![1, 0, 768] ![1, 64, 128] inb_S8x64x1024_S1x64x128_1_0_768, k0_pay209 (View.ld x10 (Rect.unit ![0, 1, 0, 0] ![1, 1, 64, 128] inb_S1x8x64x128_S1x1x64x128_0_1_0_0))⟩,
      ⟨Rect.unit ![0, 0, 768] ![1, 64, 128] inb_S8x64x1024_S1x64x128_0_0_768, k0_pay206 (View.ld x10 (Rect.unit ![0, 0, 0, 0] ![1, 1, 64, 128] inb_S1x8x64x128_S1x1x64x128_0_0_0_0))⟩,
      ⟨Rect.unit ![7, 0, 640] ![1, 64, 128] inb_S8x64x1024_S1x64x128_7_0_640, k0_pay204 (View.ld x9 (Rect.unit ![0, 7, 0, 0] ![1, 1, 64, 128] inb_S1x8x64x128_S1x1x64x128_0_7_0_0))⟩,
      ⟨Rect.unit ![6, 0, 640] ![1, 64, 128] inb_S8x64x1024_S1x64x128_6_0_640, k0_pay202 (View.ld x9 (Rect.unit ![0, 6, 0, 0] ![1, 1, 64, 128] inb_S1x8x64x128_S1x1x64x128_0_6_0_0))⟩,
      ⟨Rect.unit ![5, 0, 640] ![1, 64, 128] inb_S8x64x1024_S1x64x128_5_0_640, k0_pay200 (View.ld x9 (Rect.unit ![0, 5, 0, 0] ![1, 1, 64, 128] inb_S1x8x64x128_S1x1x64x128_0_5_0_0))⟩,
      ⟨Rect.unit ![4, 0, 640] ![1, 64, 128] inb_S8x64x1024_S1x64x128_4_0_640, k0_pay198 (View.ld x9 (Rect.unit ![0, 4, 0, 0] ![1, 1, 64, 128] inb_S1x8x64x128_S1x1x64x128_0_4_0_0))⟩,
      ⟨Rect.unit ![3, 0, 640] ![1, 64, 128] inb_S8x64x1024_S1x64x128_3_0_640, k0_pay196 (View.ld x9 (Rect.unit ![0, 3, 0, 0] ![1, 1, 64, 128] inb_S1x8x64x128_S1x1x64x128_0_3_0_0))⟩,
      ⟨Rect.unit ![2, 0, 640] ![1, 64, 128] inb_S8x64x1024_S1x64x128_2_0_640, k0_pay194 (k0_pay193 (View.ld x9 (Rect.unit ![0, 2, 0, 0] ![1, 1, 64, 128] inb_S1x8x64x128_S1x1x64x128_0_2_0_0)))⟩,
      ⟨Rect.unit ![1, 0, 640] ![1, 64, 128] inb_S8x64x1024_S1x64x128_1_0_640, k0_pay191 (View.ld x9 (Rect.unit ![0, 1, 0, 0] ![1, 1, 64, 128] inb_S1x8x64x128_S1x1x64x128_0_1_0_0))⟩,
      ⟨Rect.unit ![0, 0, 640] ![1, 64, 128] inb_S8x64x1024_S1x64x128_0_0_640, k0_pay189 (k0_pay188 (View.ld x9 (Rect.unit ![0, 0, 0, 0] ![1, 1, 64, 128] inb_S1x8x64x128_S1x1x64x128_0_0_0_0)))⟩,
      ⟨Rect.unit ![7, 0, 512] ![1, 64, 128] inb_S8x64x1024_S1x64x128_7_0_512, k0_pay186 (View.ld x8 (Rect.unit ![0, 7, 0, 0] ![1, 1, 64, 128] inb_S1x8x64x128_S1x1x64x128_0_7_0_0))⟩,
      ⟨Rect.unit ![6, 0, 512] ![1, 64, 128] inb_S8x64x1024_S1x64x128_6_0_512, k0_pay184 (View.ld x8 (Rect.unit ![0, 6, 0, 0] ![1, 1, 64, 128] inb_S1x8x64x128_S1x1x64x128_0_6_0_0))⟩,
      ⟨Rect.unit ![5, 0, 512] ![1, 64, 128] inb_S8x64x1024_S1x64x128_5_0_512, k0_pay182 (View.ld x8 (Rect.unit ![0, 5, 0, 0] ![1, 1, 64, 128] inb_S1x8x64x128_S1x1x64x128_0_5_0_0))⟩,
      ⟨Rect.unit ![4, 0, 512] ![1, 64, 128] inb_S8x64x1024_S1x64x128_4_0_512, k0_pay180 (View.ld x8 (Rect.unit ![0, 4, 0, 0] ![1, 1, 64, 128] inb_S1x8x64x128_S1x1x64x128_0_4_0_0))⟩,
      ⟨Rect.unit ![3, 0, 512] ![1, 64, 128] inb_S8x64x1024_S1x64x128_3_0_512, k0_pay177 (View.ld x8 (Rect.unit ![0, 3, 0, 0] ![1, 1, 64, 128] inb_S1x8x64x128_S1x1x64x128_0_3_0_0))⟩,
      ⟨Rect.unit ![2, 0, 512] ![1, 64, 128] inb_S8x64x1024_S1x64x128_2_0_512, k0_pay175 (View.ld x8 (Rect.unit ![0, 2, 0, 0] ![1, 1, 64, 128] inb_S1x8x64x128_S1x1x64x128_0_2_0_0))⟩,
      ⟨Rect.unit ![1, 0, 512] ![1, 64, 128] inb_S8x64x1024_S1x64x128_1_0_512, k0_pay172 (View.ld x8 (Rect.unit ![0, 1, 0, 0] ![1, 1, 64, 128] inb_S1x8x64x128_S1x1x64x128_0_1_0_0))⟩,
      ⟨Rect.unit ![0, 0, 512] ![1, 64, 128] inb_S8x64x1024_S1x64x128_0_0_512, k0_pay170 (View.ld x8 (Rect.unit ![0, 0, 0, 0] ![1, 1, 64, 128] inb_S1x8x64x128_S1x1x64x128_0_0_0_0))⟩,
      ⟨Rect.unit ![7, 0, 384] ![1, 64, 128] inb_S8x64x1024_S1x64x128_7_0_384, k0_pay168 (View.ld x7 (Rect.unit ![0, 7, 0, 0] ![1, 1, 64, 128] inb_S1x8x64x128_S1x1x64x128_0_7_0_0))⟩,
      ⟨Rect.unit ![6, 0, 384] ![1, 64, 128] inb_S8x64x1024_S1x64x128_6_0_384, k0_pay166 (View.ld x7 (Rect.unit ![0, 6, 0, 0] ![1, 1, 64, 128] inb_S1x8x64x128_S1x1x64x128_0_6_0_0))⟩,
      ⟨Rect.unit ![5, 0, 384] ![1, 64, 128] inb_S8x64x1024_S1x64x128_5_0_384, k0_pay164 (View.ld x7 (Rect.unit ![0, 5, 0, 0] ![1, 1, 64, 128] inb_S1x8x64x128_S1x1x64x128_0_5_0_0))⟩,
      ⟨Rect.unit ![4, 0, 384] ![1, 64, 128] inb_S8x64x1024_S1x64x128_4_0_384, k0_pay162 (View.ld x7 (Rect.unit ![0, 4, 0, 0] ![1, 1, 64, 128] inb_S1x8x64x128_S1x1x64x128_0_4_0_0))⟩,
      ⟨Rect.unit ![3, 0, 384] ![1, 64, 128] inb_S8x64x1024_S1x64x128_3_0_384, k0_pay160 (k0_pay159 (View.ld x7 (Rect.unit ![0, 3, 0, 0] ![1, 1, 64, 128] inb_S1x8x64x128_S1x1x64x128_0_3_0_0)))⟩,
      ⟨Rect.unit ![2, 0, 384] ![1, 64, 128] inb_S8x64x1024_S1x64x128_2_0_384, k0_pay157 (View.ld x7 (Rect.unit ![0, 2, 0, 0] ![1, 1, 64, 128] inb_S1x8x64x128_S1x1x64x128_0_2_0_0))⟩,
      ⟨Rect.unit ![1, 0, 384] ![1, 64, 128] inb_S8x64x1024_S1x64x128_1_0_384, k0_pay155 (k0_pay154 (View.ld x7 (Rect.unit ![0, 1, 0, 0] ![1, 1, 64, 128] inb_S1x8x64x128_S1x1x64x128_0_1_0_0)))⟩,
      ⟨Rect.unit ![0, 0, 384] ![1, 64, 128] inb_S8x64x1024_S1x64x128_0_0_384, k0_pay152 (View.ld x7 (Rect.unit ![0, 0, 0, 0] ![1, 1, 64, 128] inb_S1x8x64x128_S1x1x64x128_0_0_0_0))⟩,
      ⟨Rect.unit ![7, 0, 256] ![1, 64, 128] inb_S8x64x1024_S1x64x128_7_0_256, k0_pay150 (View.ld x6 (Rect.unit ![0, 7, 0, 0] ![1, 1, 64, 128] inb_S1x8x64x128_S1x1x64x128_0_7_0_0))⟩,
      ⟨Rect.unit ![6, 0, 256] ![1, 64, 128] inb_S8x64x1024_S1x64x128_6_0_256, k0_pay148 (View.ld x6 (Rect.unit ![0, 6, 0, 0] ![1, 1, 64, 128] inb_S1x8x64x128_S1x1x64x128_0_6_0_0))⟩,
      ⟨Rect.unit ![5, 0, 256] ![1, 64, 128] inb_S8x64x1024_S1x64x128_5_0_256, k0_pay146 (View.ld x6 (Rect.unit ![0, 5, 0, 0] ![1, 1, 64, 128] inb_S1x8x64x128_S1x1x64x128_0_5_0_0))⟩,
      ⟨Rect.unit ![4, 0, 256] ![1, 64, 128] inb_S8x64x1024_S1x64x128_4_0_256, k0_pay143 (View.ld x6 (Rect.unit ![0, 4, 0, 0] ![1, 1, 64, 128] inb_S1x8x64x128_S1x1x64x128_0_4_0_0))⟩,
      ⟨Rect.unit ![3, 0, 256] ![1, 64, 128] inb_S8x64x1024_S1x64x128_3_0_256, k0_pay141 (View.ld x6 (Rect.unit ![0, 3, 0, 0] ![1, 1, 64, 128] inb_S1x8x64x128_S1x1x64x128_0_3_0_0))⟩,
      ⟨Rect.unit ![2, 0, 256] ![1, 64, 128] inb_S8x64x1024_S1x64x128_2_0_256, k0_pay138 (View.ld x6 (Rect.unit ![0, 2, 0, 0] ![1, 1, 64, 128] inb_S1x8x64x128_S1x1x64x128_0_2_0_0))⟩,
      ⟨Rect.unit ![1, 0, 256] ![1, 64, 128] inb_S8x64x1024_S1x64x128_1_0_256, k0_pay136 (View.ld x6 (Rect.unit ![0, 1, 0, 0] ![1, 1, 64, 128] inb_S1x8x64x128_S1x1x64x128_0_1_0_0))⟩,
      ⟨Rect.unit ![0, 0, 256] ![1, 64, 128] inb_S8x64x1024_S1x64x128_0_0_256, k0_pay134 (View.ld x6 (Rect.unit ![0, 0, 0, 0] ![1, 1, 64, 128] inb_S1x8x64x128_S1x1x64x128_0_0_0_0))⟩,
      ⟨Rect.unit ![7, 0, 128] ![1, 64, 128] inb_S8x64x1024_S1x64x128_7_0_128, k0_pay132 (View.ld x5 (Rect.unit ![0, 7, 0, 0] ![1, 1, 64, 128] inb_S1x8x64x128_S1x1x64x128_0_7_0_0))⟩,
      ⟨Rect.unit ![6, 0, 128] ![1, 64, 128] inb_S8x64x1024_S1x64x128_6_0_128, k0_pay130 (View.ld x5 (Rect.unit ![0, 6, 0, 0] ![1, 1, 64, 128] inb_S1x8x64x128_S1x1x64x128_0_6_0_0))⟩,
      ⟨Rect.unit ![5, 0, 128] ![1, 64, 128] inb_S8x64x1024_S1x64x128_5_0_128, k0_pay128 (View.ld x5 (Rect.unit ![0, 5, 0, 0] ![1, 1, 64, 128] inb_S1x8x64x128_S1x1x64x128_0_5_0_0))⟩,
      ⟨Rect.unit ![4, 0, 128] ![1, 64, 128] inb_S8x64x1024_S1x64x128_4_0_128, k0_pay126 (k0_pay125 (View.ld x5 (Rect.unit ![0, 4, 0, 0] ![1, 1, 64, 128] inb_S1x8x64x128_S1x1x64x128_0_4_0_0)))⟩,
      ⟨Rect.unit ![3, 0, 128] ![1, 64, 128] inb_S8x64x1024_S1x64x128_3_0_128, k0_pay123 (View.ld x5 (Rect.unit ![0, 3, 0, 0] ![1, 1, 64, 128] inb_S1x8x64x128_S1x1x64x128_0_3_0_0))⟩,
      ⟨Rect.unit ![2, 0, 128] ![1, 64, 128] inb_S8x64x1024_S1x64x128_2_0_128, k0_pay121 (k0_pay120 (View.ld x5 (Rect.unit ![0, 2, 0, 0] ![1, 1, 64, 128] inb_S1x8x64x128_S1x1x64x128_0_2_0_0)))⟩,
      ⟨Rect.unit ![1, 0, 128] ![1, 64, 128] inb_S8x64x1024_S1x64x128_1_0_128, k0_pay118 (View.ld x5 (Rect.unit ![0, 1, 0, 0] ![1, 1, 64, 128] inb_S1x8x64x128_S1x1x64x128_0_1_0_0))⟩,
      ⟨Rect.unit ![0, 0, 128] ![1, 64, 128] inb_S8x64x1024_S1x64x128_0_0_128, k0_pay116 (View.ld x5 (Rect.unit ![0, 0, 0, 0] ![1, 1, 64, 128] inb_S1x8x64x128_S1x1x64x128_0_0_0_0))⟩,
      ⟨Rect.unit ![7, 0, 0] ![1, 64, 128] inb_S8x64x1024_S1x64x128_7_0_0, k0_pay114 (View.ld x4 (Rect.unit ![0, 7, 0, 0] ![1, 1, 64, 128] inb_S1x8x64x128_S1x1x64x128_0_7_0_0))⟩,
      ⟨Rect.unit ![6, 0, 0] ![1, 64, 128] inb_S8x64x1024_S1x64x128_6_0_0, k0_pay112 (View.ld x4 (Rect.unit ![0, 6, 0, 0] ![1, 1, 64, 128] inb_S1x8x64x128_S1x1x64x128_0_6_0_0))⟩,
      ⟨Rect.unit ![5, 0, 0] ![1, 64, 128] inb_S8x64x1024_S1x64x128_5_0_0, k0_pay109 (View.ld x4 (Rect.unit ![0, 5, 0, 0] ![1, 1, 64, 128] inb_S1x8x64x128_S1x1x64x128_0_5_0_0))⟩,
      ⟨Rect.unit ![4, 0, 0] ![1, 64, 128] inb_S8x64x1024_S1x64x128_4_0_0, k0_pay107 (View.ld x4 (Rect.unit ![0, 4, 0, 0] ![1, 1, 64, 128] inb_S1x8x64x128_S1x1x64x128_0_4_0_0))⟩,
      ⟨Rect.unit ![3, 0, 0] ![1, 64, 128] inb_S8x64x1024_S1x64x128_3_0_0, k0_pay104 (View.ld x4 (Rect.unit ![0, 3, 0, 0] ![1, 1, 64, 128] inb_S1x8x64x128_S1x1x64x128_0_3_0_0))⟩,
      ⟨Rect.unit ![2, 0, 0] ![1, 64, 128] inb_S8x64x1024_S1x64x128_2_0_0, k0_pay102 (View.ld x4 (Rect.unit ![0, 2, 0, 0] ![1, 1, 64, 128] inb_S1x8x64x128_S1x1x64x128_0_2_0_0))⟩,
      ⟨Rect.unit ![1, 0, 0] ![1, 64, 128] inb_S8x64x1024_S1x64x128_1_0_0, k0_pay100 (View.ld x4 (Rect.unit ![0, 1, 0, 0] ![1, 1, 64, 128] inb_S1x8x64x128_S1x1x64x128_0_1_0_0))⟩,
      ⟨Rect.unit ![0, 0, 0] ![1, 64, 128] inb_S8x64x1024_S1x64x128_0_0_0, k0_pay98 (View.ld x4 (Rect.unit ![0, 0, 0, 0] ![1, 1, 64, 128] inb_S1x8x64x128_S1x1x64x128_0_0_0_0))⟩] B
      = fun j => pages ![x4, x5, x6, x7, x8, x9, x10, x11] (B.idx j) := by
  rw [View.readCov_eq_canon']
  funext j
  generalize B.idx j = z
  canon_tiles y hz
  · exact tile_eq ![x4, x5, x6, x7, x8, x9, x10, x11] 7 7 (by decide) x11 rfl _ y z (by omega) (by omega) (by show _ = 896 + _; omega)
  · exact tile_eq ![x4, x5, x6, x7, x8, x9, x10, x11] 7 6 (by decide) x11 rfl _ y z (by omega) (by omega) (by show _ = 896 + _; omega)
  · exact tile_eq ![x4, x5, x6, x7, x8, x9, x10, x11] 7 5 (by decide) x11 rfl _ y z (by omega) (by omega) (by show _ = 896 + _; omega)
  · exact tile_eq ![x4, x5, x6, x7, x8, x9, x10, x11] 7 4 (by decide) x11 rfl _ y z (by omega) (by omega) (by show _ = 896 + _; omega)
  · exact tile_eq ![x4, x5, x6, x7, x8, x9, x10, x11] 7 3 (by decide) x11 rfl _ y z (by omega) (by omega) (by show _ = 896 + _; omega)
  · exact tile_eq ![x4, x5, x6, x7, x8, x9, x10, x11] 7 2 (by decide) x11 rfl _ y z (by omega) (by omega) (by show _ = 896 + _; omega)
  · exact tile_eq ![x4, x5, x6, x7, x8, x9, x10, x11] 7 1 (by decide) x11 rfl _ y z (by omega) (by omega) (by show _ = 896 + _; omega)
  · exact tile_eq ![x4, x5, x6, x7, x8, x9, x10, x11] 7 0 (by decide) x11 rfl _ y z (by omega) (by omega) (by show _ = 896 + _; omega)
  · exact tile_eq ![x4, x5, x6, x7, x8, x9, x10, x11] 6 7 (by decide) x10 rfl _ y z (by omega) (by omega) (by show _ = 768 + _; omega)
  · exact tile_eq ![x4, x5, x6, x7, x8, x9, x10, x11] 6 6 (by decide) x10 rfl _ y z (by omega) (by omega) (by show _ = 768 + _; omega)
  · exact tile_eq ![x4, x5, x6, x7, x8, x9, x10, x11] 6 5 (by decide) x10 rfl _ y z (by omega) (by omega) (by show _ = 768 + _; omega)
  · exact tile_eq ![x4, x5, x6, x7, x8, x9, x10, x11] 6 4 (by decide) x10 rfl _ y z (by omega) (by omega) (by show _ = 768 + _; omega)
  · exact tile_eq ![x4, x5, x6, x7, x8, x9, x10, x11] 6 3 (by decide) x10 rfl _ y z (by omega) (by omega) (by show _ = 768 + _; omega)
  · exact tile_eq ![x4, x5, x6, x7, x8, x9, x10, x11] 6 2 (by decide) x10 rfl _ y z (by omega) (by omega) (by show _ = 768 + _; omega)
  · exact tile_eq ![x4, x5, x6, x7, x8, x9, x10, x11] 6 1 (by decide) x10 rfl _ y z (by omega) (by omega) (by show _ = 768 + _; omega)
  · exact tile_eq ![x4, x5, x6, x7, x8, x9, x10, x11] 6 0 (by decide) x10 rfl _ y z (by omega) (by omega) (by show _ = 768 + _; omega)
  · exact tile_eq ![x4, x5, x6, x7, x8, x9, x10, x11] 5 7 (by decide) x9 rfl _ y z (by omega) (by omega) (by show _ = 640 + _; omega)
  · exact tile_eq ![x4, x5, x6, x7, x8, x9, x10, x11] 5 6 (by decide) x9 rfl _ y z (by omega) (by omega) (by show _ = 640 + _; omega)
  · exact tile_eq ![x4, x5, x6, x7, x8, x9, x10, x11] 5 5 (by decide) x9 rfl _ y z (by omega) (by omega) (by show _ = 640 + _; omega)
  · exact tile_eq ![x4, x5, x6, x7, x8, x9, x10, x11] 5 4 (by decide) x9 rfl _ y z (by omega) (by omega) (by show _ = 640 + _; omega)
  · exact tile_eq ![x4, x5, x6, x7, x8, x9, x10, x11] 5 3 (by decide) x9 rfl _ y z (by omega) (by omega) (by show _ = 640 + _; omega)
  · exact tile_eq ![x4, x5, x6, x7, x8, x9, x10, x11] 5 2 (by decide) x9 rfl _ y z (by omega) (by omega) (by show _ = 640 + _; omega)
  · exact tile_eq ![x4, x5, x6, x7, x8, x9, x10, x11] 5 1 (by decide) x9 rfl _ y z (by omega) (by omega) (by show _ = 640 + _; omega)
  · exact tile_eq ![x4, x5, x6, x7, x8, x9, x10, x11] 5 0 (by decide) x9 rfl _ y z (by omega) (by omega) (by show _ = 640 + _; omega)
  · exact tile_eq ![x4, x5, x6, x7, x8, x9, x10, x11] 4 7 (by decide) x8 rfl _ y z (by omega) (by omega) (by show _ = 512 + _; omega)
  · exact tile_eq ![x4, x5, x6, x7, x8, x9, x10, x11] 4 6 (by decide) x8 rfl _ y z (by omega) (by omega) (by show _ = 512 + _; omega)
  · exact tile_eq ![x4, x5, x6, x7, x8, x9, x10, x11] 4 5 (by decide) x8 rfl _ y z (by omega) (by omega) (by show _ = 512 + _; omega)
  · exact tile_eq ![x4, x5, x6, x7, x8, x9, x10, x11] 4 4 (by decide) x8 rfl _ y z (by omega) (by omega) (by show _ = 512 + _; omega)
  · exact tile_eq ![x4, x5, x6, x7, x8, x9, x10, x11] 4 3 (by decide) x8 rfl _ y z (by omega) (by omega) (by show _ = 512 + _; omega)
  · exact tile_eq ![x4, x5, x6, x7, x8, x9, x10, x11] 4 2 (by decide) x8 rfl _ y z (by omega) (by omega) (by show _ = 512 + _; omega)
  · exact tile_eq ![x4, x5, x6, x7, x8, x9, x10, x11] 4 1 (by decide) x8 rfl _ y z (by omega) (by omega) (by show _ = 512 + _; omega)
  · exact tile_eq ![x4, x5, x6, x7, x8, x9, x10, x11] 4 0 (by decide) x8 rfl _ y z (by omega) (by omega) (by show _ = 512 + _; omega)
  · exact tile_eq ![x4, x5, x6, x7, x8, x9, x10, x11] 3 7 (by decide) x7 rfl _ y z (by omega) (by omega) (by show _ = 384 + _; omega)
  · exact tile_eq ![x4, x5, x6, x7, x8, x9, x10, x11] 3 6 (by decide) x7 rfl _ y z (by omega) (by omega) (by show _ = 384 + _; omega)
  · exact tile_eq ![x4, x5, x6, x7, x8, x9, x10, x11] 3 5 (by decide) x7 rfl _ y z (by omega) (by omega) (by show _ = 384 + _; omega)
  · exact tile_eq ![x4, x5, x6, x7, x8, x9, x10, x11] 3 4 (by decide) x7 rfl _ y z (by omega) (by omega) (by show _ = 384 + _; omega)
  · exact tile_eq ![x4, x5, x6, x7, x8, x9, x10, x11] 3 3 (by decide) x7 rfl _ y z (by omega) (by omega) (by show _ = 384 + _; omega)
  · exact tile_eq ![x4, x5, x6, x7, x8, x9, x10, x11] 3 2 (by decide) x7 rfl _ y z (by omega) (by omega) (by show _ = 384 + _; omega)
  · exact tile_eq ![x4, x5, x6, x7, x8, x9, x10, x11] 3 1 (by decide) x7 rfl _ y z (by omega) (by omega) (by show _ = 384 + _; omega)
  · exact tile_eq ![x4, x5, x6, x7, x8, x9, x10, x11] 3 0 (by decide) x7 rfl _ y z (by omega) (by omega) (by show _ = 384 + _; omega)
  · exact tile_eq ![x4, x5, x6, x7, x8, x9, x10, x11] 2 7 (by decide) x6 rfl _ y z (by omega) (by omega) (by show _ = 256 + _; omega)
  · exact tile_eq ![x4, x5, x6, x7, x8, x9, x10, x11] 2 6 (by decide) x6 rfl _ y z (by omega) (by omega) (by show _ = 256 + _; omega)
  · exact tile_eq ![x4, x5, x6, x7, x8, x9, x10, x11] 2 5 (by decide) x6 rfl _ y z (by omega) (by omega) (by show _ = 256 + _; omega)
  · exact tile_eq ![x4, x5, x6, x7, x8, x9, x10, x11] 2 4 (by decide) x6 rfl _ y z (by omega) (by omega) (by show _ = 256 + _; omega)
  · exact tile_eq ![x4, x5, x6, x7, x8, x9, x10, x11] 2 3 (by decide) x6 rfl _ y z (by omega) (by omega) (by show _ = 256 + _; omega)
  · exact tile_eq ![x4, x5, x6, x7, x8, x9, x10, x11] 2 2 (by decide) x6 rfl _ y z (by omega) (by omega) (by show _ = 256 + _; omega)
  · exact tile_eq ![x4, x5, x6, x7, x8, x9, x10, x11] 2 1 (by decide) x6 rfl _ y z (by omega) (by omega) (by show _ = 256 + _; omega)
  · exact tile_eq ![x4, x5, x6, x7, x8, x9, x10, x11] 2 0 (by decide) x6 rfl _ y z (by omega) (by omega) (by show _ = 256 + _; omega)
  · exact tile_eq ![x4, x5, x6, x7, x8, x9, x10, x11] 1 7 (by decide) x5 rfl _ y z (by omega) (by omega) (by show _ = 128 + _; omega)
  · exact tile_eq ![x4, x5, x6, x7, x8, x9, x10, x11] 1 6 (by decide) x5 rfl _ y z (by omega) (by omega) (by show _ = 128 + _; omega)
  · exact tile_eq ![x4, x5, x6, x7, x8, x9, x10, x11] 1 5 (by decide) x5 rfl _ y z (by omega) (by omega) (by show _ = 128 + _; omega)
  · exact tile_eq ![x4, x5, x6, x7, x8, x9, x10, x11] 1 4 (by decide) x5 rfl _ y z (by omega) (by omega) (by show _ = 128 + _; omega)
  · exact tile_eq ![x4, x5, x6, x7, x8, x9, x10, x11] 1 3 (by decide) x5 rfl _ y z (by omega) (by omega) (by show _ = 128 + _; omega)
  · exact tile_eq ![x4, x5, x6, x7, x8, x9, x10, x11] 1 2 (by decide) x5 rfl _ y z (by omega) (by omega) (by show _ = 128 + _; omega)
  · exact tile_eq ![x4, x5, x6, x7, x8, x9, x10, x11] 1 1 (by decide) x5 rfl _ y z (by omega) (by omega) (by show _ = 128 + _; omega)
  · exact tile_eq ![x4, x5, x6, x7, x8, x9, x10, x11] 1 0 (by decide) x5 rfl _ y z (by omega) (by omega) (by show _ = 128 + _; omega)
  · exact tile_eq ![x4, x5, x6, x7, x8, x9, x10, x11] 0 7 (by decide) x4 rfl _ y z (by omega) (by omega) (by show _ = 0 + _; omega)
  · exact tile_eq ![x4, x5, x6, x7, x8, x9, x10, x11] 0 6 (by decide) x4 rfl _ y z (by omega) (by omega) (by show _ = 0 + _; omega)
  · exact tile_eq ![x4, x5, x6, x7, x8, x9, x10, x11] 0 5 (by decide) x4 rfl _ y z (by omega) (by omega) (by show _ = 0 + _; omega)
  · exact tile_eq ![x4, x5, x6, x7, x8, x9, x10, x11] 0 4 (by decide) x4 rfl _ y z (by omega) (by omega) (by show _ = 0 + _; omega)
  · exact tile_eq ![x4, x5, x6, x7, x8, x9, x10, x11] 0 3 (by decide) x4 rfl _ y z (by omega) (by omega) (by show _ = 0 + _; omega)
  · exact tile_eq ![x4, x5, x6, x7, x8, x9, x10, x11] 0 2 (by decide) x4 rfl _ y z (by omega) (by omega) (by show _ = 0 + _; omega)
  · exact tile_eq ![x4, x5, x6, x7, x8, x9, x10, x11] 0 1 (by decide) x4 rfl _ y z (by omega) (by omega) (by show _ = 0 + _; omega)
  · exact tile_eq ![x4, x5, x6, x7, x8, x9, x10, x11] 0 0 (by decide) x4 rfl _ y z (by omega) (by omega) (by show _ = 0 + _; omega)

/-- The buffer of the values, loaded. -/
theorem vbuf {κ : Kind} {sp : Space} (v : View sig κ sp S8x64x1024 .bf16) (B : LoadRect S8x64x1024)
    (x12 x13 x14 x15 x16 x17 x18 x19 : Vec Ideal S1x8x64x128 .f32) :
    v.readCov (Val := Elt Ideal) [⟨Rect.unit ![7, 0, 896] ![1, 64, 128] inb_S8x64x1024_S1x64x128_7_0_896, @shapeCast S64x128 (Ideal FTy.bf16) S1x64x128 (k0_pay241 (View.ld x19 (Rect.unit ![0, 7, 0, 0] ![1, 1, 64, 128] inb_S1x8x64x128_S1x1x64x128_0_7_0_0))) shapeCasts_S64x128_S1x64x128⟩,
      ⟨Rect.unit ![6, 0, 896] ![1, 64, 128] inb_S8x64x1024_S1x64x128_6_0_896, k0_pay239 (View.ld x19 (Rect.unit ![0, 6, 0, 0] ![1, 1, 64, 128] inb_S1x8x64x128_S1x1x64x128_0_6_0_0))⟩,
      ⟨Rect.unit ![5, 0, 896] ![1, 64, 128] inb_S8x64x1024_S1x64x128_5_0_896, k0_pay237 (View.ld x19 (Rect.unit ![0, 5, 0, 0] ![1, 1, 64, 128] inb_S1x8x64x128_S1x1x64x128_0_5_0_0))⟩,
      ⟨Rect.unit ![4, 0, 896] ![1, 64, 128] inb_S8x64x1024_S1x64x128_4_0_896, k0_pay235 (View.ld x19 (Rect.unit ![0, 4, 0, 0] ![1, 1, 64, 128] inb_S1x8x64x128_S1x1x64x128_0_4_0_0))⟩,
      ⟨Rect.unit ![3, 0, 896] ![1, 64, 128] inb_S8x64x1024_S1x64x128_3_0_896, k0_pay233 (View.ld x19 (Rect.unit ![0, 3, 0, 0] ![1, 1, 64, 128] inb_S1x8x64x128_S1x1x64x128_0_3_0_0))⟩,
      ⟨Rect.unit ![2, 0, 896] ![1, 64, 128] inb_S8x64x1024_S1x64x128_2_0_896, k0_pay231 (View.ld x19 (Rect.unit ![0, 2, 0, 0] ![1, 1, 64, 128] inb_S1x8x64x128_S1x1x64x128_0_2_0_0))⟩,
      ⟨Rect.unit ![1, 0, 896] ![1, 64, 128] inb_S8x64x1024_S1x64x128_1_0_896, k0_pay229 (View.ld x19 (Rect.unit ![0, 1, 0, 0] ![1, 1, 64, 128] inb_S1x8x64x128_S1x1x64x128_0_1_0_0))⟩,
      ⟨Rect.unit ![0, 0, 896] ![1, 64, 128] inb_S8x64x1024_S1x64x128_0_0_896, k0_pay226 (View.ld x19 (Rect.unit ![0, 0, 0, 0] ![1, 1, 64, 128] inb_S1x8x64x128_S1x1x64x128_0_0_0_0))⟩,
      ⟨Rect.unit ![7, 0, 768] ![1, 64, 128] inb_S8x64x1024_S1x64x128_7_0_768, k0_pay224 (View.ld x18 (Rect.unit ![0, 7, 0, 0] ![1, 1, 64, 128] inb_S1x8x64x128_S1x1x64x128_0_7_0_0))⟩,
      ⟨Rect.unit ![6, 0, 768] ![1, 64, 128] inb_S8x64x1024_S1x64x128_6_0_768, k0_pay221 (View.ld x18 (Rect.unit ![0, 6, 0, 0] ![1, 1, 64, 128] inb_S1x8x64x128_S1x1x64x128_0_6_0_0))⟩,
      ⟨Rect.unit ![5, 0, 768] ![1, 64, 128] inb_S8x64x1024_S1x64x128_5_0_768, k0_pay219 (View.ld x18 (Rect.unit ![0, 5, 0, 0] ![1, 1, 64, 128] inb_S1x8x64x128_S1x1x64x128_0_5_0_0))⟩,
      ⟨Rect.unit ![4, 0, 768] ![1, 64, 128] inb_S8x64x1024_S1x64x128_4_0_768, k0_pay217 (View.ld x18 (Rect.unit ![0, 4, 0, 0] ![1, 1, 64, 128] inb_S1x8x64x128_S1x1x64x128_0_4_0_0))⟩,
      ⟨Rect.unit ![3, 0, 768] ![1, 64, 128] inb_S8x64x1024_S1x64x128_3_0_768, k0_pay215 (View.ld x18 (Rect.unit ![0, 3, 0, 0] ![1, 1, 64, 128] inb_S1x8x64x128_S1x1x64x128_0_3_0_0))⟩,
      ⟨Rect.unit ![2, 0, 768] ![1, 64, 128] inb_S8x64x1024_S1x64x128_2_0_768, k0_pay213 (k0_pay212 (View.ld x18 (Rect.unit ![0, 2, 0, 0] ![1, 1, 64, 128] inb_S1x8x64x128_S1x1x64x128_0_2_0_0)))⟩,
      ⟨Rect.unit ![1, 0, 768] ![1, 64, 128] inb_S8x64x1024_S1x64x128_1_0_768, k0_pay210 (View.ld x18 (Rect.unit ![0, 1, 0, 0] ![1, 1, 64, 128] inb_S1x8x64x128_S1x1x64x128_0_1_0_0))⟩,
      ⟨Rect.unit ![0, 0, 768] ![1, 64, 128] inb_S8x64x1024_S1x64x128_0_0_768, k0_pay208 (k0_pay207 (View.ld x18 (Rect.unit ![0, 0, 0, 0] ![1, 1, 64, 128] inb_S1x8x64x128_S1x1x64x128_0_0_0_0)))⟩,
      ⟨Rect.unit ![7, 0, 640] ![1, 64, 128] inb_S8x64x1024_S1x64x128_7_0_640, k0_pay205 (View.ld x17 (Rect.unit ![0, 7, 0, 0] ![1, 1, 64, 128] inb_S1x8x64x128_S1x1x64x128_0_7_0_0))⟩,
      ⟨Rect.unit ![6, 0, 640] ![1, 64, 128] inb_S8x64x1024_S1x64x128_6_0_640, k0_pay203 (View.ld x17 (Rect.unit ![0, 6, 0, 0] ![1, 1, 64, 128] inb_S1x8x64x128_S1x1x64x128_0_6_0_0))⟩,
      ⟨Rect.unit ![5, 0, 640] ![1, 64, 128] inb_S8x64x1024_S1x64x128_5_0_640, k0_pay201 (View.ld x17 (Rect.unit ![0, 5, 0, 0] ![1, 1, 64, 128] inb_S1x8x64x128_S1x1x64x128_0_5_0_0))⟩,
      ⟨Rect.unit ![4, 0, 640] ![1, 64, 128] inb_S8x64x1024_S1x64x128_4_0_640, k0_pay199 (View.ld x17 (Rect.unit ![0, 4, 0, 0] ![1, 1, 64, 128] inb_S1x8x64x128_S1x1x64x128_0_4_0_0))⟩,
      ⟨Rect.unit ![3, 0, 640] ![1, 64, 128] inb_S8x64x1024_S1x64x128_3_0_640, k0_pay197 (View.ld x17 (Rect.unit ![0, 3, 0, 0] ![1, 1, 64, 128] inb_S1x8x64x128_S1x1x64x128_0_3_0_0))⟩,
      ⟨Rect.unit ![2, 0, 640] ![1, 64, 128] inb_S8x64x1024_S1x64x128_2_0_640, k0_pay195 (View.ld x17 (Rect.unit ![0, 2, 0, 0] ![1, 1, 64, 128] inb_S1x8x64x128_S1x1x64x128_0_2_0_0))⟩,
      ⟨Rect.unit ![1, 0, 640] ![1, 64, 128] inb_S8x64x1024_S1x64x128_1_0_640, k0_pay192 (View.ld x17 (Rect.unit ![0, 1, 0, 0] ![1, 1, 64, 128] inb_S1x8x64x128_S1x1x64x128_0_1_0_0))⟩,
      ⟨Rect.unit ![0, 0, 640] ![1, 64, 128] inb_S8x64x1024_S1x64x128_0_0_640, k0_pay190 (View.ld x17 (Rect.unit ![0, 0, 0, 0] ![1, 1, 64, 128] inb_S1x8x64x128_S1x1x64x128_0_0_0_0))⟩,
      ⟨Rect.unit ![7, 0, 512] ![1, 64, 128] inb_S8x64x1024_S1x64x128_7_0_512, k0_pay187 (View.ld x16 (Rect.unit ![0, 7, 0, 0] ![1, 1, 64, 128] inb_S1x8x64x128_S1x1x64x128_0_7_0_0))⟩,
      ⟨Rect.unit ![6, 0, 512] ![1, 64, 128] inb_S8x64x1024_S1x64x128_6_0_512, k0_pay185 (View.ld x16 (Rect.unit ![0, 6, 0, 0] ![1, 1, 64, 128] inb_S1x8x64x128_S1x1x64x128_0_6_0_0))⟩,
      ⟨Rect.unit ![5, 0, 512] ![1, 64, 128] inb_S8x64x1024_S1x64x128_5_0_512, k0_pay183 (View.ld x16 (Rect.unit ![0, 5, 0, 0] ![1, 1, 64, 128] inb_S1x8x64x128_S1x1x64x128_0_5_0_0))⟩,
      ⟨Rect.unit ![4, 0, 512] ![1, 64, 128] inb_S8x64x1024_S1x64x128_4_0_512, k0_pay181 (View.ld x16 (Rect.unit ![0, 4, 0, 0] ![1, 1, 64, 128] inb_S1x8x64x128_S1x1x64x128_0_4_0_0))⟩,
      ⟨Rect.unit ![3, 0, 512] ![1, 64, 128] inb_S8x64x1024_S1x64x128_3_0_512, k0_pay179 (k0_pay178 (View.ld x16 (Rect.unit ![0, 3, 0, 0] ![1, 1, 64, 128] inb_S1x8x64x128_S1x1x64x128_0_3_0_0)))⟩,
      ⟨Rect.unit ![2, 0, 512] ![1, 64, 128] inb_S8x64x1024_S1x64x128_2_0_512, k0_pay176 (View.ld x16 (Rect.unit ![0, 2, 0, 0] ![1, 1, 64, 128] inb_S1x8x64x128_S1x1x64x128_0_2_0_0))⟩,
      ⟨Rect.unit ![1, 0, 512] ![1, 64, 128] inb_S8x64x1024_S1x64x128_1_0_512, k0_pay174 (k0_pay173 (View.ld x16 (Rect.unit ![0, 1, 0, 0] ![1, 1, 64, 128] inb_S1x8x64x128_S1x1x64x128_0_1_0_0)))⟩,
      ⟨Rect.unit ![0, 0, 512] ![1, 64, 128] inb_S8x64x1024_S1x64x128_0_0_512, k0_pay171 (View.ld x16 (Rect.unit ![0, 0, 0, 0] ![1, 1, 64, 128] inb_S1x8x64x128_S1x1x64x128_0_0_0_0))⟩,
      ⟨Rect.unit ![7, 0, 384] ![1, 64, 128] inb_S8x64x1024_S1x64x128_7_0_384, k0_pay169 (View.ld x15 (Rect.unit ![0, 7, 0, 0] ![1, 1, 64, 128] inb_S1x8x64x128_S1x1x64x128_0_7_0_0))⟩,
      ⟨Rect.unit ![6, 0, 384] ![1, 64, 128] inb_S8x64x1024_S1x64x128_6_0_384, k0_pay167 (View.ld x15 (Rect.unit ![0, 6, 0, 0] ![1, 1, 64, 128] inb_S1x8x64x128_S1x1x64x128_0_6_0_0))⟩,
      ⟨Rect.unit ![5, 0, 384] ![1, 64, 128] inb_S8x64x1024_S1x64x128_5_0_384, k0_pay165 (View.ld x15 (Rect.unit ![0, 5, 0, 0] ![1, 1, 64, 128] inb_S1x8x64x128_S1x1x64x128_0_5_0_0))⟩,
      ⟨Rect.unit ![4, 0, 384] ![1, 64, 128] inb_S8x64x1024_S1x64x128_4_0_384, k0_pay163 (View.ld x15 (Rect.unit ![0, 4, 0, 0] ![1, 1, 64, 128] inb_S1x8x64x128_S1x1x64x128_0_4_0_0))⟩,
      ⟨Rect.unit ![3, 0, 384] ![1, 64, 128] inb_S8x64x1024_S1x64x128_3_0_384, k0_pay161 (View.ld x15 (Rect.unit ![0, 3, 0, 0] ![1, 1, 64, 128] inb_S1x8x64x128_S1x1x64x128_0_3_0_0))⟩,
      ⟨Rect.unit ![2, 0, 384] ![1, 64, 128] inb_S8x64x1024_S1x64x128_2_0_384, k0_pay158 (View.ld x15 (Rect.unit ![0, 2, 0, 0] ![1, 1, 64, 128] inb_S1x8x64x128_S1x1x64x128_0_2_0_0))⟩,
      ⟨Rect.unit ![1, 0, 384] ![1, 64, 128] inb_S8x64x1024_S1x64x128_1_0_384, k0_pay156 (View.ld x15 (Rect.unit ![0, 1, 0, 0] ![1, 1, 64, 128] inb_S1x8x64x128_S1x1x64x128_0_1_0_0))⟩,
      ⟨Rect.unit ![0, 0, 384] ![1, 64, 128] inb_S8x64x1024_S1x64x128_0_0_384, k0_pay153 (View.ld x15 (Rect.unit ![0, 0, 0, 0] ![1, 1, 64, 128] inb_S1x8x64x128_S1x1x64x128_0_0_0_0))⟩,
      ⟨Rect.unit ![7, 0, 256] ![1, 64, 128] inb_S8x64x1024_S1x64x128_7_0_256, k0_pay151 (View.ld x14 (Rect.unit ![0, 7, 0, 0] ![1, 1, 64, 128] inb_S1x8x64x128_S1x1x64x128_0_7_0_0))⟩,
      ⟨Rect.unit ![6, 0, 256] ![1, 64, 128] inb_S8x64x1024_S1x64x128_6_0_256, k0_pay149 (View.ld x14 (Rect.unit ![0, 6, 0, 0] ![1, 1, 64, 128] inb_S1x8x64x128_S1x1x64x128_0_6_0_0))⟩,
      ⟨Rect.unit ![5, 0, 256] ![1, 64, 128] inb_S8x64x1024_S1x64x128_5_0_256, k0_pay147 (View.ld x14 (Rect.unit ![0, 5, 0, 0] ![1, 1, 64, 128] inb_S1x8x64x128_S1x1x64x128_0_5_0_0))⟩,
      ⟨Rect.unit ![4, 0, 256] ![1, 64, 128] inb_S8x64x1024_S1x64x128_4_0_256, k0_pay145 (k0_pay144 (View.ld x14 (Rect.unit ![0, 4, 0, 0] ![1, 1, 64, 128] inb_S1x8x64x128_S1x1x64x128_0_4_0_0)))⟩,
      ⟨Rect.unit ![3, 0, 256] ![1, 64, 128] inb_S8x64x1024_S1x64x128_3_0_256, k0_pay142 (View.ld x14 (Rect.unit ![0, 3, 0, 0] ![1, 1, 64, 128] inb_S1x8x64x128_S1x1x64x128_0_3_0_0))⟩,
      ⟨Rect.unit ![2, 0, 256] ![1, 64, 128] inb_S8x64x1024_S1x64x128_2_0_256, k0_pay140 (k0_pay139 (View.ld x14 (Rect.unit ![0, 2, 0, 0] ![1, 1, 64, 128] inb_S1x8x64x128_S1x1x64x128_0_2_0_0)))⟩,
      ⟨Rect.unit ![1, 0, 256] ![1, 64, 128] inb_S8x64x1024_S1x64x128_1_0_256, k0_pay137 (View.ld x14 (Rect.unit ![0, 1, 0, 0] ![1, 1, 64, 128] inb_S1x8x64x128_S1x1x64x128_0_1_0_0))⟩,
      ⟨Rect.unit ![0, 0, 256] ![1, 64, 128] inb_S8x64x1024_S1x64x128_0_0_256, k0_pay135 (View.ld x14 (Rect.unit ![0, 0, 0, 0] ![1, 1, 64, 128] inb_S1x8x64x128_S1x1x64x128_0_0_0_0))⟩,
      ⟨Rect.unit ![7, 0, 128] ![1, 64, 128] inb_S8x64x1024_S1x64x128_7_0_128, k0_pay133 (View.ld x13 (Rect.unit ![0, 7, 0, 0] ![1, 1, 64, 128] inb_S1x8x64x128_S1x1x64x128_0_7_0_0))⟩,
      ⟨Rect.unit ![6, 0, 128] ![1, 64, 128] inb_S8x64x1024_S1x64x128_6_0_128, k0_pay131 (View.ld x13 (Rect.unit ![0, 6, 0, 0] ![1, 1, 64, 128] inb_S1x8x64x128_S1x1x64x128_0_6_0_0))⟩,
      ⟨Rect.unit ![5, 0, 128] ![1, 64, 128] inb_S8x64x1024_S1x64x128_5_0_128, k0_pay129 (View.ld x13 (Rect.unit ![0, 5, 0, 0] ![1, 1, 64, 128] inb_S1x8x64x128_S1x1x64x128_0_5_0_0))⟩,
      ⟨Rect.unit ![4, 0, 128] ![1, 64, 128] inb_S8x64x1024_S1x64x128_4_0_128, k0_pay127 (View.ld x13 (Rect.unit ![0, 4, 0, 0] ![1, 1, 64, 128] inb_S1x8x64x128_S1x1x64x128_0_4_0_0))⟩,
      ⟨Rect.unit ![3, 0, 128] ![1, 64, 128] inb_S8x64x1024_S1x64x128_3_0_128, k0_pay124 (View.ld x13 (Rect.unit ![0, 3, 0, 0] ![1, 1, 64, 128] inb_S1x8x64x128_S1x1x64x128_0_3_0_0))⟩,
      ⟨Rect.unit ![2, 0, 128] ![1, 64, 128] inb_S8x64x1024_S1x64x128_2_0_128, k0_pay122 (View.ld x13 (Rect.unit ![0, 2, 0, 0] ![1, 1, 64, 128] inb_S1x8x64x128_S1x1x64x128_0_2_0_0))⟩,
      ⟨Rect.unit ![1, 0, 128] ![1, 64, 128] inb_S8x64x1024_S1x64x128_1_0_128, k0_pay119 (View.ld x13 (Rect.unit ![0, 1, 0, 0] ![1, 1, 64, 128] inb_S1x8x64x128_S1x1x64x128_0_1_0_0))⟩,
      ⟨Rect.unit ![0, 0, 128] ![1, 64, 128] inb_S8x64x1024_S1x64x128_0_0_128, k0_pay117 (View.ld x13 (Rect.unit ![0, 0, 0, 0] ![1, 1, 64, 128] inb_S1x8x64x128_S1x1x64x128_0_0_0_0))⟩,
      ⟨Rect.unit ![7, 0, 0] ![1, 64, 128] inb_S8x64x1024_S1x64x128_7_0_0, k0_pay115 (View.ld x12 (Rect.unit ![0, 7, 0, 0] ![1, 1, 64, 128] inb_S1x8x64x128_S1x1x64x128_0_7_0_0))⟩,
      ⟨Rect.unit ![6, 0, 0] ![1, 64, 128] inb_S8x64x1024_S1x64x128_6_0_0, k0_pay113 (View.ld x12 (Rect.unit ![0, 6, 0, 0] ![1, 1, 64, 128] inb_S1x8x64x128_S1x1x64x128_0_6_0_0))⟩,
      ⟨Rect.unit ![5, 0, 0] ![1, 64, 128] inb_S8x64x1024_S1x64x128_5_0_0, k0_pay111 (k0_pay110 (View.ld x12 (Rect.unit ![0, 5, 0, 0] ![1, 1, 64, 128] inb_S1x8x64x128_S1x1x64x128_0_5_0_0)))⟩,
      ⟨Rect.unit ![4, 0, 0] ![1, 64, 128] inb_S8x64x1024_S1x64x128_4_0_0, k0_pay108 (View.ld x12 (Rect.unit ![0, 4, 0, 0] ![1, 1, 64, 128] inb_S1x8x64x128_S1x1x64x128_0_4_0_0))⟩,
      ⟨Rect.unit ![3, 0, 0] ![1, 64, 128] inb_S8x64x1024_S1x64x128_3_0_0, k0_pay106 (k0_pay105 (View.ld x12 (Rect.unit ![0, 3, 0, 0] ![1, 1, 64, 128] inb_S1x8x64x128_S1x1x64x128_0_3_0_0)))⟩,
      ⟨Rect.unit ![2, 0, 0] ![1, 64, 128] inb_S8x64x1024_S1x64x128_2_0_0, k0_pay103 (View.ld x12 (Rect.unit ![0, 2, 0, 0] ![1, 1, 64, 128] inb_S1x8x64x128_S1x1x64x128_0_2_0_0))⟩,
      ⟨Rect.unit ![1, 0, 0] ![1, 64, 128] inb_S8x64x1024_S1x64x128_1_0_0, k0_pay101 (View.ld x12 (Rect.unit ![0, 1, 0, 0] ![1, 1, 64, 128] inb_S1x8x64x128_S1x1x64x128_0_1_0_0))⟩,
      ⟨Rect.unit ![0, 0, 0] ![1, 64, 128] inb_S8x64x1024_S1x64x128_0_0_0, k0_pay99 (View.ld x12 (Rect.unit ![0, 0, 0, 0] ![1, 1, 64, 128] inb_S1x8x64x128_S1x1x64x128_0_0_0_0))⟩] B
      = fun j => pages ![x12, x13, x14, x15, x16, x17, x18, x19] (B.idx j) := by
  rw [View.readCov_eq_canon']
  funext j
  generalize B.idx j = z
  canon_tiles y hz
  · exact tile_eq ![x12, x13, x14, x15, x16, x17, x18, x19] 7 7 (by decide) x19 rfl _ y z (by omega) (by omega) (by show _ = 896 + _; omega)
  · exact tile_eq ![x12, x13, x14, x15, x16, x17, x18, x19] 7 6 (by decide) x19 rfl _ y z (by omega) (by omega) (by show _ = 896 + _; omega)
  · exact tile_eq ![x12, x13, x14, x15, x16, x17, x18, x19] 7 5 (by decide) x19 rfl _ y z (by omega) (by omega) (by show _ = 896 + _; omega)
  · exact tile_eq ![x12, x13, x14, x15, x16, x17, x18, x19] 7 4 (by decide) x19 rfl _ y z (by omega) (by omega) (by show _ = 896 + _; omega)
  · exact tile_eq ![x12, x13, x14, x15, x16, x17, x18, x19] 7 3 (by decide) x19 rfl _ y z (by omega) (by omega) (by show _ = 896 + _; omega)
  · exact tile_eq ![x12, x13, x14, x15, x16, x17, x18, x19] 7 2 (by decide) x19 rfl _ y z (by omega) (by omega) (by show _ = 896 + _; omega)
  · exact tile_eq ![x12, x13, x14, x15, x16, x17, x18, x19] 7 1 (by decide) x19 rfl _ y z (by omega) (by omega) (by show _ = 896 + _; omega)
  · exact tile_eq ![x12, x13, x14, x15, x16, x17, x18, x19] 7 0 (by decide) x19 rfl _ y z (by omega) (by omega) (by show _ = 896 + _; omega)
  · exact tile_eq ![x12, x13, x14, x15, x16, x17, x18, x19] 6 7 (by decide) x18 rfl _ y z (by omega) (by omega) (by show _ = 768 + _; omega)
  · exact tile_eq ![x12, x13, x14, x15, x16, x17, x18, x19] 6 6 (by decide) x18 rfl _ y z (by omega) (by omega) (by show _ = 768 + _; omega)
  · exact tile_eq ![x12, x13, x14, x15, x16, x17, x18, x19] 6 5 (by decide) x18 rfl _ y z (by omega) (by omega) (by show _ = 768 + _; omega)
  · exact tile_eq ![x12, x13, x14, x15, x16, x17, x18, x19] 6 4 (by decide) x18 rfl _ y z (by omega) (by omega) (by show _ = 768 + _; omega)
  · exact tile_eq ![x12, x13, x14, x15, x16, x17, x18, x19] 6 3 (by decide) x18 rfl _ y z (by omega) (by omega) (by show _ = 768 + _; omega)
  · exact tile_eq ![x12, x13, x14, x15, x16, x17, x18, x19] 6 2 (by decide) x18 rfl _ y z (by omega) (by omega) (by show _ = 768 + _; omega)
  · exact tile_eq ![x12, x13, x14, x15, x16, x17, x18, x19] 6 1 (by decide) x18 rfl _ y z (by omega) (by omega) (by show _ = 768 + _; omega)
  · exact tile_eq ![x12, x13, x14, x15, x16, x17, x18, x19] 6 0 (by decide) x18 rfl _ y z (by omega) (by omega) (by show _ = 768 + _; omega)
  · exact tile_eq ![x12, x13, x14, x15, x16, x17, x18, x19] 5 7 (by decide) x17 rfl _ y z (by omega) (by omega) (by show _ = 640 + _; omega)
  · exact tile_eq ![x12, x13, x14, x15, x16, x17, x18, x19] 5 6 (by decide) x17 rfl _ y z (by omega) (by omega) (by show _ = 640 + _; omega)
  · exact tile_eq ![x12, x13, x14, x15, x16, x17, x18, x19] 5 5 (by decide) x17 rfl _ y z (by omega) (by omega) (by show _ = 640 + _; omega)
  · exact tile_eq ![x12, x13, x14, x15, x16, x17, x18, x19] 5 4 (by decide) x17 rfl _ y z (by omega) (by omega) (by show _ = 640 + _; omega)
  · exact tile_eq ![x12, x13, x14, x15, x16, x17, x18, x19] 5 3 (by decide) x17 rfl _ y z (by omega) (by omega) (by show _ = 640 + _; omega)
  · exact tile_eq ![x12, x13, x14, x15, x16, x17, x18, x19] 5 2 (by decide) x17 rfl _ y z (by omega) (by omega) (by show _ = 640 + _; omega)
  · exact tile_eq ![x12, x13, x14, x15, x16, x17, x18, x19] 5 1 (by decide) x17 rfl _ y z (by omega) (by omega) (by show _ = 640 + _; omega)
  · exact tile_eq ![x12, x13, x14, x15, x16, x17, x18, x19] 5 0 (by decide) x17 rfl _ y z (by omega) (by omega) (by show _ = 640 + _; omega)
  · exact tile_eq ![x12, x13, x14, x15, x16, x17, x18, x19] 4 7 (by decide) x16 rfl _ y z (by omega) (by omega) (by show _ = 512 + _; omega)
  · exact tile_eq ![x12, x13, x14, x15, x16, x17, x18, x19] 4 6 (by decide) x16 rfl _ y z (by omega) (by omega) (by show _ = 512 + _; omega)
  · exact tile_eq ![x12, x13, x14, x15, x16, x17, x18, x19] 4 5 (by decide) x16 rfl _ y z (by omega) (by omega) (by show _ = 512 + _; omega)
  · exact tile_eq ![x12, x13, x14, x15, x16, x17, x18, x19] 4 4 (by decide) x16 rfl _ y z (by omega) (by omega) (by show _ = 512 + _; omega)
  · exact tile_eq ![x12, x13, x14, x15, x16, x17, x18, x19] 4 3 (by decide) x16 rfl _ y z (by omega) (by omega) (by show _ = 512 + _; omega)
  · exact tile_eq ![x12, x13, x14, x15, x16, x17, x18, x19] 4 2 (by decide) x16 rfl _ y z (by omega) (by omega) (by show _ = 512 + _; omega)
  · exact tile_eq ![x12, x13, x14, x15, x16, x17, x18, x19] 4 1 (by decide) x16 rfl _ y z (by omega) (by omega) (by show _ = 512 + _; omega)
  · exact tile_eq ![x12, x13, x14, x15, x16, x17, x18, x19] 4 0 (by decide) x16 rfl _ y z (by omega) (by omega) (by show _ = 512 + _; omega)
  · exact tile_eq ![x12, x13, x14, x15, x16, x17, x18, x19] 3 7 (by decide) x15 rfl _ y z (by omega) (by omega) (by show _ = 384 + _; omega)
  · exact tile_eq ![x12, x13, x14, x15, x16, x17, x18, x19] 3 6 (by decide) x15 rfl _ y z (by omega) (by omega) (by show _ = 384 + _; omega)
  · exact tile_eq ![x12, x13, x14, x15, x16, x17, x18, x19] 3 5 (by decide) x15 rfl _ y z (by omega) (by omega) (by show _ = 384 + _; omega)
  · exact tile_eq ![x12, x13, x14, x15, x16, x17, x18, x19] 3 4 (by decide) x15 rfl _ y z (by omega) (by omega) (by show _ = 384 + _; omega)
  · exact tile_eq ![x12, x13, x14, x15, x16, x17, x18, x19] 3 3 (by decide) x15 rfl _ y z (by omega) (by omega) (by show _ = 384 + _; omega)
  · exact tile_eq ![x12, x13, x14, x15, x16, x17, x18, x19] 3 2 (by decide) x15 rfl _ y z (by omega) (by omega) (by show _ = 384 + _; omega)
  · exact tile_eq ![x12, x13, x14, x15, x16, x17, x18, x19] 3 1 (by decide) x15 rfl _ y z (by omega) (by omega) (by show _ = 384 + _; omega)
  · exact tile_eq ![x12, x13, x14, x15, x16, x17, x18, x19] 3 0 (by decide) x15 rfl _ y z (by omega) (by omega) (by show _ = 384 + _; omega)
  · exact tile_eq ![x12, x13, x14, x15, x16, x17, x18, x19] 2 7 (by decide) x14 rfl _ y z (by omega) (by omega) (by show _ = 256 + _; omega)
  · exact tile_eq ![x12, x13, x14, x15, x16, x17, x18, x19] 2 6 (by decide) x14 rfl _ y z (by omega) (by omega) (by show _ = 256 + _; omega)
  · exact tile_eq ![x12, x13, x14, x15, x16, x17, x18, x19] 2 5 (by decide) x14 rfl _ y z (by omega) (by omega) (by show _ = 256 + _; omega)
  · exact tile_eq ![x12, x13, x14, x15, x16, x17, x18, x19] 2 4 (by decide) x14 rfl _ y z (by omega) (by omega) (by show _ = 256 + _; omega)
  · exact tile_eq ![x12, x13, x14, x15, x16, x17, x18, x19] 2 3 (by decide) x14 rfl _ y z (by omega) (by omega) (by show _ = 256 + _; omega)
  · exact tile_eq ![x12, x13, x14, x15, x16, x17, x18, x19] 2 2 (by decide) x14 rfl _ y z (by omega) (by omega) (by show _ = 256 + _; omega)
  · exact tile_eq ![x12, x13, x14, x15, x16, x17, x18, x19] 2 1 (by decide) x14 rfl _ y z (by omega) (by omega) (by show _ = 256 + _; omega)
  · exact tile_eq ![x12, x13, x14, x15, x16, x17, x18, x19] 2 0 (by decide) x14 rfl _ y z (by omega) (by omega) (by show _ = 256 + _; omega)
  · exact tile_eq ![x12, x13, x14, x15, x16, x17, x18, x19] 1 7 (by decide) x13 rfl _ y z (by omega) (by omega) (by show _ = 128 + _; omega)
  · exact tile_eq ![x12, x13, x14, x15, x16, x17, x18, x19] 1 6 (by decide) x13 rfl _ y z (by omega) (by omega) (by show _ = 128 + _; omega)
  · exact tile_eq ![x12, x13, x14, x15, x16, x17, x18, x19] 1 5 (by decide) x13 rfl _ y z (by omega) (by omega) (by show _ = 128 + _; omega)
  · exact tile_eq ![x12, x13, x14, x15, x16, x17, x18, x19] 1 4 (by decide) x13 rfl _ y z (by omega) (by omega) (by show _ = 128 + _; omega)
  · exact tile_eq ![x12, x13, x14, x15, x16, x17, x18, x19] 1 3 (by decide) x13 rfl _ y z (by omega) (by omega) (by show _ = 128 + _; omega)
  · exact tile_eq ![x12, x13, x14, x15, x16, x17, x18, x19] 1 2 (by decide) x13 rfl _ y z (by omega) (by omega) (by show _ = 128 + _; omega)
  · exact tile_eq ![x12, x13, x14, x15, x16, x17, x18, x19] 1 1 (by decide) x13 rfl _ y z (by omega) (by omega) (by show _ = 128 + _; omega)
  · exact tile_eq ![x12, x13, x14, x15, x16, x17, x18, x19] 1 0 (by decide) x13 rfl _ y z (by omega) (by omega) (by show _ = 128 + _; omega)
  · exact tile_eq ![x12, x13, x14, x15, x16, x17, x18, x19] 0 7 (by decide) x12 rfl _ y z (by omega) (by omega) (by show _ = 0 + _; omega)
  · exact tile_eq ![x12, x13, x14, x15, x16, x17, x18, x19] 0 6 (by decide) x12 rfl _ y z (by omega) (by omega) (by show _ = 0 + _; omega)
  · exact tile_eq ![x12, x13, x14, x15, x16, x17, x18, x19] 0 5 (by decide) x12 rfl _ y z (by omega) (by omega) (by show _ = 0 + _; omega)
  · exact tile_eq ![x12, x13, x14, x15, x16, x17, x18, x19] 0 4 (by decide) x12 rfl _ y z (by omega) (by omega) (by show _ = 0 + _; omega)
  · exact tile_eq ![x12, x13, x14, x15, x16, x17, x18, x19] 0 3 (by decide) x12 rfl _ y z (by omega) (by omega) (by show _ = 0 + _; omega)
  · exact tile_eq ![x12, x13, x14, x15, x16, x17, x18, x19] 0 2 (by decide) x12 rfl _ y z (by omega) (by omega) (by show _ = 0 + _; omega)
  · exact tile_eq ![x12, x13, x14, x15, x16, x17, x18, x19] 0 1 (by decide) x12 rfl _ y z (by omega) (by omega) (by show _ = 0 + _; omega)
  · exact tile_eq ![x12, x13, x14, x15, x16, x17, x18, x19] 0 0 (by decide) x12 rfl _ y z (by omega) (by omega) (by show _ = 0 + _; omega)

end Cert.KernelIdeal.AttnVal

end
-- ==== Proof.AttnStep.lean ====
/-
  A step of the sample attention, for all eight heads at once.

  `nextM`, `nextL` and `nextA` are the three carried arrays after a block of `W` keys: the greatest logits, the masses
  and the weighted values, one `Softmax.State.next` for each head, row and dimension. The lemmas `m_head`, `l_head` and
  `a_head` say that the piece which the body stores for a head is the piece of these arrays.
-/
module

public import proofs.«01_k».proof.Proof.AttnBuf

@[expose] public section

set_option maxRecDepth 16384

noncomputable section

namespace Cert.KernelIdeal.AttnVal

open Cert.KernelIdeal Cert.KernelIdeal.Gen Cert.Softmax
open Idealize.ShloMosaic Idealize.ShloMosaic.TcCoe Idealize.ShloMosaic.Tactic

variable {W : ℕ}

/-- A row's logits at a head: its query against the keys, and the bias. -/
def logits (x0 : Vec Ideal S1x8x512 .f32) (K : Fin 8 → Fin 64 → Fin W → EReal) (B : Fin 8 → Fin W → EReal) (h r : Fin 8)
    (k : Fin W) : EReal :=
  (∑ d : Fin 64, x0 (ix3 (0 : Fin 1) r (⟨64 * h.val + d.val, by have := d.isLt; have := h.isLt; omega⟩ : Fin 512)) * K h d k) + B r k

/-- The greatest logits after a block. -/
def nextM (mm : Vec Ideal S8x8x1 .f32) (x0 : Vec Ideal S1x8x512 .f32) (K : Fin 8 → Fin 64 → Fin W → EReal)
    (B : Fin 8 → Fin W → EReal) (y : S8x8x1.Idx) : EReal :=
  max (mm y) (top (logits x0 K B ⟨(y 0).val, (y 0).isLt⟩ ⟨(y 1).val, (y 1).isLt⟩))

/-- The masses after a block. -/
def nextL (mm ll : Vec Ideal S8x8x1 .f32) (x0 : Vec Ideal S1x8x512 .f32) (K : Fin 8 → Fin 64 → Fin W → EReal)
    (B : Fin 8 → Fin W → EReal) (y : S8x8x1.Idx) : EReal :=
  (State.next ⟨mm y, ll y, 0⟩ (logits x0 K B ⟨(y 0).val, (y 0).isLt⟩ ⟨(y 1).val, (y 1).isLt⟩) fun _ => 0).l

/-- The weighted values after a block. -/
def nextA (mm : Vec Ideal S8x8x1 .f32) (aa : Vec Ideal S8x512 .f32) (x0 : Vec Ideal S1x8x512 .f32)
    (K V : Fin 8 → Fin 64 → Fin W → EReal) (B : Fin 8 → Fin W → EReal) (y : S8x512.Idx) : EReal :=
  have hh : (y 1).val / 64 < 8 := by have : (y 1).val < 512 := (y 1).isLt; omega
  (State.next ⟨mm (ix3 (⟨(y 1).val / 64, hh⟩ : Fin 8) (⟨(y 0).val, (y 0).isLt⟩ : Fin 8) (0 : Fin 1)), 0, aa y⟩
    (logits x0 K B ⟨(y 1).val / 64, hh⟩ ⟨(y 0).val, (y 0).isLt⟩)
    (V ⟨(y 1).val / 64, hh⟩ ⟨(y 1).val % 64, Nat.mod_lt _ (by decide)⟩)).a

/-- The queries as the body loads them. -/
theorem q_apply (x0 : Vec Ideal S1x8x512 .f32) (inb : ∀ a, ![0, 0, 0] a + ![1, 8, 512] a ≤ S1x8x512.size a) (r : Fin 8) (c : Fin 512) :
    (k0_pay97 (View.ld (Val := Elt Ideal) (e' := .f32) x0 (Rect.unit ![0, 0, 0] ![1, 8, 512] inb)) (ix2 r c) : EReal)
      = x0 (ix3 (0 : Fin 1) r c) := by
  unfold k0_pay97
  show (shapeCast S8x512 (View.ld (Val := Elt Ideal) (e' := .f32) x0 (Rect.unit ![0, 0, 0] ![1, 8, 512] inb))
    shapeCasts_S1x8x512_S8x512 (ix2 r c) : EReal) = x0 (ix3 (0 : Fin 1) r c)
  refine (shapeCast_apply _ shapeCasts_S1x8x512_S8x512 (ix2 r c) (ix3 (0 : Fin 1) r c) ?_).trans ?_
  · rw [Shape.rowMajor_val_three, Shape.rowMajor_val_two]
    show (0 * 8 + r.val) * 512 + c.val = r.val * 512 + c.val
    omega
  · refine View.ld_unit_apply_of x0 _ _ _ _ _ fun a => ?_
    match a with
    | ⟨0, _⟩ => rfl
    | ⟨1, _⟩ => exact (Nat.zero_add _).symm
    | ⟨2, _⟩ => exact (Nat.zero_add _).symm

theorem lg_head (n : ℕ) (hn : n < 8) (hs : S8x512.Slices ![0, 64 * n] S8x64) (q : FVec Ideal S8x512 .bf16)
    (x0 : Vec Ideal S1x8x512 .f32) (hq : ∀ r c, (q (ix2 r c) : EReal) = x0 (ix3 (0 : Fin 1) r c))
    (bias : FVec Ideal ⟨2, ![8, W]⟩ .f32) (B : Fin 8 → Fin W → EReal) (hB : ∀ r k, (bias (ix2 r k) : EReal) = B r k)
    (kh : FVec Ideal ⟨2, ![64, W]⟩ .bf16) (K : Fin 8 → Fin 64 → Fin W → EReal)
    (hK : ∀ d k, (kh (ix2 d k) : EReal) = K ⟨n, hn⟩ d k) (r : Fin 8) :
    (fun k : Fin W => (lg (64 * n) hs q bias kh (ix2 r k) : EReal)) = logits x0 K B ⟨n, hn⟩ r := by
  funext k
  rw [lg_apply _ _ (by omega), hB]
  refine congrArg (· + B r k) (Finset.sum_congr rfl fun d _ => ?_)
  rw [hq, hK]

theorem row_eq (y2 : S1x8x1.Idx) : y2 = ix3 (0 : Fin 1) (⟨(y2 1).val, (y2 1).isLt⟩ : Fin 8) (0 : Fin 1) := by
  funext a
  match a with
  | ⟨0, _⟩ => exact Subsingleton.elim (α := Fin 1) _ _
  | ⟨1, _⟩ => rfl
  | ⟨2, _⟩ => exact Subsingleton.elim (α := Fin 1) _ _

theorem cast_in (x : FVec Ideal S8x1 .f32) (y2 : S1x8x1.Idx) :
    shapeCast S1x8x1 x shapeCasts_S8x1_S1x8x1 y2 = x (ix2 (⟨(y2 1).val, (y2 1).isLt⟩ : Fin 8) (0 : Fin 1)) := by
  conv_lhs => rw [row_eq y2]
  generalize (⟨(y2 1).val, (y2 1).isLt⟩ : Fin 8) = r
  exact shapeCast_apply x shapeCasts_S8x1_S1x8x1 (ix3 (0 : Fin 1) r (0 : Fin 1)) (ix2 r (0 : Fin 1)) (by
    rw [Shape.rowMajor_val_three, Shape.rowMajor_val_two]
    show r.val * 1 + 0 = (0 * 8 + r.val) * 1 + 0
    omega)

theorem at_eq (n : ℕ) (hn : n < 8) (y2 : S1x8x1.Idx) (y : S8x8x1.Idx) (h0 : (y 0).val = n + (y2 0).val) (h1 : (y 1).val = (y2 1).val) :
    y = ix3 (⟨n, hn⟩ : Fin 8) (⟨(y2 1).val, (y2 1).isLt⟩ : Fin 8) (0 : Fin 1) := by
  have z : (y2 0).val < 1 := (y2 0).isLt
  funext a
  match a with
  | ⟨0, _⟩ => exact Fin.ext (by show (y 0).val = n; omega)
  | ⟨1, _⟩ => exact Fin.ext h1
  | ⟨2, _⟩ => exact Subsingleton.elim (α := Fin 1) _ _

section heads
variable (n : ℕ) (hn : n < 8) (hs : S8x512.Slices ![0, 64 * n] S8x64) (hr : (⟨2, ![8, W]⟩ : Shape).Reduces [1] S8)
  (hb : S8x1.Broadcasts ⟨2, ![8, W]⟩) (q : FVec Ideal S8x512 .bf16)
  (x0 : Vec Ideal S1x8x512 .f32) (hq : ∀ r c, (q (ix2 r c) : EReal) = x0 (ix3 (0 : Fin 1) r c))
  (bias : FVec Ideal ⟨2, ![8, W]⟩ .f32) (B : Fin 8 → Fin W → EReal) (hB : ∀ r k, (bias (ix2 r k) : EReal) = B r k)
  (kh : FVec Ideal ⟨2, ![64, W]⟩ .bf16) (K : Fin 8 → Fin 64 → Fin W → EReal)
  (hK : ∀ d k, (kh (ix2 d k) : EReal) = K ⟨n, hn⟩ d k)
  (M : Vec Ideal S1x8x1 .f32) (mm : Vec Ideal S8x8x1 .f32)
  (hM : ∀ r : Fin 8, M (ix3 (0 : Fin 1) r (0 : Fin 1)) = mm (ix3 (⟨n, hn⟩ : Fin 8) r (0 : Fin 1)))

include hq hB hK hM

theorem m_head (y2 : S1x8x1.Idx) (y : S8x8x1.Idx) (h0 : (y 0).val = n + (y2 0).val) (h1 : (y 1).val = (y2 1).val) :
    shapeCast S1x8x1 (mNew hr (lg (64 * n) hs q bias kh) M) shapeCasts_S8x1_S1x8x1 y2 = nextM mm x0 K B y := by
  rw [cast_in, mNew_apply, lg_head n hn hs q x0 hq bias B hB kh K hK, hM, at_eq n hn y2 y h0 h1]
  rfl

theorem l_head (L : Vec Ideal S1x8x1 .f32) (ll : Vec Ideal S8x8x1 .f32)
    (hL : ∀ r : Fin 8, L (ix3 (0 : Fin 1) r (0 : Fin 1)) = ll (ix3 (⟨n, hn⟩ : Fin 8) r (0 : Fin 1)))
    (y2 : S1x8x1.Idx) (y : S8x8x1.Idx) (h0 : (y 0).val = n + (y2 0).val) (h1 : (y 1).val = (y2 1).val) :
    shapeCast S1x8x1 (lNew hr hb (lg (64 * n) hs q bias kh) M L) shapeCasts_S8x1_S1x8x1 y2 = nextL mm ll x0 K B y := by
  rw [cast_in, lNew_apply _ _ _ _ _ _ _ 0 fun _ => 0, lg_head n hn hs q x0 hq bias B hB kh K hK, hM, hL, at_eq n hn y2 y h0 h1]
  rfl

theorem a_head (vh : FVec Ideal ⟨2, ![64, W]⟩ .bf16) (V : Fin 8 → Fin 64 → Fin W → EReal)
    (hV : ∀ d k, (vh (ix2 d k) : EReal) = V ⟨n, hn⟩ d k)
    (A : Vec Ideal S8x64 .f32) (aa : Vec Ideal S8x512 .f32)
    (y2 : S8x64.Idx) (y : S8x512.Idx) (hA : A y2 = aa y) (h0 : (y 0).val = (y2 0).val) (h1 : (y 1).val = 64 * n + (y2 1).val) :
    shapeCast S8x64 (aNew hr hb (lg (64 * n) hs q bias kh) M vh A) shapeCasts_S8x64_S8x64 y2 = nextA mm aa x0 K V B y := by
  have z1 : (y2 1).val < 64 := (y2 1).isLt
  have e2 : y2 = ix2 (⟨(y2 0).val, (y2 0).isLt⟩ : Fin 8) (⟨(y2 1).val, (y2 1).isLt⟩ : Fin 64) := by
    funext a
    match a with
    | ⟨0, _⟩ => rfl
    | ⟨1, _⟩ => rfl
  have er : (⟨(y 0).val, (y 0).isLt⟩ : Fin 8) = ⟨(y2 0).val, (y2 0).isLt⟩ := Fin.ext h0
  have eh : (⟨(y 1).val / 64, by omega⟩ : Fin 8) = ⟨n, hn⟩ := Fin.ext (by show (y 1).val / 64 = n; omega)
  have ed : (⟨(y 1).val % 64, Nat.mod_lt _ (by decide)⟩ : Fin 64) = ⟨(y2 1).val, (y2 1).isLt⟩ :=
    Fin.ext (by show (y 1).val % 64 = (y2 1).val; omega)
  rw [shapeCast_self]
  unfold nextA
  dsimp only
  rw [er, eh, ed, ← hA]
  generalize (⟨(y2 0).val, (y2 0).isLt⟩ : Fin 8) = r at e2
  generalize (⟨(y2 1).val, (y2 1).isLt⟩ : Fin 64) = d at e2
  subst e2
  rw [aNew_apply _ _ _ _ _ _ _ _ 0, lg_head n hn hs q x0 hq bias B hB kh K hK, hM]
  refine congrArg (fun v => (State.next _ _ v).a) (funext fun k => ?_)
  exact hV d k

end heads

end Cert.KernelIdeal.AttnVal

end
-- ==== Proof.AttnPieces.lean ====
/-
  The loads of the sample attention's body, read at an index: the bias of a block, the keys of a head, the carried
  arrays' pieces, and the arrays that the first step starts from.
-/
module

public import proofs.«01_k».proof.Proof.AttnStep

@[expose] public section

set_option maxRecDepth 16384

noncomputable section

namespace Cert.KernelIdeal.AttnVal

open Cert.KernelIdeal Cert.KernelIdeal.Gen Cert.Softmax
open Idealize.ShloMosaic Idealize.ShloMosaic.TcCoe Idealize.ShloMosaic.Tactic

/-- The block of 128 biases that a step reads, as the body counts it. -/
abbrev off (i : grid0.Coords) (j : BitVec 32) : ℕ :=
  BitVec.toNat (Scalar.indexCast (Scalar.addi (Scalar.muli (BitVec.ofNat 32 ↑(i 1)) 8#32) j))

theorem off_eq (a j : Fin 8) :
    BitVec.toNat (Scalar.indexCast (Scalar.addi (Scalar.muli (BitVec.ofNat 32 a.val) 8#32) (BitVec.ofNat 32 j.val))) = 8 * a.val + j.val := by
  revert a j
  decide

/-- Eight arrays side by side. -/
theorem cat8_apply (f : Fin 8 → FVec Ideal S8x128 .f32) (r : Fin 8) (k : Fin 1024) :
    concatenate S8x1024 1 [⟨S8x128, f 0⟩, ⟨S8x128, f 1⟩, ⟨S8x128, f 2⟩, ⟨S8x128, f 3⟩, ⟨S8x128, f 4⟩, ⟨S8x128, f 5⟩, ⟨S8x128, f 6⟩,
      ⟨S8x128, f 7⟩] concatenates_S8x128_S8x128_S8x128_S8x128_S8x128_S8x128_S8x128_S8x128_S8x1024_d1 (ix2 r k)
      = f (⟨k.val / 128, by have := k.isLt; omega⟩ : Fin 8) (ix2 r (⟨k.val % 128, Nat.mod_lt _ (by decide)⟩ : Fin 128)) := by
  refine concatenate_ofFn_apply (t := S8x1024) (s₁ := S8x128) 1 f
    concatenates_S8x128_S8x128_S8x128_S8x128_S8x128_S8x128_S8x128_S8x128_S8x1024_d1 rfl 128 rfl (ix2 r k)
    (⟨k.val / 128, by have := k.isLt; omega⟩ : Fin 8) rfl (ix2 r (⟨k.val % 128, Nat.mod_lt _ (by decide)⟩ : Fin 128)) rfl fun b hb => ?_
  match b with
  | ⟨0, _⟩ => rfl
  | ⟨1, _⟩ => exact absurd rfl hb

/-- A block of 128 biases, loaded. -/
theorem ldb_apply (x1 : Vec Ideal S1x65x8x128 .f32) (o : ℕ) (ho : o < 65)
    (p : ∀ a, ![0, o, 0, 0] a + ![1, 1, 8, 128] a ≤ S1x65x8x128.size a) (r : Fin 8) (k : Fin 128) :
    (shapeCast S8x128 (View.ld (Val := Elt Ideal) (e' := .f32) x1 (Rect.unit ![0, o, 0, 0] ![1, 1, 8, 128] p))
      shapeCasts_S1x1x8x128_S8x128 (ix2 r k) : EReal) = x1 (ix4 (0 : Fin 1) (⟨o, ho⟩ : Fin 65) r k) := by
  refine (shapeCast_apply _ shapeCasts_S1x1x8x128_S8x128 (ix2 r k) (ix4 (0 : Fin 1) (0 : Fin 1) r k) ?_).trans ?_
  · rw [Shape.rowMajor_val_four, Shape.rowMajor_val_two]
    show ((0 * 1 + 0) * 8 + r.val) * 128 + k.val = r.val * 128 + k.val
    omega
  · refine View.ld_unit_apply_of x1 _ _ _ _ _ fun a => ?_
    match a with
    | ⟨0, _⟩ => rfl
    | ⟨1, _⟩ => rfl
    | ⟨2, _⟩ => exact (Nat.zero_add _).symm
    | ⟨3, _⟩ => exact (Nat.zero_add _).symm

/-- The biases of the eight pages of a step. -/
def biasOf (a : ℕ) (ha : a < 8) (x1 : Vec Ideal S1x65x8x128 .f32) (r : Fin 8) (k : Fin 1024) : EReal :=
  x1 (ix4 (0 : Fin 1) (⟨8 * a + k.val / 128, by have := k.isLt; omega⟩ : Fin 65) r (⟨k.val % 128, Nat.mod_lt _ (by decide)⟩ : Fin 128))

theorem bias_apply (i : grid0.Coords) (x1 : Vec Ideal S1x65x8x128 .f32)
    (p0 : ∀ a, ![0, off i 0#32, 0, 0] a + ![1, 1, 8, 128] a ≤ S1x65x8x128.size a)
    (p1 : ∀ a, ![0, off i 1#32, 0, 0] a + ![1, 1, 8, 128] a ≤ S1x65x8x128.size a)
    (p2 : ∀ a, ![0, off i 2#32, 0, 0] a + ![1, 1, 8, 128] a ≤ S1x65x8x128.size a)
    (p3 : ∀ a, ![0, off i 3#32, 0, 0] a + ![1, 1, 8, 128] a ≤ S1x65x8x128.size a)
    (p4 : ∀ a, ![0, off i 4#32, 0, 0] a + ![1, 1, 8, 128] a ≤ S1x65x8x128.size a)
    (p5 : ∀ a, ![0, off i 5#32, 0, 0] a + ![1, 1, 8, 128] a ≤ S1x65x8x128.size a)
    (p6 : ∀ a, ![0, off i 6#32, 0, 0] a + ![1, 1, 8, 128] a ≤ S1x65x8x128.size a)
    (p7 : ∀ a, ![0, off i 7#32, 0, 0] a + ![1, 1, 8, 128] a ≤ S1x65x8x128.size a) (r : Fin 8) (k : Fin 1024) :
    (k0_pay248 (F := Ideal)
      (shapeCast S8x128 (View.ld (Val := Elt Ideal) (e' := .f32) x1 (Rect.unit ![0, off i 0#32, 0, 0] ![1, 1, 8, 128] p0)) shapeCasts_S1x1x8x128_S8x128)
      (shapeCast S8x128 (View.ld (Val := Elt Ideal) (e' := .f32) x1 (Rect.unit ![0, off i 1#32, 0, 0] ![1, 1, 8, 128] p1)) shapeCasts_S1x1x8x128_S8x128)
      (shapeCast S8x128 (View.ld (Val := Elt Ideal) (e' := .f32) x1 (Rect.unit ![0, off i 2#32, 0, 0] ![1, 1, 8, 128] p2)) shapeCasts_S1x1x8x128_S8x128)
      (shapeCast S8x128 (View.ld (Val := Elt Ideal) (e' := .f32) x1 (Rect.unit ![0, off i 3#32, 0, 0] ![1, 1, 8, 128] p3)) shapeCasts_S1x1x8x128_S8x128)
      (shapeCast S8x128 (View.ld (Val := Elt Ideal) (e' := .f32) x1 (Rect.unit ![0, off i 4#32, 0, 0] ![1, 1, 8, 128] p4)) shapeCasts_S1x1x8x128_S8x128)
      (View.ld (Val := Elt Ideal) (e' := .f32) x1 (Rect.unit ![0, off i 5#32, 0, 0] ![1, 1, 8, 128] p5))
      (View.ld (Val := Elt Ideal) (e' := .f32) x1 (Rect.unit ![0, off i 6#32, 0, 0] ![1, 1, 8, 128] p6))
      (View.ld (Val := Elt Ideal) (e' := .f32) x1 (Rect.unit ![0, off i 7#32, 0, 0] ![1, 1, 8, 128] p7)) (ix2 r k) : EReal)
      = biasOf (i 1).val (i 1).isLt x1 r k := by
  have hi : (i 1).val < 8 := (i 1).isLt
  have e (j : Fin 8) : off i (BitVec.ofNat 32 j.val) = 8 * (i 1).val + j.val := off_eq ⟨(i 1).val, hi⟩ j
  have hp (j : Fin 8) : ∀ a, ![0, off i (BitVec.ofNat 32 j.val), 0, 0] a + ![1, 1, 8, 128] a ≤ S1x65x8x128.size a := by
    match j with
    | ⟨0, _⟩ => exact p0
    | ⟨1, _⟩ => exact p1
    | ⟨2, _⟩ => exact p2
    | ⟨3, _⟩ => exact p3
    | ⟨4, _⟩ => exact p4
    | ⟨5, _⟩ => exact p5
    | ⟨6, _⟩ => exact p6
    | ⟨7, _⟩ => exact p7
  refine (cat8_apply (fun j => shapeCast S8x128 (View.ld (Val := Elt Ideal) (e' := .f32) x1
    (Rect.unit ![0, off i (BitVec.ofNat 32 j.val), 0, 0] ![1, 1, 8, 128] (hp j))) shapeCasts_S1x1x8x128_S8x128) r k).trans ?_
  refine (ldb_apply x1 _ (by rw [e]; have := k.isLt; show 8 * (i 1).val + k.val / 128 < 65; omega) _ r _).trans ?_
  unfold biasOf
  refine congrArg x1 ?_
  funext a
  match a with
  | ⟨0, _⟩ => rfl
  | ⟨1, _⟩ => exact Fin.ext (e _)
  | ⟨2, _⟩ => rfl
  | ⟨3, _⟩ => rfl

/-- The biases of the new keys. -/
def biasNew (x1 : Vec Ideal S1x65x8x128 .f32) (r : Fin 8) (k : Fin 128) : EReal := x1 (ix4 (0 : Fin 1) (64 : Fin 65) r k)

theorem biasNew_apply (x1 : Vec Ideal S1x65x8x128 .f32) (p : ∀ a, ![0, 64, 0, 0] a + ![1, 1, 8, 128] a ≤ S1x65x8x128.size a)
    (r : Fin 8) (k : Fin 128) :
    (k0_pay6 (F := Ideal) (View.ld (Val := Elt Ideal) (e' := .f32) x1 (Rect.unit ![0, 64, 0, 0] ![1, 1, 8, 128] p)) (ix2 r k) : EReal)
      = biasNew x1 r k := ldb_apply x1 64 (by decide) p r k

/-- The keys of the eight pages of a step. -/
def keysOf (xs : Fin 8 → Vec Ideal S1x8x64x128 .f32) (h : Fin 8) (d : Fin 64) (k : Fin 1024) : EReal := pages xs (ix3 h d k)

theorem keys_apply (xs : Fin 8 → Vec Ideal S1x8x64x128 .f32) (n : ℕ) (hn : n < 8)
    (inb : ∀ a, ![n, 0, 0] a + ![1, 64, 1024] a ≤ S8x64x1024.size a) (d : Fin 64) (k : Fin 1024) :
    (shapeCast S64x1024 (fun j : S1x64x1024.Idx => pages xs ((Rect.unit (s := S8x64x1024) ![n, 0, 0] ![1, 64, 1024] inb).idx j))
      shapeCasts_S1x64x1024_S64x1024 (ix2 d k) : EReal) = keysOf xs ⟨n, hn⟩ d k := by
  refine (shapeCast_apply _ shapeCasts_S1x64x1024_S64x1024 (ix2 d k) (ix3 (0 : Fin 1) d k) ?_).trans ?_
  · rw [Shape.rowMajor_val_three, Shape.rowMajor_val_two]
    show (0 * 64 + d.val) * 1024 + k.val = d.val * 1024 + k.val
    omega
  · refine congrArg (pages xs) ?_
    funext a
    match a with
    | ⟨0, _⟩ => exact Fin.ext (Rect.idx_unit_val _ _ _ _ _)
    | ⟨1, _⟩ => exact Fin.ext ((Rect.idx_unit_val _ _ _ _ _).trans (Nat.zero_add _))
    | ⟨2, _⟩ => exact Fin.ext ((Rect.idx_unit_val _ _ _ _ _).trans (Nat.zero_add _))

/-- The new keys. -/
def keysNew (X : Vec Ideal S1x8x64x128 .f32) (h : Fin 8) (d : Fin 64) (k : Fin 128) : EReal := X (ix4 (0 : Fin 1) h d k)

theorem keysNew_apply (X : Vec Ideal S1x8x64x128 .f32) (n : ℕ) (hn : n < 8)
    (inb : ∀ a, ![0, n, 0, 0] a + ![1, 1, 64, 128] a ≤ S1x8x64x128.size a) (d : Fin 64) (k : Fin 128) :
    (truncf (F := Ideal) (φ := .f32) .bf16 (shapeCast S64x128 (View.ld (Val := Elt Ideal) (e' := .f32) X
      (Rect.unit ![0, n, 0, 0] ![1, 1, 64, 128] inb)) shapeCasts_S1x1x64x128_S64x128) bitsLt_bf16_f32 (ix2 d k) : EReal)
      = keysNew X ⟨n, hn⟩ d k := by
  show (shapeCast S64x128 (View.ld (Val := Elt Ideal) (e' := .f32) X (Rect.unit ![0, n, 0, 0] ![1, 1, 64, 128] inb))
    shapeCasts_S1x1x64x128_S64x128 (ix2 d k) : EReal) = X (ix4 (0 : Fin 1) (⟨n, hn⟩ : Fin 8) d k)
  refine ((shapeCast_apply _ shapeCasts_S1x1x64x128_S64x128 (ix2 d k) (ix4 (0 : Fin 1) (0 : Fin 1) d k) ?_).trans ?_)
  · rw [Shape.rowMajor_val_four, Shape.rowMajor_val_two]
    show ((0 * 1 + 0) * 64 + d.val) * 128 + k.val = d.val * 128 + k.val
    omega
  · refine View.ld_unit_apply_of X _ _ _ _ _ fun a => ?_
    match a with
    | ⟨0, _⟩ => rfl
    | ⟨1, _⟩ => rfl
    | ⟨2, _⟩ => exact (Nat.zero_add _).symm
    | ⟨3, _⟩ => exact (Nat.zero_add _).symm

/-- A head's piece of a carried column. -/
theorem col_apply (mm : Vec Ideal S8x8x1 .f32) (n : ℕ) (hn : n < 8) (inb : ∀ a, ![n, 0, 0] a + ![1, 8, 1] a ≤ S8x8x1.size a) (r : Fin 8) :
    View.ld (Val := Elt Ideal) (e' := .f32) mm (Rect.unit ![n, 0, 0] ![1, 8, 1] inb) (ix3 (0 : Fin 1) r (0 : Fin 1))
      = mm (ix3 (⟨n, hn⟩ : Fin 8) r (0 : Fin 1)) := by
  refine View.ld_unit_apply_of mm _ _ _ _ _ fun a => ?_
  match a with
  | ⟨0, _⟩ => rfl
  | ⟨1, _⟩ => exact (Nat.zero_add _).symm
  | ⟨2, _⟩ => rfl

/-- A head's piece of the carried weighted values. -/
theorem val_apply (aa : Vec Ideal S8x512 .f32) (o : ℕ) (inb : ∀ a, ![0, o] a + ![8, 64] a ≤ S8x512.size a)
    (y2 : S8x64.Idx) (y : S8x512.Idx) (h0 : (y 0).val = (y2 0).val) (h1 : (y 1).val = o + (y2 1).val) :
    View.ld (Val := Elt Ideal) (e' := .f32) aa (Rect.unit ![0, o] ![8, 64] inb) y2 = aa y := by
  refine View.ld_unit_apply_of aa _ _ _ _ _ fun a => ?_
  match a with
  | ⟨0, _⟩ => exact h0.trans (Nat.zero_add _).symm
  | ⟨1, _⟩ => exact h1

/-- Before the first block: no greatest logit, no mass, no values. -/
theorem start_m (y : S8x8x1.Idx) : (k0_pay3 (F := Ideal) y : EReal) = ⊥ := by
  unfold k0_pay3
  rw [shapeCast_self]
  exact ofBits_bot

theorem start_l (y : S8x8x1.Idx) : (k0_pay4 (F := Ideal) y : EReal) = 0 := by
  unfold k0_pay4
  rw [shapeCast_self]
  show Ideal.ofBits .f32 0x00000000#32 = 0
  simp [Ideal.ofBits, Ideal.ieee]

theorem start_a (y : S8x512.Idx) : (k0_pay5 (F := Ideal) y : EReal) = 0 := by
  unfold k0_pay5
  rw [shapeCast_self]
  show Ideal.ofBits .f32 0x00000000#32 = 0
  simp [Ideal.ofBits, Ideal.ieee]

end Cert.KernelIdeal.AttnVal

end
-- ==== Proof.AttnGather.lean ====
/-
  The reference of the attention, read at an index: the softmax-weighted sum of the values over the 8192 keys of the pages
  that the table names and the 4 new keys.
-/
module

public import proofs.«01_k».proof.Proof.Gen.ReferenceIdeal.Read
public import proofs.«01_k».proof.Proof.Softmax

@[expose] public section

set_option maxRecDepth 16384

noncomputable section

namespace Cert.ReferenceIdeal.RowsOf

open Cert.ReferenceIdeal Cert.ReferenceIdeal.Read Idealize.ShloMosaic

/-- The page that the table's word names. -/
def page (pt : S32x64.Idx → BitVec 32) (b : Fin 32) (g : Fin 64) : Fin 2560 := ⟨min (pt (ix2 b g)).toNat 2559, by omega⟩

/-- Row `k` of the keys (or values) of sequence `b`, head `h`, column `d`: the cache's pages in the table's order, then the
    new rows. -/
def rowOf (pt : S32x64.Idx → BitVec 32) (new : S32x4x8x64.Idx → EReal) (cache : S1x2560x128x8x64.Idx → EReal) (b : Fin 32)
    (h : Fin 8) (k : Fin 8196) (d : Fin 64) : EReal :=
  if hk : (k : Nat) < 8192 then cache (ix5 0 (page pt b ⟨k / 128, by omega⟩) ⟨k % 128, by omega⟩ h d)
  else new (ix4 b ⟨k - 8192, by omega⟩ h d)

section
variable (x0 : (⟨S32x64, .i32⟩ : BufTy).Contents (Elt Ideal)) (x1 x2 x3 : (⟨S32x4x8x64, .f32⟩ : BufTy).Contents (Elt Ideal))
  (x4 : (⟨S32x4x8196, .i32⟩ : BufTy).Contents (Elt Ideal)) (x5 x6 : (⟨S1x2560x128x8x64, .f32⟩ : BufTy).Contents (Elt Ideal))

theorem v4_apply (h0 : ∀ b g, BitVec.toNat (w := 32) (x0 (ix2 b g)) < 2560) (b : Fin 32) (g : Fin 64) :
    val_main_v4 (F := Ideal) x0 (ix2 b g) = x0 (ix2 b g) := by
  pointwise [val_main_v4, val_main_v1, val_main_v0, val_main_c]
  have h := h0 b g
  generalize val_main_v3 (F := Ideal) x0 (ix2 b g) = z
  generalize x0 (ix2 b g) = w at h ⊢
  have e : IntOp.cmpi .slt (w : BitVec 32) 0#32 = 0#1 := by
    have : (w : BitVec 32).slt 0#32 = false := by
      rw [BitVec.slt_zero_eq_msb, BitVec.msb_eq_decide]
      simp only [decide_eq_false_iff_not]; omega
    simp [IntOp.cmpi, this]
  rw [e]
  rfl

theorem v9_apply (b : Fin 32) (g : Fin 64) :
    val_main_v9 (F := Ideal) x0 (ix3 b g 1) = val_main_v4 (F := Ideal) x0 (ix2 b g) := by
  pointwise [val_main_v9, val_main_v8, val_main_v7, val_main_v6, val_main_v5, val_main_c_1]

theorem v22_eq : val_main_v22 (F := Ideal) x0 = val_main_v9 (F := Ideal) x0 := rfl

/-- On an axis that the gather keeps whole, the operand's coordinate is the result's. -/
theorem offset_val (idx : IVec S32x64x2 32) (b : Fin 32) (g : Fin 64) (s : Fin 128) (h : Fin 8) (d : Fin 64) (a : Fin 5)
    (ha : a ∈ gather_S1x2560x128x8x64_S32x64x2_S32x64x128x8x64_234_01_n_n_01_2_11128864.sKept)
    (hb : a ∉ gather_S1x2560x128x8x64_S32x64x2_S32x64x128x8x64_234_01_n_n_01_2_11128864.startIndexMap) :
    (gather_S1x2560x128x8x64_S32x64x2_S32x64x128x8x64_234_01_n_n_01_2_11128864.operandIdx (ix5 b g s h d) idx a).val
      = GatherDims.offCoord gather_S1x2560x128x8x64_S32x64x2_S32x64x128x8x64_234_01_n_n_01_2_11128864 (ix5 b g s h d) a := by
  show GatherDims.start _ _ _ _ + GatherDims.batchCoord _ _ _ + GatherDims.offCoord _ _ _ = _
  rw [GatherDims.batchCoord_eq_zero _ _ _ List.not_mem_nil]
  unfold GatherDims.start
  rw [dif_neg hb]
  simp only [Nat.zero_add]

/-- On the page axis the gather reads at the page that the table names. -/
theorem page_val (idx : S32x64x2.Idx → BitVec 32) (w : BitVec 32) (b : Fin 32) (g : Fin 64) (s : Fin 128) (h : Fin 8) (d : Fin 64)
    (hw : idx (ix3 b g 1) = w) (hb : w.toNat < 2560) :
    (gather_S1x2560x128x8x64_S32x64x2_S32x64x128x8x64_234_01_n_n_01_2_11128864.operandIdx (ix5 b g s h d) idx 1).val = min w.toNat 2559 := by
  show GatherDims.start _ _ _ _ + GatherDims.batchCoord _ _ _ + GatherDims.offCoord _ _ _ = _
  rw [GatherDims.batchCoord_eq_zero _ _ _ List.not_mem_nil, GatherDims.offCoord_eq_zero _ _ _ (by decide)]
  unfold GatherDims.start
  rw [dif_pos (by decide)]
  have hsi : ∀ hp, GatherDims.siIdx gather_S1x2560x128x8x64_S32x64x2_S32x64x128x8x64_234_01_n_n_01_2_11128864 (ix5 b g s h d) ⟨1, hp⟩ = ix3 b g 1 := by
    intro hp
    funext c; refine Fin.ext ?_
    match c with
    | ⟨0, _⟩ => rfl
    | ⟨1, _⟩ => rfl
    | ⟨2, _⟩ => rfl
  have he := congrArg (fun z => min (BitVec.toInt (idx z)).toNat 2559) (hsi (by decide))
  refine Eq.trans (b := min (BitVec.toInt (idx (ix3 b g 1))).toNat 2559) he ?_
  rw [hw, BitVec.toInt_eq_toNat_of_lt (by omega), Int.toNat_natCast]

theorem gather_apply (h0 : ∀ b g, BitVec.toNat (w := 32) (x0 (ix2 b g)) < 2560) (b : Fin 32) (g : Fin 64) (s : Fin 128) (h : Fin 8)
    (d : Fin 64) : Host.gather gather_S1x2560x128x8x64_S32x64x2_S32x64x128x8x64_234_01_n_n_01_2_11128864 x5
      (val_main_v9 (F := Ideal) x0) (ix5 b g s h d) = x5 (ix5 0 (page x0 b g) s h d) := by
  unfold Host.gather
  congr 1
  have hw : (val_main_v9 (F := Ideal) x0) (ix3 b g 1) = x0 (ix2 b g) := (v9_apply x0 b g).trans (v4_apply x0 h0 b g)
  have hb := h0 b g
  generalize val_main_v9 (F := Ideal) x0 = idx at hw
  funext a
  match a with
  | ⟨0, _⟩ => exact Fin.ext ((Nat.lt_one_iff.mp (Fin.isLt _)).trans rfl)
  | ⟨1, _⟩ => exact Fin.ext (page_val idx _ b g s h d hw hb)
  | ⟨2, _⟩ => exact Fin.ext (offset_val idx b g s h d 2 (by decide) (by decide) |>.trans rfl)
  | ⟨3, _⟩ => exact Fin.ext (offset_val idx b g s h d 3 (by decide) (by decide) |>.trans rfl)
  | ⟨4, _⟩ => exact Fin.ext (offset_val idx b g s h d 4 (by decide) (by decide) |>.trans rfl)

end

end Cert.ReferenceIdeal.RowsOf

end
-- ==== Proof.AttnTile.lean ====
/-
  The blocks of a grid point of the sample attention: the queries, bias and new rows of its sequence, and the eight pages of
  the cache that the table names for its step.
-/
module

public import proofs.«01_k».proof.Proof.AttnArr
public import proofs.«01_k».proof.Proof.AttnPieces
public import proofs.«01_k».proof.Proof.AttnGather

@[expose] public section

set_option maxRecDepth 16384

noncomputable section

namespace Cert.KernelIdeal.AttnTile

open Cert.KernelIdeal Cert.KernelIdeal.Gen Cert.KernelIdeal.AttnArr Cert.KernelIdeal.AttnVal
open Idealize.ShloMosaic Idealize.ShloMosaic.TcCoe
open Cert.ReferenceIdeal.RowsOf (page rowOf)

variable (m : (ℓ : Loc nD τ sig) → Buf (Elt Ideal) ℓ)

/-- The page table. -/
abbrev argT (c : Dev nD) : S32x64.Idx → BitVec 32 := m ((c : Thread nD τ).loc main_arg0)

theorem tbl_eq (c : Dev nD) : tbl m 0 = argT m c := by
  obtain rfl : c = 0 := Subsingleton.elim _ _
  exact V_main_arg0 m 0

theorem coord : ∀ t : Fin grid0.N, (grid0.coords t 0).val = t.val / 8 ∧ (grid0.coords t 1).val = t.val % 8 := by decide +kernel

theorem word (a : Fin 32) : BitVec.toNat (Scalar.indexCast (BitVec.ofNat 32 a.val)) = a.val := by
  revert a; decide

theorem word' (a : Fin 32) : BitVec.toNat (BitVec.ofNat 32 a.val) = a.val := by
  revert a; decide

/-- The table entry that a page's index map reads. -/
theorem entry (i : grid0.Coords) (j : Fin 8) (x : S1x1.Idx) (h : ∀ a, k0_off1 i (BitVec.ofNat 32 j.val) a + S1x1.size a ≤ S32x64.size a) :
    (Rect.unit (s := S32x64) (k0_off1 i (BitVec.ofNat 32 j.val)) S1x1.size h).emb x
      = ix2 (⟨(i 0).val, (i 0).isLt⟩ : Fin 32) (⟨8 * (i 1).val + j.val, by have : (i 1).val < 8 := (i 1).isLt; omega⟩ : Fin 64) := by
  funext a
  match a with
  | ⟨0, _⟩ =>
    have h0 : (x 0).val < 1 := (x 0).isLt
    have e := word ⟨(i 0).val, (i 0).isLt⟩
    exact Fin.ext (show BitVec.toNat (Scalar.indexCast (BitVec.ofNat 32 (i 0).val)) + 1 * (x 0).val = (i 0).val by rw [e]; dsimp only; omega)
  | ⟨1, _⟩ =>
    have h1 : (x 1).val < 1 := (x 1).isLt
    have e := off_eq ⟨(i 1).val, (i 1).isLt⟩ j
    exact Fin.ext (show BitVec.toNat (Scalar.indexCast (Scalar.addi (Scalar.muli (BitVec.ofNat 32 (i 1).val) 8#32) (BitVec.ofNat 32 j.val))) + 1 * (x 1).val = 8 * (i 1).val + j.val by
      rw [e]; dsimp only; omega)

/-- The table's word for page `j` of a grid point. -/
def tableAt (pf : pre0.Contents (Elt Ideal)) (i : grid0.Coords) (j : Fin 8) : ℕ :=
  BitVec.toNat (w := 32) (pf 0 (ix2 (⟨(i 0).val, (i 0).isLt⟩ : Fin 32) (⟨8 * (i 1).val + j.val, by have : (i 1).val < 8 := (i 1).isLt; omega⟩ : Fin 64)))

/-- The index of a page's block. -/
theorem block_eq (o : Fin 4 → ℕ) {T : ℕ} (e : o = ![T, 0, 0, 0]) {p : Fin 2560} (hp : T = p.val) (h : Fin 8) (d : Fin 64) (k : Fin 128)
    (z : S2560x8x64x128.Idx) (hz : ∀ a : Fin 4, (z a).val = o a * S1x8x64x128.size a + 1 * ((ix4 (0 : Fin 1) h d k : S1x8x64x128.Idx) a).val) :
    z = ix4 p h d k := by
  subst e
  funext a
  refine Fin.ext ((hz a).trans ?_)
  match a with
  | ⟨0, _⟩ => show T * 1 + 1 * 0 = p.val; omega
  | ⟨1, _⟩ => show 0 * 8 + 1 * h.val = h.val; omega
  | ⟨2, _⟩ => show 0 * 64 + 1 * d.val = d.val; omega
  | ⟨3, _⟩ => show 0 * 128 + 1 * k.val = k.val; omega

section
variable (hO : Ok m) (c : Dev nD) (t : Fin (cfgM m hO).N) (b : Fin 32) (g : Fin 8) (ht : t.val = 8 * b.val + g.val)

include ht in
theorem at0 : (grid0.coords t 0).val = b.val := (coord t).1.trans (by omega)
include ht in
theorem at1 : (grid0.coords t 1).val = g.val := (coord t).2.trans (by omega)

include ht in
theorem first (i : Fin 32) (hi : i = b) : BitVec.toNat (BitVec.ofNat 32 (grid0.coords t 0).val) = b.val := by
  rw [at0 m hO t b g ht]; exact word' b

include ht in
theorem pageAt (h0 : ∀ b g, (argT m c (ix2 b g)).toNat < 2560) (j : Fin 8) :
    tableAt (tbl m) (grid0.coords t) j = (page (argT m c) b ⟨8 * g.val + j.val, by omega⟩).val := by
  have e : (ix2 (⟨(grid0.coords t 0).val, (grid0.coords t 0).isLt⟩ : Fin 32) (⟨8 * (grid0.coords t 1).val + j.val, by have : (grid0.coords t 1).val < 8 := (grid0.coords t 1).isLt; omega⟩ : Fin 64) : S32x64.Idx)
      = ix2 b ⟨8 * g.val + j.val, by omega⟩ := by
    congr 1
    · exact Fin.ext (at0 m hO t b g ht)
    · exact Fin.ext (show 8 * (grid0.coords t 1).val + j.val = _ by rw [at1 m hO t b g ht])
  unfold tableAt
  rw [e, tbl_eq m c]
  have := h0 b ⟨8 * g.val + j.val, by omega⟩
  exact (min_eq_left (by omega)).symm

include ht in
theorem blkQ (r : Fin 8) (k : Fin 512) : iblk m hO c 0 t (ix3 0 r k) = laidQ m c (ix3 b r k) := by
  refine congrArg (V m c main_v12) (funext fun a => Fin.ext ?_)
  match a with
  | ⟨0, _⟩ => show BitVec.toNat (BitVec.ofNat 32 (grid0.coords t 0).val) * 1 + 1 * 0 = b.val; rw [first m hO t b g ht b rfl]; omega
  | ⟨1, _⟩ => show 0 * 8 + 1 * r.val = r.val; omega
  | ⟨2, _⟩ => show 0 * 512 + 1 * k.val = k.val; omega

include ht in
theorem blkB (p : Fin 65) (r : Fin 8) (k : Fin 128) : iblk m hO c 1 t (ix4 0 p r k) = laidB m c (ix4 b p r k) := by
  refine congrArg (V m c main_v9) (funext fun a => Fin.ext ?_)
  match a with
  | ⟨0, _⟩ => show BitVec.toNat (BitVec.ofNat 32 (grid0.coords t 0).val) * 1 + 1 * 0 = b.val; rw [first m hO t b g ht b rfl]; omega
  | ⟨1, _⟩ => show 0 * 65 + 1 * p.val = p.val; omega
  | ⟨2, _⟩ => show 0 * 8 + 1 * r.val = r.val; omega
  | ⟨3, _⟩ => show 0 * 128 + 1 * k.val = k.val; omega

include ht in
theorem blkK (h : Fin 8) (d : Fin 64) (k : Fin 128) : iblk m hO c 2 t (ix4 0 h d k) = laidK m c (ix4 b h d k) := by
  refine congrArg (V m c main_v14) (funext fun a => Fin.ext ?_)
  match a with
  | ⟨0, _⟩ => show BitVec.toNat (BitVec.ofNat 32 (grid0.coords t 0).val) * 1 + 1 * 0 = b.val; rw [first m hO t b g ht b rfl]; omega
  | ⟨1, _⟩ => show 0 * 8 + 1 * h.val = h.val; omega
  | ⟨2, _⟩ => show 0 * 64 + 1 * d.val = d.val; omega
  | ⟨3, _⟩ => show 0 * 128 + 1 * k.val = k.val; omega

include ht in
theorem blkV (h : Fin 8) (d : Fin 64) (k : Fin 128) : iblk m hO c 3 t (ix4 0 h d k) = laidV m c (ix4 b h d k) := by
  refine congrArg (V m c main_v16) (funext fun a => Fin.ext ?_)
  match a with
  | ⟨0, _⟩ => show BitVec.toNat (BitVec.ofNat 32 (grid0.coords t 0).val) * 1 + 1 * 0 = b.val; rw [first m hO t b g ht b rfl]; omega
  | ⟨1, _⟩ => show 0 * 8 + 1 * h.val = h.val; omega
  | ⟨2, _⟩ => show 0 * 64 + 1 * d.val = d.val; omega
  | ⟨3, _⟩ => show 0 * 128 + 1 * k.val = k.val; omega

theorem trans4 (pf : pre0.Contents (Elt Ideal)) (i : grid0.Coords) : cc0_transform_4 k0_off1_inb numel1_S1x1 pf i = ![tableAt pf i 0, 0, 0, 0] := by
  unfold cc0_transform_4
  exact congrArg (fun x : ℕ => (![x, 0, 0, 0] : Fin 4 → ℕ)) (congrArg (fun x => BitVec.toNat (w := 32) (pf 0 x)) (entry i 0 _ _))

section
attribute [local irreducible] cc0_transform_4
include ht in
theorem blkCK0 (h0 : ∀ b g, (argT m c (ix2 b g)).toNat < 2560) (h : Fin 8) (d : Fin 64) (k : Fin 128) :
    iblk m hO c 4 t (ix4 0 h d k) = laidCK m c (ix4 (page (argT m c) b ⟨8 * g.val + (0 : Fin 8).val, by have := Fin.isLt (0 : Fin 8); omega⟩) h d k) := by
  have e := trans4 (tbl m) (grid0.coords t)
  refine congrArg (V m c main_v18) (block_eq _ e (pageAt m hO c t b g ht h0 0) h d k _ ?_)
  exact fun a => rfl
end

theorem trans5 (pf : pre0.Contents (Elt Ideal)) (i : grid0.Coords) : cc0_transform_5 k0_off1_inb numel1_S1x1 pf i = ![tableAt pf i 1, 0, 0, 0] := by
  unfold cc0_transform_5
  exact congrArg (fun x : ℕ => (![x, 0, 0, 0] : Fin 4 → ℕ)) (congrArg (fun x => BitVec.toNat (w := 32) (pf 0 x)) (entry i 1 _ _))

section
attribute [local irreducible] cc0_transform_5
include ht in
theorem blkCK1 (h0 : ∀ b g, (argT m c (ix2 b g)).toNat < 2560) (h : Fin 8) (d : Fin 64) (k : Fin 128) :
    iblk m hO c 5 t (ix4 0 h d k) = laidCK m c (ix4 (page (argT m c) b ⟨8 * g.val + (1 : Fin 8).val, by have := Fin.isLt (1 : Fin 8); omega⟩) h d k) := by
  have e := trans5 (tbl m) (grid0.coords t)
  refine congrArg (V m c main_v18) (block_eq _ e (pageAt m hO c t b g ht h0 1) h d k _ ?_)
  exact fun a => rfl
end

theorem trans6 (pf : pre0.Contents (Elt Ideal)) (i : grid0.Coords) : cc0_transform_6 k0_off1_inb numel1_S1x1 pf i = ![tableAt pf i 2, 0, 0, 0] := by
  unfold cc0_transform_6
  exact congrArg (fun x : ℕ => (![x, 0, 0, 0] : Fin 4 → ℕ)) (congrArg (fun x => BitVec.toNat (w := 32) (pf 0 x)) (entry i 2 _ _))

section
attribute [local irreducible] cc0_transform_6
include ht in
theorem blkCK2 (h0 : ∀ b g, (argT m c (ix2 b g)).toNat < 2560) (h : Fin 8) (d : Fin 64) (k : Fin 128) :
    iblk m hO c 6 t (ix4 0 h d k) = laidCK m c (ix4 (page (argT m c) b ⟨8 * g.val + (2 : Fin 8).val, by have := Fin.isLt (2 : Fin 8); omega⟩) h d k) := by
  have e := trans6 (tbl m) (grid0.coords t)
  refine congrArg (V m c main_v18) (block_eq _ e (pageAt m hO c t b g ht h0 2) h d k _ ?_)
  exact fun a => rfl
end

theorem trans7 (pf : pre0.Contents (Elt Ideal)) (i : grid0.Coords) : cc0_transform_7 k0_off1_inb numel1_S1x1 pf i = ![tableAt pf i 3, 0, 0, 0] := by
  unfold cc0_transform_7
  exact congrArg (fun x : ℕ => (![x, 0, 0, 0] : Fin 4 → ℕ)) (congrArg (fun x => BitVec.toNat (w := 32) (pf 0 x)) (entry i 3 _ _))

section
attribute [local irreducible] cc0_transform_7
include ht in
theorem blkCK3 (h0 : ∀ b g, (argT m c (ix2 b g)).toNat < 2560) (h : Fin 8) (d : Fin 64) (k : Fin 128) :
    iblk m hO c 7 t (ix4 0 h d k) = laidCK m c (ix4 (page (argT m c) b ⟨8 * g.val + (3 : Fin 8).val, by have := Fin.isLt (3 : Fin 8); omega⟩) h d k) := by
  have e := trans7 (tbl m) (grid0.coords t)
  refine congrArg (V m c main_v18) (block_eq _ e (pageAt m hO c t b g ht h0 3) h d k _ ?_)
  exact fun a => rfl
end

theorem trans8 (pf : pre0.Contents (Elt Ideal)) (i : grid0.Coords) : cc0_transform_8 k0_off1_inb numel1_S1x1 pf i = ![tableAt pf i 4, 0, 0, 0] := by
  unfold cc0_transform_8
  exact congrArg (fun x : ℕ => (![x, 0, 0, 0] : Fin 4 → ℕ)) (congrArg (fun x => BitVec.toNat (w := 32) (pf 0 x)) (entry i 4 _ _))

section
attribute [local irreducible] cc0_transform_8
include ht in
theorem blkCK4 (h0 : ∀ b g, (argT m c (ix2 b g)).toNat < 2560) (h : Fin 8) (d : Fin 64) (k : Fin 128) :
    iblk m hO c 8 t (ix4 0 h d k) = laidCK m c (ix4 (page (argT m c) b ⟨8 * g.val + (4 : Fin 8).val, by have := Fin.isLt (4 : Fin 8); omega⟩) h d k) := by
  have e := trans8 (tbl m) (grid0.coords t)
  refine congrArg (V m c main_v18) (block_eq _ e (pageAt m hO c t b g ht h0 4) h d k _ ?_)
  exact fun a => rfl
end

theorem trans9 (pf : pre0.Contents (Elt Ideal)) (i : grid0.Coords) : cc0_transform_9 k0_off1_inb numel1_S1x1 pf i = ![tableAt pf i 5, 0, 0, 0] := by
  unfold cc0_transform_9
  exact congrArg (fun x : ℕ => (![x, 0, 0, 0] : Fin 4 → ℕ)) (congrArg (fun x => BitVec.toNat (w := 32) (pf 0 x)) (entry i 5 _ _))

section
attribute [local irreducible] cc0_transform_9
include ht in
theorem blkCK5 (h0 : ∀ b g, (argT m c (ix2 b g)).toNat < 2560) (h : Fin 8) (d : Fin 64) (k : Fin 128) :
    iblk m hO c 9 t (ix4 0 h d k) = laidCK m c (ix4 (page (argT m c) b ⟨8 * g.val + (5 : Fin 8).val, by have := Fin.isLt (5 : Fin 8); omega⟩) h d k) := by
  have e := trans9 (tbl m) (grid0.coords t)
  refine congrArg (V m c main_v18) (block_eq _ e (pageAt m hO c t b g ht h0 5) h d k _ ?_)
  exact fun a => rfl
end

theorem trans10 (pf : pre0.Contents (Elt Ideal)) (i : grid0.Coords) : cc0_transform_10 k0_off1_inb numel1_S1x1 pf i = ![tableAt pf i 6, 0, 0, 0] := by
  unfold cc0_transform_10
  exact congrArg (fun x : ℕ => (![x, 0, 0, 0] : Fin 4 → ℕ)) (congrArg (fun x => BitVec.toNat (w := 32) (pf 0 x)) (entry i 6 _ _))

section
attribute [local irreducible] cc0_transform_10
include ht in
theorem blkCK6 (h0 : ∀ b g, (argT m c (ix2 b g)).toNat < 2560) (h : Fin 8) (d : Fin 64) (k : Fin 128) :
    iblk m hO c 10 t (ix4 0 h d k) = laidCK m c (ix4 (page (argT m c) b ⟨8 * g.val + (6 : Fin 8).val, by have := Fin.isLt (6 : Fin 8); omega⟩) h d k) := by
  have e := trans10 (tbl m) (grid0.coords t)
  refine congrArg (V m c main_v18) (block_eq _ e (pageAt m hO c t b g ht h0 6) h d k _ ?_)
  exact fun a => rfl
end

theorem trans11 (pf : pre0.Contents (Elt Ideal)) (i : grid0.Coords) : cc0_transform_11 k0_off1_inb numel1_S1x1 pf i = ![tableAt pf i 7, 0, 0, 0] := by
  unfold cc0_transform_11
  exact congrArg (fun x : ℕ => (![x, 0, 0, 0] : Fin 4 → ℕ)) (congrArg (fun x => BitVec.toNat (w := 32) (pf 0 x)) (entry i 7 _ _))

section
attribute [local irreducible] cc0_transform_11
include ht in
theorem blkCK7 (h0 : ∀ b g, (argT m c (ix2 b g)).toNat < 2560) (h : Fin 8) (d : Fin 64) (k : Fin 128) :
    iblk m hO c 11 t (ix4 0 h d k) = laidCK m c (ix4 (page (argT m c) b ⟨8 * g.val + (7 : Fin 8).val, by have := Fin.isLt (7 : Fin 8); omega⟩) h d k) := by
  have e := trans11 (tbl m) (grid0.coords t)
  refine congrArg (V m c main_v18) (block_eq _ e (pageAt m hO c t b g ht h0 7) h d k _ ?_)
  exact fun a => rfl
end

theorem trans12 (pf : pre0.Contents (Elt Ideal)) (i : grid0.Coords) : cc0_transform_12 k0_off1_inb numel1_S1x1 pf i = ![tableAt pf i 0, 0, 0, 0] := by
  unfold cc0_transform_12
  exact congrArg (fun x : ℕ => (![x, 0, 0, 0] : Fin 4 → ℕ)) (congrArg (fun x => BitVec.toNat (w := 32) (pf 0 x)) (entry i 0 _ _))

section
attribute [local irreducible] cc0_transform_12
include ht in
theorem blkCV0 (h0 : ∀ b g, (argT m c (ix2 b g)).toNat < 2560) (h : Fin 8) (d : Fin 64) (k : Fin 128) :
    iblk m hO c 12 t (ix4 0 h d k) = laidCV m c (ix4 (page (argT m c) b ⟨8 * g.val + (0 : Fin 8).val, by have := Fin.isLt (0 : Fin 8); omega⟩) h d k) := by
  have e := trans12 (tbl m) (grid0.coords t)
  refine congrArg (V m c main_v20) (block_eq _ e (pageAt m hO c t b g ht h0 0) h d k _ ?_)
  exact fun a => rfl
end

theorem trans13 (pf : pre0.Contents (Elt Ideal)) (i : grid0.Coords) : cc0_transform_13 k0_off1_inb numel1_S1x1 pf i = ![tableAt pf i 1, 0, 0, 0] := by
  unfold cc0_transform_13
  exact congrArg (fun x : ℕ => (![x, 0, 0, 0] : Fin 4 → ℕ)) (congrArg (fun x => BitVec.toNat (w := 32) (pf 0 x)) (entry i 1 _ _))

section
attribute [local irreducible] cc0_transform_13
include ht in
theorem blkCV1 (h0 : ∀ b g, (argT m c (ix2 b g)).toNat < 2560) (h : Fin 8) (d : Fin 64) (k : Fin 128) :
    iblk m hO c 13 t (ix4 0 h d k) = laidCV m c (ix4 (page (argT m c) b ⟨8 * g.val + (1 : Fin 8).val, by have := Fin.isLt (1 : Fin 8); omega⟩) h d k) := by
  have e := trans13 (tbl m) (grid0.coords t)
  refine congrArg (V m c main_v20) (block_eq _ e (pageAt m hO c t b g ht h0 1) h d k _ ?_)
  exact fun a => rfl
end

theorem trans14 (pf : pre0.Contents (Elt Ideal)) (i : grid0.Coords) : cc0_transform_14 k0_off1_inb numel1_S1x1 pf i = ![tableAt pf i 2, 0, 0, 0] := by
  unfold cc0_transform_14
  exact congrArg (fun x : ℕ => (![x, 0, 0, 0] : Fin 4 → ℕ)) (congrArg (fun x => BitVec.toNat (w := 32) (pf 0 x)) (entry i 2 _ _))

section
attribute [local irreducible] cc0_transform_14
include ht in
theorem blkCV2 (h0 : ∀ b g, (argT m c (ix2 b g)).toNat < 2560) (h : Fin 8) (d : Fin 64) (k : Fin 128) :
    iblk m hO c 14 t (ix4 0 h d k) = laidCV m c (ix4 (page (argT m c) b ⟨8 * g.val + (2 : Fin 8).val, by have := Fin.isLt (2 : Fin 8); omega⟩) h d k) := by
  have e := trans14 (tbl m) (grid0.coords t)
  refine congrArg (V m c main_v20) (block_eq _ e (pageAt m hO c t b g ht h0 2) h d k _ ?_)
  exact fun a => rfl
end

theorem trans15 (pf : pre0.Contents (Elt Ideal)) (i : grid0.Coords) : cc0_transform_15 k0_off1_inb numel1_S1x1 pf i = ![tableAt pf i 3, 0, 0, 0] := by
  unfold cc0_transform_15
  exact congrArg (fun x : ℕ => (![x, 0, 0, 0] : Fin 4 → ℕ)) (congrArg (fun x => BitVec.toNat (w := 32) (pf 0 x)) (entry i 3 _ _))

section
attribute [local irreducible] cc0_transform_15
include ht in
theorem blkCV3 (h0 : ∀ b g, (argT m c (ix2 b g)).toNat < 2560) (h : Fin 8) (d : Fin 64) (k : Fin 128) :
    iblk m hO c 15 t (ix4 0 h d k) = laidCV m c (ix4 (page (argT m c) b ⟨8 * g.val + (3 : Fin 8).val, by have := Fin.isLt (3 : Fin 8); omega⟩) h d k) := by
  have e := trans15 (tbl m) (grid0.coords t)
  refine congrArg (V m c main_v20) (block_eq _ e (pageAt m hO c t b g ht h0 3) h d k _ ?_)
  exact fun a => rfl
end

theorem trans16 (pf : pre0.Contents (Elt Ideal)) (i : grid0.Coords) : cc0_transform_16 k0_off1_inb numel1_S1x1 pf i = ![tableAt pf i 4, 0, 0, 0] := by
  unfold cc0_transform_16
  exact congrArg (fun x : ℕ => (![x, 0, 0, 0] : Fin 4 → ℕ)) (congrArg (fun x => BitVec.toNat (w := 32) (pf 0 x)) (entry i 4 _ _))

section
attribute [local irreducible] cc0_transform_16
include ht in
theorem blkCV4 (h0 : ∀ b g, (argT m c (ix2 b g)).toNat < 2560) (h : Fin 8) (d : Fin 64) (k : Fin 128) :
    iblk m hO c 16 t (ix4 0 h d k) = laidCV m c (ix4 (page (argT m c) b ⟨8 * g.val + (4 : Fin 8).val, by have := Fin.isLt (4 : Fin 8); omega⟩) h d k) := by
  have e := trans16 (tbl m) (grid0.coords t)
  refine congrArg (V m c main_v20) (block_eq _ e (pageAt m hO c t b g ht h0 4) h d k _ ?_)
  exact fun a => rfl
end

theorem trans17 (pf : pre0.Contents (Elt Ideal)) (i : grid0.Coords) : cc0_transform_17 k0_off1_inb numel1_S1x1 pf i = ![tableAt pf i 5, 0, 0, 0] := by
  unfold cc0_transform_17
  exact congrArg (fun x : ℕ => (![x, 0, 0, 0] : Fin 4 → ℕ)) (congrArg (fun x => BitVec.toNat (w := 32) (pf 0 x)) (entry i 5 _ _))

section
attribute [local irreducible] cc0_transform_17
include ht in
theorem blkCV5 (h0 : ∀ b g, (argT m c (ix2 b g)).toNat < 2560) (h : Fin 8) (d : Fin 64) (k : Fin 128) :
    iblk m hO c 17 t (ix4 0 h d k) = laidCV m c (ix4 (page (argT m c) b ⟨8 * g.val + (5 : Fin 8).val, by have := Fin.isLt (5 : Fin 8); omega⟩) h d k) := by
  have e := trans17 (tbl m) (grid0.coords t)
  refine congrArg (V m c main_v20) (block_eq _ e (pageAt m hO c t b g ht h0 5) h d k _ ?_)
  exact fun a => rfl
end

theorem trans18 (pf : pre0.Contents (Elt Ideal)) (i : grid0.Coords) : cc0_transform_18 k0_off1_inb numel1_S1x1 pf i = ![tableAt pf i 6, 0, 0, 0] := by
  unfold cc0_transform_18
  exact congrArg (fun x : ℕ => (![x, 0, 0, 0] : Fin 4 → ℕ)) (congrArg (fun x => BitVec.toNat (w := 32) (pf 0 x)) (entry i 6 _ _))

section
attribute [local irreducible] cc0_transform_18
include ht in
theorem blkCV6 (h0 : ∀ b g, (argT m c (ix2 b g)).toNat < 2560) (h : Fin 8) (d : Fin 64) (k : Fin 128) :
    iblk m hO c 18 t (ix4 0 h d k) = laidCV m c (ix4 (page (argT m c) b ⟨8 * g.val + (6 : Fin 8).val, by have := Fin.isLt (6 : Fin 8); omega⟩) h d k) := by
  have e := trans18 (tbl m) (grid0.coords t)
  refine congrArg (V m c main_v20) (block_eq _ e (pageAt m hO c t b g ht h0 6) h d k _ ?_)
  exact fun a => rfl
end

theorem trans19 (pf : pre0.Contents (Elt Ideal)) (i : grid0.Coords) : cc0_transform_19 k0_off1_inb numel1_S1x1 pf i = ![tableAt pf i 7, 0, 0, 0] := by
  unfold cc0_transform_19
  exact congrArg (fun x : ℕ => (![x, 0, 0, 0] : Fin 4 → ℕ)) (congrArg (fun x => BitVec.toNat (w := 32) (pf 0 x)) (entry i 7 _ _))

section
attribute [local irreducible] cc0_transform_19
include ht in
theorem blkCV7 (h0 : ∀ b g, (argT m c (ix2 b g)).toNat < 2560) (h : Fin 8) (d : Fin 64) (k : Fin 128) :
    iblk m hO c 19 t (ix4 0 h d k) = laidCV m c (ix4 (page (argT m c) b ⟨8 * g.val + (7 : Fin 8).val, by have := Fin.isLt (7 : Fin 8); omega⟩) h d k) := by
  have e := trans19 (tbl m) (grid0.coords t)
  refine congrArg (V m c main_v20) (block_eq _ e (pageAt m hO c t b g ht h0 7) h d k _ ?_)
  exact fun a => rfl
end

end

end Cert.KernelIdeal.AttnTile

end
-- ==== Proof.AttnPre.lean ====
/-
  What the preconditions of the sample attention say: page numbers in range, real queries and keys, and a kept key in each row.
-/
module

public import proofs.«01_k».proof.Defs
public import proofs.«01_k».proof.Proof.AttnTile
public import proofs.«01_k».proof.Proof.Gen.Pre_attends
public import proofs.«01_k».proof.Proof.Gen.Pre_table_in_range
public import Idealize.ShloMosaic.Lib.ReduceAll

@[expose] public section

set_option maxRecDepth 16384

noncomputable section

namespace Cert.AttnPre

open Idealize.ShloMosaic Idealize.ShloMosaic.TcCoe

instance : Subsingleton (Cert.Pre_attends.S_).Idx := ⟨fun a b => funext fun i => i.elim0⟩

theorem and_one {x y : BitVec 1} (h : x &&& y = 1#1) : x = 1#1 ∧ y = 1#1 := by
  revert x y; decide

theorem ofBool_one {b : Bool} (h : BitVec.ofBool b = 1#1) : b = true := by
  cases b
  · exact absurd h (by decide)
  · rfl

/-- A word between 0 and 2560, signed. -/
theorem lt_of_word {x : BitVec 32} (h : IntOp.cmpi .sge x 0#32 &&& IntOp.cmpi .slt x 2560#32 = 1#1) : x.toNat < 2560 := by
  obtain ⟨h1, h2⟩ := and_one h
  have h1 : (0#32).sle x = true := ofBool_one h1
  have h2 : x.slt 2560#32 = true := ofBool_one h2
  simp only [BitVec.sle, BitVec.slt, decide_eq_true_eq] at h1 h2
  rw [show (0#32).toInt = 0 by decide] at h1
  rw [show (2560#32).toInt = 2560 by decide] at h2
  rw [BitVec.toInt_eq_toNat_cond] at h1 h2
  have := x.isLt
  split at h1 <;> split at h2 <;> omega

/-- A value of magnitude below the pattern of +∞ is real. -/
theorem real_of_lt {x : EReal} (h : FloatOps.cmpf (F := Ideal) (φ := .f32) .olt (FloatOps.hostAbsf (F := Ideal) (φ := .f32) x)
    (FloatOps.ofBits (F := Ideal) .f32 0x7F800000#32) = 1#1) : ∃ a : ℝ, x = a := by
  have e : (FloatOps.ofBits (F := Ideal) .f32 0x7F800000#32 : EReal) = ⊤ := by simp [Ideal.ofBits, Ideal.ieee]
  have h' : max x (-x) < (FloatOps.ofBits (F := Ideal) .f32 0x7F800000#32 : EReal) := by
    have := ofBool_one h
    simp only [decide_eq_true_eq] at this
    exact this
  rw [e] at h'
  induction x using EReal.rec with
  | bot => exact absurd h' (by simp)
  | top => exact absurd h' (by simp)
  | coe a => exact ⟨a, rfl⟩

theorem bits (x : BitVec 1) (h : ¬x ≠ 0#1) : x = 0#1 := not_not.mp h

theorem any_of_fold {ι : Type} (l : List ι) (f : ι → BitVec 1) (h : l.foldl (fun r n => IntOp.ori r (f n)) 0#1 = 1#1) :
    ∃ n ∈ l, f n ≠ 0#1 := by
  by_contra hn
  have hc : ∀ n ∈ l, f n = 0#1 := fun n hl => bits _ fun h' => hn ⟨n, hl, h'⟩
  have : ∀ l' : List ι, (∀ n ∈ l', f n = 0#1) → l'.foldl (fun r n => IntOp.ori r (f n)) 0#1 = 0#1 := fun l' => by
    induction l' with
    | nil => exact fun _ => rfl
    | cons a l' ih =>
      intro hl
      rw [List.foldl_cons, hl a (List.mem_cons_self ..)]
      exact ih fun n hn => hl n (List.mem_cons_of_mem _ hn)
  rw [this l hc] at h
  exact absurd h (by decide)

section
variable {F : FTy → Type} [FloatOps F]
variable (x0 : IVec Cert.Pre_attends.S32x64 32) (x1 x2 x3 : FVec F Cert.Pre_attends.S32x4x8x64 .f32) (x4 : IVec Cert.Pre_attends.S32x4x8196 32)
  (x5 x6 : FVec F Cert.Pre_attends.S1x2560x128x8x64 .f32)

theorem inRange (h : Cert.Pre_table_in_range.fn x0 x1 x2 x3 x4 x5 x6 = fun _ => 1#1) (i : Cert.Pre_attends.S32x64.Idx) : (x0 i).toNat < 2560 :=
  lt_of_word (congrFun h i)

end

section
variable (x0 : IVec Cert.Pre_attends.S32x64 32) (x1 x2 x3 : FVec Ideal Cert.Pre_attends.S32x4x8x64 .f32) (x4 : IVec Cert.Pre_attends.S32x4x8196 32)
  (x5 x6 : FVec Ideal Cert.Pre_attends.S1x2560x128x8x64 .f32)

theorem attends (h : Cert.Pre_attends.fn x0 x1 x2 x3 x4 x5 x6 = fun _ => 1#1) :
    (∀ i, (x0 i).toNat < 2560) ∧ (∀ i, ∃ a : ℝ, (x1 i : EReal) = a) ∧ (∀ i, ∃ a : ℝ, (x2 i : EReal) = a) ∧ (∀ i, ∃ a : ℝ, (x5 i : EReal) = a)
      ∧ ∀ (b : Fin 32) (r : Fin 4), ∃ k : Fin 8196, x4 (ix3 b r k) ≠ 0#32 := by
  have h := congrFun h (ix0 : Cert.Pre_attends.S_.Idx)
  obtain ⟨h, hk⟩ := and_one h
  obtain ⟨h, h5⟩ := and_one h
  obtain ⟨h, h2⟩ := and_one h
  obtain ⟨h0, h1⟩ := and_one h
  refine ⟨fun i => lt_of_word (Host.reduce_andi_all _ _ _ _ _ h0 i), fun i => real_of_lt (Host.reduce_andi_all _ _ _ _ _ h1 i),
    fun i => real_of_lt (Host.reduce_andi_all _ _ _ _ _ h2 i), fun i => real_of_lt (Host.reduce_andi_all _ _ _ _ _ h5 i), fun b r => ?_⟩
  have e := Host.reduce_andi_all _ _ _ _ _ hk (ix2 b r)
  obtain ⟨n, hn, hx⟩ := any_of_fold _ _ e
  have hd := of_decide_eq_true (List.mem_filter.mp hn).2
  generalize Cert.Pre_attends.S32x4x8196.rowMajor.symm n = i at hd hx
  have h0 : i 0 = b := congrFun hd 0
  have h1 : i 1 = r := congrFun hd 1
  refine ⟨i 2, fun hz => hx ?_⟩
  have ei : i = ix3 b r (i 2) := by
    funext a
    match a with
    | ⟨0, _⟩ => exact h0
    | ⟨1, _⟩ => exact h1
    | ⟨2, _⟩ => rfl
  have hz : x4 i = 0#32 := (congrArg x4 ei).trans hz
  show IntOp.cmpi .ne (x4 i) 0#32 = 0#1
  rw [hz]; rfl

end

end Cert.AttnPre

end
-- ==== Proof.AttnBits.lean ====
/-
  The sample attention in floats: from page numbers in range it runs to its end and leaves its arguments unchanged.
-/
module

public import proofs.«01_k».proof.Defs
public import proofs.«01_k».proof.Proof.AttnFrameBits
public import proofs.«01_k».proof.Proof.AttnOkBits
public import proofs.«01_k».proof.Proof.AttnPre

@[expose] public section

noncomputable section

namespace Cert.Kernel.Attn

open Idealize.ShloMosaic

theorem frame_bits : Cert.quiescent_Kernel := fun m ρ h =>
  Cert.Kernel.Attn.frame m ρ (ok_of_range m (Cert.AttnPre.inRange _ _ _ _ _ _ _ (h 0)))

end Cert.Kernel.Attn

end
-- ==== Proof.AttnKeys.lean ====
/-
  The keys, logits and values of a grid point's blocks of the sample attention, among the 8320 keys of its sequence.
-/
module

public import proofs.«01_k».proof.Proof.AttnTile

@[expose] public section

set_option maxRecDepth 16384

noncomputable section

namespace Cert.KernelIdeal.AttnTile

open Cert.KernelIdeal Cert.KernelIdeal.Gen Cert.KernelIdeal.AttnArr Cert.KernelIdeal.AttnVal
open Idealize.ShloMosaic Idealize.ShloMosaic.TcCoe
open Cert.ReferenceIdeal.RowsOf (page rowOf)

variable (m : (ℓ : Loc nD τ sig) → Buf (Elt Ideal) ℓ)

/-- A fact of eight blocks, one by one. -/
theorem vec8 (P : Fin 8 → Vec Ideal S1x8x64x128 .f32 → Prop) {x0 x1 x2 x3 x4 x5 x6 x7 : Vec Ideal S1x8x64x128 .f32} (h0 : P 0 x0) (h1 : P 1 x1)
    (h2 : P 2 x2) (h3 : P 3 x3) (h4 : P 4 x4) (h5 : P 5 x5) (h6 : P 6 x6) (h7 : P 7 x7) (j : Fin 8) : P j (![x0, x1, x2, x3, x4, x5, x6, x7] j) := by
  match j with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

theorem keysOf_eq (xs : Fin 8 → Vec Ideal S1x8x64x128 .f32) (f : Fin 8 → Fin 128 → EReal) (h : Fin 8) (d : Fin 64)
    (hx : ∀ j k, xs j (ix4 0 h d k) = f j k) (k : Fin 1024) : keysOf xs h d k = f ⟨k / 128, by omega⟩ ⟨k % 128, by omega⟩ := hx _ _

/-! ## The keys of a sequence: 64 pages of the cache in the table's order, then the page of new rows -/

/-- Key (or value) row `k` of 8320: of the cache's pages, or of the padded new rows. -/
def rowAt (pt : S32x64.Idx → BitVec 32) (new : S32x8x64x128.Idx → EReal) (cache : S1x2560x128x8x64.Idx → EReal) (b : Fin 32) (h : Fin 8)
    (d : Fin 64) (k : Fin 8320) : EReal :=
  if hk : k.val < 8192 then cache (ix5 0 (page pt b ⟨k / 128, by omega⟩) ⟨k % 128, by omega⟩ h d) else new (ix4 b h d ⟨k - 8192, by omega⟩)

/-- A key of step `g`'s eight pages. -/
def old (g : Fin 8) (k : Fin 1024) : Fin 8320 := ⟨1024 * g + k, by omega⟩

/-- A key of the new page. -/
def fresh (k : Fin 128) : Fin 8320 := ⟨8192 + k, by omega⟩

theorem rowAt_old (pt : S32x64.Idx → BitVec 32) (new : S32x8x64x128.Idx → EReal) (cache : S1x2560x128x8x64.Idx → EReal)
    (b : Fin 32) (g : Fin 8) (h : Fin 8) (d : Fin 64) (k : Fin 1024) :
    rowAt pt new cache b h d (old g k) = cache (ix5 0 (page pt b ⟨8 * g + k / 128, by omega⟩) ⟨k % 128, by omega⟩ h d) := by
  unfold rowAt old
  rw [dif_pos (show 1024 * (g : ℕ) + k < 8192 by omega)]
  have e1 : (⟨(1024 * (g : ℕ) + k) / 128, by omega⟩ : Fin 64) = ⟨8 * g + k / 128, by omega⟩ := Fin.ext (by dsimp only; omega)
  have e2 : (⟨(1024 * (g : ℕ) + k) % 128, by omega⟩ : Fin 128) = ⟨k % 128, by omega⟩ := Fin.ext (by dsimp only; omega)
  dsimp only
  rw [e1, e2]

theorem rowAt_fresh (pt : S32x64.Idx → BitVec 32) (new : S32x8x64x128.Idx → EReal) (cache : S1x2560x128x8x64.Idx → EReal)
    (b : Fin 32) (h : Fin 8) (d : Fin 64) (k : Fin 128) : rowAt pt new cache b h d (fresh k) = new (ix4 b h d k) := by
  unfold rowAt fresh
  rw [dif_neg (show ¬8192 + (k : ℕ) < 8192 by omega)]
  exact congrArg (fun k => new (ix4 b h d k)) (Fin.ext (show 8192 + (k : ℕ) - 8192 = k by omega))

/-- The logit of key `k` of 8320, as the body takes it. -/
def X (c : Dev nD) (b : Fin 32) (h r : Fin 8) (k : Fin 8320) : EReal :=
  (∑ d : Fin 64, laidQ m c (ix3 b r ⟨64 * h.val + d.val, by omega⟩) * rowAt (argT m c) (laidK m c) (argCK m c) b h d k)
    + laidB m c (ix4 b ⟨k / 128, by omega⟩ r ⟨k % 128, by omega⟩)

section
variable (hO : Ok m) (c : Dev nD) (t : Fin (cfgM m hO).N) (b : Fin 32) (g : Fin 8) (ht : t.val = 8 * b.val + g.val)
  (h0 : ∀ b g, (argT m c (ix2 b g)).toNat < 2560)
include ht h0

theorem keysCK (h : Fin 8) (d : Fin 64) (k : Fin 1024) :
    keysOf ![iblk m hO c 4 t, iblk m hO c 5 t, iblk m hO c 6 t, iblk m hO c 7 t, iblk m hO c 8 t, iblk m hO c 9 t, iblk m hO c 10 t, iblk m hO c 11 t] h d k = rowAt (argT m c) (laidK m c) (argCK m c) b h d (old g k) := by
  rw [rowAt_old]
  refine (keysOf_eq _ (fun j k => laidCK m c (ix4 (page (argT m c) b ⟨8 * g.val + j.val, by omega⟩) h d k)) h d ?_ k).trans (v18_apply m c _ h d _)
  exact vec8 (fun j x => ∀ k, x (ix4 0 h d k) = laidCK m c (ix4 (page (argT m c) b ⟨8 * g.val + j.val, by omega⟩) h d k))
    (blkCK0 m hO c t b g ht h0 h d) (blkCK1 m hO c t b g ht h0 h d) (blkCK2 m hO c t b g ht h0 h d) (blkCK3 m hO c t b g ht h0 h d) (blkCK4 m hO c t b g ht h0 h d) (blkCK5 m hO c t b g ht h0 h d) (blkCK6 m hO c t b g ht h0 h d) (blkCK7 m hO c t b g ht h0 h d)

theorem keysCV (h : Fin 8) (d : Fin 64) (k : Fin 1024) :
    keysOf ![iblk m hO c 12 t, iblk m hO c 13 t, iblk m hO c 14 t, iblk m hO c 15 t, iblk m hO c 16 t, iblk m hO c 17 t, iblk m hO c 18 t, iblk m hO c 19 t] h d k = rowAt (argT m c) (laidV m c) (argCV m c) b h d (old g k) := by
  rw [rowAt_old]
  refine (keysOf_eq _ (fun j k => laidCV m c (ix4 (page (argT m c) b ⟨8 * g.val + j.val, by omega⟩) h d k)) h d ?_ k).trans (v20_apply m c _ h d _)
  exact vec8 (fun j x => ∀ k, x (ix4 0 h d k) = laidCV m c (ix4 (page (argT m c) b ⟨8 * g.val + j.val, by omega⟩) h d k))
    (blkCV0 m hO c t b g ht h0 h d) (blkCV1 m hO c t b g ht h0 h d) (blkCV2 m hO c t b g ht h0 h d) (blkCV3 m hO c t b g ht h0 h d) (blkCV4 m hO c t b g ht h0 h d) (blkCV5 m hO c t b g ht h0 h d) (blkCV6 m hO c t b g ht h0 h d) (blkCV7 m hO c t b g ht h0 h d)

theorem logits_old (h r : Fin 8) (k : Fin 1024) :
    logits (iblk m hO c 0 t) (keysOf ![iblk m hO c 4 t, iblk m hO c 5 t, iblk m hO c 6 t, iblk m hO c 7 t, iblk m hO c 8 t, iblk m hO c 9 t, iblk m hO c 10 t, iblk m hO c 11 t]) (biasOf (grid0.coords t 1).val (grid0.coords t 1).isLt (iblk m hO c 1 t)) h r k = X m c b h r (old g k) := by
  unfold logits X
  refine congrArg₂ (· + ·) (Finset.sum_congr rfl fun d _ => ?_) ?_
  · exact congrArg₂ (· * ·) (blkQ m hO c t b g ht r _) (keysCK m hO c t b g ht h0 h d k)
  · refine (blkB m hO c t b g ht _ r _).trans ?_
    have e1 := at1 m hO t b g ht
    have ea : (⟨8 * (grid0.coords t 1).val + k.val / 128, by have : (grid0.coords t 1).val < 8 := (grid0.coords t 1).isLt; omega⟩ : Fin 65) = ⟨(old g k).val / 128, by omega⟩ :=
      Fin.ext (show 8 * (grid0.coords t 1).val + k.val / 128 = (1024 * g.val + k.val) / 128 by omega)
    have eb : (⟨k.val % 128, by omega⟩ : Fin 128) = ⟨(old g k).val % 128, by omega⟩ := Fin.ext (show k.val % 128 = (1024 * g.val + k.val) % 128 by omega)
    rw [ea, eb]

omit h0 in
theorem logits_fresh (h r : Fin 8) (k : Fin 128) :
    logits (iblk m hO c 0 t) (keysNew (iblk m hO c 2 t)) (biasNew (iblk m hO c 1 t)) h r k = X m c b h r (fresh k) := by
  unfold logits X
  refine congrArg₂ (· + ·) (Finset.sum_congr rfl fun d _ => ?_) ?_
  · exact congrArg₂ (· * ·) (blkQ m hO c t b g ht r _) ((blkK m hO c t b g ht h d k).trans (rowAt_fresh _ _ _ b h d k).symm)
  · refine (blkB m hO c t b g ht _ r _).trans ?_
    have ea : (64 : Fin 65) = ⟨(fresh k).val / 128, by omega⟩ := Fin.ext (show 64 = (8192 + k.val) / 128 by omega)
    have eb : k = (⟨(fresh k).val % 128, by omega⟩ : Fin 128) := Fin.ext (show k.val = (8192 + k.val) % 128 by omega)
    rw [← ea, ← eb]

omit h0 in
theorem vals_fresh (h : Fin 8) (d : Fin 64) (k : Fin 128) :
    keysNew (iblk m hO c 3 t) h d k = rowAt (argT m c) (laidV m c) (argCV m c) b h d (fresh k) :=
  (blkV m hO c t b g ht h d k).trans (rowAt_fresh _ _ _ b h d k).symm

end

end Cert.KernelIdeal.AttnTile

end
-- ==== Proof.AttnOuts.lean ====
/-
  The attention's call, what each point of its grid leaves: the output block and the three scratch buffers that are carried
  from a point to the next (the greatest logit, the mass, the weighted sum), as a recursion on the point over three cases
  (the first point of a sequence, a middle one, the last one).
-/
module

public import proofs.«01_k».proof.Proof.Gen.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
section
variable (c : Dev nD) (i : grid0.Coords) (arg3 : Memref sig .tc .vmem S1x8x512 .f32) (harg3 : arg3.IsWhole) (arg4 : Memref sig .tc .vmem S1x65x8x128 .f32) (harg4 : arg4.IsWhole) (arg5 : Memref sig .tc .vmem S1x8x64x128 .f32) (harg5 : arg5.IsWhole) (arg6 : Memref sig .tc .vmem S1x8x64x128 .f32) (harg6 : arg6.IsWhole) (arg7 : Memref sig .tc .vmem S1x8x64x128 .f32) (harg7 : arg7.IsWhole) (arg8 : Memref sig .tc .vmem S1x8x64x128 .f32) (harg8 : arg8.IsWhole) (arg9 : Memref sig .tc .vmem S1x8x64x128 .f32) (harg9 : arg9.IsWhole) (arg10 : Memref sig .tc .vmem S1x8x64x128 .f32) (harg10 : arg10.IsWhole) (arg11 : Memref sig .tc .vmem S1x8x64x128 .f32) (harg11 : arg11.IsWhole) (arg12 : Memref sig .tc .vmem S1x8x64x128 .f32) (harg12 : arg12.IsWhole) (arg13 : Memref sig .tc .vmem S1x8x64x128 .f32) (harg13 : arg13.IsWhole) (arg14 : Memref sig .tc .vmem S1x8x64x128 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x512 .f32) (harg23 : arg23.IsWhole) (arg24 : Memref sig .tc .vmem S8x64x1024 .bf16) (harg24 : arg24.IsWhole) (arg25 : Memref sig .tc .vmem S8x64x1024 .bf16) (harg25 : arg25.IsWhole) (arg26 : Memref sig .tc .vmem S8x8x1 .f32) (harg26 : arg26.IsWhole) (arg27 : Memref sig .tc .vmem S8x8x1 .f32) (harg27 : arg27.IsWhole) (arg28 : Memref sig .tc .vmem S8x512 .f32) (harg28 : arg28.IsWhole)

section
variable (hc0 : cond0_0 i) (hc1 : ¬cond0_1 i)
  (x0 : Vec F S1x8x512 .f32) (x1 : Vec F S1x65x8x128 .f32) (x2 : Vec F S1x8x64x128 .f32) (x3 : Vec F S1x8x64x128 .f32) (x4 : Vec F S1x8x64x128 .f32) (x5 : Vec F S1x8x64x128 .f32) (x6 : Vec F S1x8x64x128 .f32) (x7 : Vec F S1x8x64x128 .f32) (x8 : Vec F S1x8x64x128 .f32) (x9 : Vec F S1x8x64x128 .f32) (x10 : Vec F S1x8x64x128 .f32) (x11 : Vec F S1x8x64x128 .f32) (x12 : Vec F S1x8x64x128 .f32) (x13 : Vec F S1x8x64x128 .f32) (x14 : Vec F S1x8x64x128 .f32) (x15 : Vec F S1x8x64x128 .f32) (x16 : Vec F S1x8x64x128 .f32) (x17 : Vec F S1x8x64x128 .f32) (x18 : Vec F S1x8x64x128 .f32) (x19 : Vec F S1x8x64x128 .f32) (xt0 : TbBuf0 (F := F) c tbM0_0)

/-- Case A stores nothing into output 20 (the window is idle at its points and not written back there):
    no pieces — a placeholder (junk read back) that nothing consults, since at these points the window is neither
    written back nor read at the next point (Lib/Pipeline.lean "Idle points"). -/
def out0_A_20 : Vec F S1x8x512 .f32 :=
  VO0_20.read (Elt F) (VO0_20.writes (Elt F) VO0_20.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0).1)

/-- Case A's pieces for scratch `arg26`, which the kernel carries between points, cover it: one of them a store of the WHOLE buffer (Lib/Ring.lean `sl_whole_mem`). -/
theorem scover0_A_2 (y : S8x8x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0).2.1, y ∈ pc.1.set :=
  View.cover_of_wholeMem _ (by sl_whole_mem) y

/-- What case A leaves in scratch `arg26`: its pieces read back over junk. -/
def sout0_A_2 : Vec F S8x8x1 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0).2.1)

/-- Case A's pieces for scratch `arg27`, which the kernel carries between points, cover it: one of them a store of the WHOLE buffer (Lib/Ring.lean `sl_whole_mem`). -/
theorem scover0_A_3 (y : S8x8x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0).2.2.1, y ∈ pc.1.set :=
  View.cover_of_wholeMem _ (by sl_whole_mem) y

/-- What case A leaves in scratch `arg27`: its pieces read back over junk. -/
def sout0_A_3 : Vec F S8x8x1 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0).2.2.1)

/-- Case A's pieces for scratch `arg28`, which the kernel carries between points, cover it: one of them a store of the WHOLE buffer (Lib/Ring.lean `sl_whole_mem`). -/
theorem scover0_A_4 (y : S8x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0).2.2.2.1, y ∈ pc.1.set :=
  View.cover_of_wholeMem _ (by sl_whole_mem) y

/-- What case A leaves in scratch `arg28`: its pieces read back over junk. -/
def sout0_A_4 : Vec F S8x512 .f32 :=
  VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0).2.2.2.1)

end

section
variable (hc0 : ¬cond0_0 i) (hc1 : ¬cond0_1 i)
  (x0 : Vec F S1x8x512 .f32) (x1 : Vec F S1x65x8x128 .f32) (x2 : Vec F S1x8x64x128 .f32) (x3 : Vec F S1x8x64x128 .f32) (x4 : Vec F S1x8x64x128 .f32) (x5 : Vec F S1x8x64x128 .f32) (x6 : Vec F S1x8x64x128 .f32) (x7 : Vec F S1x8x64x128 .f32) (x8 : Vec F S1x8x64x128 .f32) (x9 : Vec F S1x8x64x128 .f32) (x10 : Vec F S1x8x64x128 .f32) (x11 : Vec F S1x8x64x128 .f32) (x12 : Vec F S1x8x64x128 .f32) (x13 : Vec F S1x8x64x128 .f32) (x14 : Vec F S1x8x64x128 .f32) (x15 : Vec F S1x8x64x128 .f32) (x16 : Vec F S1x8x64x128 .f32) (x17 : Vec F S1x8x64x128 .f32) (x18 : Vec F S1x8x64x128 .f32) (x19 : Vec F S1x8x64x128 .f32) (xt0 : TbBuf0 (F := F) c tbM0_0) (xs2 : Vec F S8x8x1 .f32) (xs3 : Vec F S8x8x1 .f32) (xs4 : Vec F S8x512 .f32)

/-- Case B stores nothing into output 20 (the window is idle at its points and not written back there):
    no pieces — a placeholder (junk read back) that nothing consults, since at these points the window is neither
    written back nor read at the next point (Lib/Pipeline.lean "Idle points"). -/
def out0_B_20 : Vec F S1x8x512 .f32 :=
  VO0_20.read (Elt F) (VO0_20.writes (Elt F) VO0_20.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).1)

/-- Case B's pieces for scratch `arg26`, which the kernel carries between points, cover it: 8 pieces of `S1x8x1` tiling it (Lib/Ring.lean `Piece.tiledL`). -/
theorem scover0_B_2 (y : S8x8x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.1 S1x8x1.size (by sl_kernel_rfl) y

/-- What case B leaves in scratch `arg26`: its pieces read back over junk. -/
def sout0_B_2 : Vec F S8x8x1 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.1)

/-- Case B's pieces for scratch `arg27`, which the kernel carries between points, cover it: 8 pieces of `S1x8x1` tiling it (Lib/Ring.lean `Piece.tiledL`). -/
theorem scover0_B_3 (y : S8x8x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.1 S1x8x1.size (by sl_kernel_rfl) y

/-- What case B leaves in scratch `arg27`: its pieces read back over junk. -/
def sout0_B_3 : Vec F S8x8x1 .f32 :=
  VS0_3.read (Elt F) (VS0_3.writes (Elt F) VS0_3.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.1)

/-- Case B's pieces for scratch `arg28`, which the kernel carries between points, cover it: 8 pieces of `S8x64` tiling it (Lib/Ring.lean `Piece.tiledL`). -/
theorem scover0_B_4 (y : S8x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.2.1 S8x64.size (by sl_kernel_rfl) y

/-- What case B leaves in scratch `arg28`: its pieces read back over junk. -/
def sout0_B_4 : Vec F S8x512 .f32 :=
  VS0_4.read (Elt F) (VS0_4.writes (Elt F) VS0_4.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.2.1)

end

section
variable (hc0 : ¬cond0_0 i) (hc1 : cond0_1 i)
  (x0 : Vec F S1x8x512 .f32) (x1 : Vec F S1x65x8x128 .f32) (x2 : Vec F S1x8x64x128 .f32) (x3 : Vec F S1x8x64x128 .f32) (x4 : Vec F S1x8x64x128 .f32) (x5 : Vec F S1x8x64x128 .f32) (x6 : Vec F S1x8x64x128 .f32) (x7 : Vec F S1x8x64x128 .f32) (x8 : Vec F S1x8x64x128 .f32) (x9 : Vec F S1x8x64x128 .f32) (x10 : Vec F S1x8x64x128 .f32) (x11 : Vec F S1x8x64x128 .f32) (x12 : Vec F S1x8x64x128 .f32) (x13 : Vec F S1x8x64x128 .f32) (x14 : Vec F S1x8x64x128 .f32) (x15 : Vec F S1x8x64x128 .f32) (x16 : Vec F S1x8x64x128 .f32) (x17 : Vec F S1x8x64x128 .f32) (x18 : Vec F S1x8x64x128 .f32) (x19 : Vec F S1x8x64x128 .f32) (xt0 : TbBuf0 (F := F) c tbM0_0) (xs2 : Vec F S8x8x1 .f32) (xs3 : Vec F S8x8x1 .f32) (xs4 : Vec F S8x512 .f32)

/-- Case C's pieces for output 20 tile its block (1 store of `S1x8x512`, checked by the kernel's evaluation: Lib/Ring.lean `Piece.tiledL`, linear in the pieces, through a loop's `@[irreducible]` trip theorem too), so they cover it. -/
theorem cover0_C_20 (y : S1x8x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).1 S1x8x512.size (by sl_kernel_rfl) y

/-- What case C leaves in output 20's staging buffer: its pieces read back over junk. -/
def out0_C_20 : Vec F S1x8x512 .f32 :=
  VO0_20.read (Elt F) (VO0_20.writes (Elt F) VO0_20.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).1)

/-- Case C's pieces for scratch `arg26`, which the kernel carries between points, cover it: 8 pieces of `S1x8x1` tiling it (Lib/Ring.lean `Piece.tiledL`). -/
theorem scover0_C_2 (y : S8x8x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.1 S1x8x1.size (by sl_kernel_rfl) y

/-- What case C leaves in scratch `arg26`: its pieces read back over junk. -/
def sout0_C_2 : Vec F S8x8x1 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.1)

/-- Case C's pieces for scratch `arg27`, which the kernel carries between points, cover it: 8 pieces of `S1x8x1` tiling it (Lib/Ring.lean `Piece.tiledL`). -/
theorem scover0_C_3 (y : S8x8x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.1 S1x8x1.size (by sl_kernel_rfl) y

/-- What case C leaves in scratch `arg27`: its pieces read back over junk. -/
def sout0_C_3 : Vec F S8x8x1 .f32 :=
  VS0_3.read (Elt F) (VS0_3.writes (Elt F) VS0_3.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.1)

/-- Case C's pieces for scratch `arg28`, which the kernel carries between points, cover it: 8 pieces of `S8x64` tiling it (Lib/Ring.lean `Piece.tiledL`). -/
theorem scover0_C_4 (y : S8x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.2.1 S8x64.size (by sl_kernel_rfl) y

/-- What case C leaves in scratch `arg28`: its pieces read back over junk. -/
def sout0_C_4 : Vec F S8x512 .f32 :=
  VS0_4.read (Elt F) (VS0_4.writes (Elt F) VS0_4.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4).2.2.2.1)

end

end

/-! ## What the outputs hold after each point -/

/-- What the first point of a sequence leaves. -/
def caseA (hO : Ok m) (c : Dev nD) (t : Fin (cfgM m hO).N) (h0 : t.val % 8 = 0) (h1 : ¬t.val % 8 = 7) : Vec F S1x8x512 .f32 × Vec F S8x8x1 .f32 × Vec F S8x8x1 .f32 × Vec F S8x512 .f32 :=
  (out0_A_20 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0), sout0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0), sout0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0))

/-- What a middle point of a sequence leaves, over what the point before left. -/
def caseB (hO : Ok m) (c : Dev nD) (t : Fin (cfgM m hO).N) (h0 : ¬t.val % 8 = 0) (h1 : ¬t.val % 8 = 7) (p : Vec F S1x8x512 .f32 × Vec F S8x8x1 .f32 × Vec F S8x8x1 .f32 × Vec F S8x512 .f32) : Vec F S1x8x512 .f32 × Vec F S8x8x1 .f32 × Vec F S8x8x1 .f32 × Vec F S8x512 .f32 :=
  (out0_B_20 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) p.2.1 p.2.2.1 p.2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) p.2.1 p.2.2.1 p.2.2.2, sout0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) p.2.1 p.2.2.1 p.2.2.2, sout0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) p.2.1 p.2.2.1 p.2.2.2)

/-- What the last point of a sequence leaves, over what the point before left. -/
def caseC (hO : Ok m) (c : Dev nD) (t : Fin (cfgM m hO).N) (h0 : ¬t.val % 8 = 0) (h1 : t.val % 8 = 7) (p : Vec F S1x8x512 .f32 × Vec F S8x8x1 .f32 × Vec F S8x8x1 .f32 × Vec F S8x512 .f32) : Vec F S1x8x512 .f32 × Vec F S8x8x1 .f32 × Vec F S8x8x1 .f32 × Vec F S8x512 .f32 :=
  (out0_C_20 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) p.2.1 p.2.2.1 p.2.2.2, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) p.2.1 p.2.2.1 p.2.2.2, sout0_C_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) p.2.1 p.2.2.1 p.2.2.2, sout0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) p.2.1 p.2.2.1 p.2.2.2)

/-- What the output block and the carried scratch hold after the body at position `n`. -/
def outsAt0 (hO : Ok m) (c : Dev nD) : (n : ℕ) → n < (cfgM m hO).N → Vec F S1x8x512 .f32 × Vec F S8x8x1 .f32 × Vec F S8x8x1 .f32 × Vec F S8x512 .f32
  | 0, hn => caseA m hO c ⟨0, hn⟩ (Nat.zero_mod 8) (by dsimp only; omega)
  | n + 1, hn =>
    if h0 : (n + 1) % 8 = 0 then caseA m hO c ⟨n + 1, hn⟩ h0 (by dsimp only; omega)
    else if h1 : (n + 1) % 8 = 7 then caseC m hO c ⟨n + 1, hn⟩ h0 h1 (outsAt0 hO c n (Nat.lt_of_succ_lt hn))
    else caseB m hO c ⟨n + 1, hn⟩ h0 h1 (outsAt0 hO c n (Nat.lt_of_succ_lt hn))

theorem outsAt0_caseA (hO : Ok m) (c : Dev nD) (t : Fin (cfgM m hO).N) (h0 : t.val % 8 = 0) (h1 : ¬t.val % 8 = 7) : outsAt0 m hO c t.val t.isLt = caseA m hO c t h0 h1 := by
  obtain ⟨n, hn⟩ := t
  cases n with
  | zero => rfl
  | succ n => exact dif_pos h0

theorem outsAt0_caseB (hO : Ok m) (c : Dev nD) (t : Fin (cfgM m hO).N) (h0 : ¬t.val % 8 = 0) (h1 : ¬t.val % 8 = 7) :
    outsAt0 m hO c t.val t.isLt = caseB m hO c t h0 h1 (outsAt0 m hO c (t.val - 1) (Nat.lt_of_le_of_lt (Nat.sub_le _ _) t.isLt)) := by
  obtain ⟨n, hn⟩ := t
  cases n with
  | zero => exact absurd (Nat.zero_mod 8) h0
  | succ n => exact (dif_neg h0).trans (dif_neg h1)

theorem outsAt0_caseC (hO : Ok m) (c : Dev nD) (t : Fin (cfgM m hO).N) (h0 : ¬t.val % 8 = 0) (h1 : t.val % 8 = 7) :
    outsAt0 m hO c t.val t.isLt = caseC m hO c t h0 h1 (outsAt0 m hO c (t.val - 1) (Nat.lt_of_le_of_lt (Nat.sub_le _ _) t.isLt)) := by
  obtain ⟨n, hn⟩ := t
  cases n with
  | zero => exact absurd (Nat.zero_mod 8) h0
  | succ n => exact (dif_neg h0).trans (dif_pos h1)

theorem outsAt0_A (hO : Ok m) (c : Dev nD) (t : Fin (cfgM m hO).N) (h0 : t.val % 8 = 0) (h1 : ¬t.val % 8 = 7) :
    outsAt0 m hO c t.val t.isLt = (out0_A_20 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0), sout0_A_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0), sout0_A_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0), sout0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0)) :=
  (outsAt0_caseA m hO c t h0 h1).trans rfl

theorem outsAt0_B (hO : Ok m) (c : Dev nD) (t : Fin (cfgM m hO).N) (h0 : ¬t.val % 8 = 0) (h1 : ¬t.val % 8 = 7) :
    outsAt0 m hO c t.val t.isLt = (out0_B_20 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) :=
  (outsAt0_caseB m hO c t h0 h1).trans rfl

theorem outsAt0_C (hO : Ok m) (c : Dev nD) (t : Fin (cfgM m hO).N) (h0 : ¬t.val % 8 = 0) (h1 : t.val % 8 = 7) :
    outsAt0 m hO c t.val t.isLt = (out0_C_20 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_C_2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_C_3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2, sout0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2) :=
  (outsAt0_caseC m hO c t h0 h1).trans rfl

end Cert.KernelIdeal.Attn

end
-- ==== Proof.AttnHeads.lean ====
/-
  The eight heads' pieces of a carried array, stored side by side over whatever was there before, and the block of the
  output, each head's weighted values over its mass.
-/
module

public import proofs.«01_k».proof.Proof.AttnPieces
public import Idealize.ShloMosaic.Lib.Pipeline.ReadBack

@[expose] public section

set_option maxRecDepth 16384

noncomputable section

namespace Cert.KernelIdeal.AttnVal

open Cert.KernelIdeal Cert.KernelIdeal.Gen Cert.Softmax
open Idealize.ShloMosaic Idealize.ShloMosaic.TcCoe Idealize.ShloMosaic.Tactic

/-- Eight heads' pieces, each a block of `G`, stored over anything, leave `G`. -/
theorem heads_m (G : Vec Ideal S8x8x1 .f32) (L' : List (View.Piece (Elt Ideal) S8x8x1 .f32))
    (p7 : ∀ a, ![7, 0, 0] a + ![1, 8, 1] a ≤ S8x8x1.size a) (p6 : ∀ a, ![6, 0, 0] a + ![1, 8, 1] a ≤ S8x8x1.size a) (p5 : ∀ a, ![5, 0, 0] a + ![1, 8, 1] a ≤ S8x8x1.size a) (p4 : ∀ a, ![4, 0, 0] a + ![1, 8, 1] a ≤ S8x8x1.size a) (p3 : ∀ a, ![3, 0, 0] a + ![1, 8, 1] a ≤ S8x8x1.size a) (p2 : ∀ a, ![2, 0, 0] a + ![1, 8, 1] a ≤ S8x8x1.size a) (p1 : ∀ a, ![1, 0, 0] a + ![1, 8, 1] a ≤ S8x8x1.size a) (p0 : ∀ a, ![0, 0, 0] a + ![1, 8, 1] a ≤ S8x8x1.size a)
    (w7 w6 w5 w4 w3 w2 w1 w0 : Vec Ideal S1x8x1 .f32)
    (h7 : ∀ (y2 : S1x8x1.Idx) (y : S8x8x1.Idx), (y 0).val = 7 + (y2 0).val → (y 1).val = (y2 1).val → w7 y2 = G y)
    (h6 : ∀ (y2 : S1x8x1.Idx) (y : S8x8x1.Idx), (y 0).val = 6 + (y2 0).val → (y 1).val = (y2 1).val → w6 y2 = G y)
    (h5 : ∀ (y2 : S1x8x1.Idx) (y : S8x8x1.Idx), (y 0).val = 5 + (y2 0).val → (y 1).val = (y2 1).val → w5 y2 = G y)
    (h4 : ∀ (y2 : S1x8x1.Idx) (y : S8x8x1.Idx), (y 0).val = 4 + (y2 0).val → (y 1).val = (y2 1).val → w4 y2 = G y)
    (h3 : ∀ (y2 : S1x8x1.Idx) (y : S8x8x1.Idx), (y 0).val = 3 + (y2 0).val → (y 1).val = (y2 1).val → w3 y2 = G y)
    (h2 : ∀ (y2 : S1x8x1.Idx) (y : S8x8x1.Idx), (y 0).val = 2 + (y2 0).val → (y 1).val = (y2 1).val → w2 y2 = G y)
    (h1 : ∀ (y2 : S1x8x1.Idx) (y : S8x8x1.Idx), (y 0).val = 1 + (y2 0).val → (y 1).val = (y2 1).val → w1 y2 = G y)
    (h0 : ∀ (y2 : S1x8x1.Idx) (y : S8x8x1.Idx), (y 0).val = 0 + (y2 0).val → (y 1).val = (y2 1).val → w0 y2 = G y) (y : S8x8x1.Idx) :
    View.canon (Val := Elt Ideal) (e := .f32) (s := S8x8x1) (⟨Rect.unit ![7, 0, 0] ![1, 8, 1] p7, w7⟩ :: ⟨Rect.unit ![6, 0, 0] ![1, 8, 1] p6, w6⟩ :: ⟨Rect.unit ![5, 0, 0] ![1, 8, 1] p5, w5⟩ :: ⟨Rect.unit ![4, 0, 0] ![1, 8, 1] p4, w4⟩ :: ⟨Rect.unit ![3, 0, 0] ![1, 8, 1] p3, w3⟩ :: ⟨Rect.unit ![2, 0, 0] ![1, 8, 1] p2, w2⟩ :: ⟨Rect.unit ![1, 0, 0] ![1, 8, 1] p1, w1⟩ :: ⟨Rect.unit ![0, 0, 0] ![1, 8, 1] p0, w0⟩ :: L') y = G y := by
  refine View.canon_append_of_piecesOf (Val := Elt Ideal) (e := .f32) G L' [⟨Rect.unit ![7, 0, 0] ![1, 8, 1] p7, w7⟩, ⟨Rect.unit ![6, 0, 0] ![1, 8, 1] p6, w6⟩, ⟨Rect.unit ![5, 0, 0] ![1, 8, 1] p5, w5⟩, ⟨Rect.unit ![4, 0, 0] ![1, 8, 1] p4, w4⟩, ⟨Rect.unit ![3, 0, 0] ![1, 8, 1] p3, w3⟩, ⟨Rect.unit ![2, 0, 0] ![1, 8, 1] p2, w2⟩, ⟨Rect.unit ![1, 0, 0] ![1, 8, 1] p1, w1⟩, ⟨Rect.unit ![0, 0, 0] ![1, 8, 1] p0, w0⟩] ⟨fun x => h7 x ((Rect.unit (s := S8x8x1) ![7, 0, 0] ![1, 8, 1] p7).idx x) (Rect.idx_unit_val (s := S8x8x1) ![7, 0, 0] ![1, 8, 1] p7 x 0) ((Rect.idx_unit_val (s := S8x8x1) ![7, 0, 0] ![1, 8, 1] p7 x 1).trans (Nat.zero_add _)), fun x => h6 x ((Rect.unit (s := S8x8x1) ![6, 0, 0] ![1, 8, 1] p6).idx x) (Rect.idx_unit_val (s := S8x8x1) ![6, 0, 0] ![1, 8, 1] p6 x 0) ((Rect.idx_unit_val (s := S8x8x1) ![6, 0, 0] ![1, 8, 1] p6 x 1).trans (Nat.zero_add _)), fun x => h5 x ((Rect.unit (s := S8x8x1) ![5, 0, 0] ![1, 8, 1] p5).idx x) (Rect.idx_unit_val (s := S8x8x1) ![5, 0, 0] ![1, 8, 1] p5 x 0) ((Rect.idx_unit_val (s := S8x8x1) ![5, 0, 0] ![1, 8, 1] p5 x 1).trans (Nat.zero_add _)), fun x => h4 x ((Rect.unit (s := S8x8x1) ![4, 0, 0] ![1, 8, 1] p4).idx x) (Rect.idx_unit_val (s := S8x8x1) ![4, 0, 0] ![1, 8, 1] p4 x 0) ((Rect.idx_unit_val (s := S8x8x1) ![4, 0, 0] ![1, 8, 1] p4 x 1).trans (Nat.zero_add _)), fun x => h3 x ((Rect.unit (s := S8x8x1) ![3, 0, 0] ![1, 8, 1] p3).idx x) (Rect.idx_unit_val (s := S8x8x1) ![3, 0, 0] ![1, 8, 1] p3 x 0) ((Rect.idx_unit_val (s := S8x8x1) ![3, 0, 0] ![1, 8, 1] p3 x 1).trans (Nat.zero_add _)), fun x => h2 x ((Rect.unit (s := S8x8x1) ![2, 0, 0] ![1, 8, 1] p2).idx x) (Rect.idx_unit_val (s := S8x8x1) ![2, 0, 0] ![1, 8, 1] p2 x 0) ((Rect.idx_unit_val (s := S8x8x1) ![2, 0, 0] ![1, 8, 1] p2 x 1).trans (Nat.zero_add _)), fun x => h1 x ((Rect.unit (s := S8x8x1) ![1, 0, 0] ![1, 8, 1] p1).idx x) (Rect.idx_unit_val (s := S8x8x1) ![1, 0, 0] ![1, 8, 1] p1 x 0) ((Rect.idx_unit_val (s := S8x8x1) ![1, 0, 0] ![1, 8, 1] p1 x 1).trans (Nat.zero_add _)), fun x => h0 x ((Rect.unit (s := S8x8x1) ![0, 0, 0] ![1, 8, 1] p0).idx x) (Rect.idx_unit_val (s := S8x8x1) ![0, 0, 0] ![1, 8, 1] p0 x 0) ((Rect.idx_unit_val (s := S8x8x1) ![0, 0, 0] ![1, 8, 1] p0 x 1).trans (Nat.zero_add _)), trivial⟩ y ?_
  have b0 : (y 0).val < 8 := (y 0).isLt
  have b1 : (y 1).val < 8 := (y 1).isLt
  have b2 : (y 2).val < 1 := (y 2).isLt
  obtain ⟨z, e⟩ : ∃ z, (y 0).val = z := ⟨_, rfl⟩
  match z, e with
  | 0, e => exact ⟨⟨Rect.unit ![0, 0, 0] ![1, 8, 1] p0, w0⟩, List.mem_cons_of_mem _ (List.mem_cons_of_mem _ (List.mem_cons_of_mem _ (List.mem_cons_of_mem _ (List.mem_cons_of_mem _ (List.mem_cons_of_mem _ (List.mem_cons_of_mem _ (List.mem_cons_self))))))), (Rect.mem_set_unit (inb := p0)).mpr (fun a => by
      match a with
      | ⟨0, _⟩ => exact ⟨Nat.le_of_eq e.symm, by show (y 0).val < 0 + 1; omega⟩
      | ⟨1, _⟩ => exact ⟨Nat.zero_le _, by show (y 1).val < 0 + 8; omega⟩
      | ⟨2, _⟩ => exact ⟨Nat.zero_le _, by show (y 2).val < 0 + 1; omega⟩)⟩
  | 1, e => exact ⟨⟨Rect.unit ![1, 0, 0] ![1, 8, 1] p1, w1⟩, List.mem_cons_of_mem _ (List.mem_cons_of_mem _ (List.mem_cons_of_mem _ (List.mem_cons_of_mem _ (List.mem_cons_of_mem _ (List.mem_cons_of_mem _ (List.mem_cons_self)))))), (Rect.mem_set_unit (inb := p1)).mpr (fun a => by
      match a with
      | ⟨0, _⟩ => exact ⟨Nat.le_of_eq e.symm, by show (y 0).val < 1 + 1; omega⟩
      | ⟨1, _⟩ => exact ⟨Nat.zero_le _, by show (y 1).val < 0 + 8; omega⟩
      | ⟨2, _⟩ => exact ⟨Nat.zero_le _, by show (y 2).val < 0 + 1; omega⟩)⟩
  | 2, e => exact ⟨⟨Rect.unit ![2, 0, 0] ![1, 8, 1] p2, w2⟩, List.mem_cons_of_mem _ (List.mem_cons_of_mem _ (List.mem_cons_of_mem _ (List.mem_cons_of_mem _ (List.mem_cons_of_mem _ (List.mem_cons_self))))), (Rect.mem_set_unit (inb := p2)).mpr (fun a => by
      match a with
      | ⟨0, _⟩ => exact ⟨Nat.le_of_eq e.symm, by show (y 0).val < 2 + 1; omega⟩
      | ⟨1, _⟩ => exact ⟨Nat.zero_le _, by show (y 1).val < 0 + 8; omega⟩
      | ⟨2, _⟩ => exact ⟨Nat.zero_le _, by show (y 2).val < 0 + 1; omega⟩)⟩
  | 3, e => exact ⟨⟨Rect.unit ![3, 0, 0] ![1, 8, 1] p3, w3⟩, List.mem_cons_of_mem _ (List.mem_cons_of_mem _ (List.mem_cons_of_mem _ (List.mem_cons_of_mem _ (List.mem_cons_self)))), (Rect.mem_set_unit (inb := p3)).mpr (fun a => by
      match a with
      | ⟨0, _⟩ => exact ⟨Nat.le_of_eq e.symm, by show (y 0).val < 3 + 1; omega⟩
      | ⟨1, _⟩ => exact ⟨Nat.zero_le _, by show (y 1).val < 0 + 8; omega⟩
      | ⟨2, _⟩ => exact ⟨Nat.zero_le _, by show (y 2).val < 0 + 1; omega⟩)⟩
  | 4, e => exact ⟨⟨Rect.unit ![4, 0, 0] ![1, 8, 1] p4, w4⟩, List.mem_cons_of_mem _ (List.mem_cons_of_mem _ (List.mem_cons_of_mem _ (List.mem_cons_self))), (Rect.mem_set_unit (inb := p4)).mpr (fun a => by
      match a with
      | ⟨0, _⟩ => exact ⟨Nat.le_of_eq e.symm, by show (y 0).val < 4 + 1; omega⟩
      | ⟨1, _⟩ => exact ⟨Nat.zero_le _, by show (y 1).val < 0 + 8; omega⟩
      | ⟨2, _⟩ => exact ⟨Nat.zero_le _, by show (y 2).val < 0 + 1; omega⟩)⟩
  | 5, e => exact ⟨⟨Rect.unit ![5, 0, 0] ![1, 8, 1] p5, w5⟩, List.mem_cons_of_mem _ (List.mem_cons_of_mem _ (List.mem_cons_self)), (Rect.mem_set_unit (inb := p5)).mpr (fun a => by
      match a with
      | ⟨0, _⟩ => exact ⟨Nat.le_of_eq e.symm, by show (y 0).val < 5 + 1; omega⟩
      | ⟨1, _⟩ => exact ⟨Nat.zero_le _, by show (y 1).val < 0 + 8; omega⟩
      | ⟨2, _⟩ => exact ⟨Nat.zero_le _, by show (y 2).val < 0 + 1; omega⟩)⟩
  | 6, e => exact ⟨⟨Rect.unit ![6, 0, 0] ![1, 8, 1] p6, w6⟩, List.mem_cons_of_mem _ (List.mem_cons_self), (Rect.mem_set_unit (inb := p6)).mpr (fun a => by
      match a with
      | ⟨0, _⟩ => exact ⟨Nat.le_of_eq e.symm, by show (y 0).val < 6 + 1; omega⟩
      | ⟨1, _⟩ => exact ⟨Nat.zero_le _, by show (y 1).val < 0 + 8; omega⟩
      | ⟨2, _⟩ => exact ⟨Nat.zero_le _, by show (y 2).val < 0 + 1; omega⟩)⟩
  | 7, e => exact ⟨⟨Rect.unit ![7, 0, 0] ![1, 8, 1] p7, w7⟩, List.mem_cons_self, (Rect.mem_set_unit (inb := p7)).mpr (fun a => by
      match a with
      | ⟨0, _⟩ => exact ⟨Nat.le_of_eq e.symm, by show (y 0).val < 7 + 1; omega⟩
      | ⟨1, _⟩ => exact ⟨Nat.zero_le _, by show (y 1).val < 0 + 8; omega⟩
      | ⟨2, _⟩ => exact ⟨Nat.zero_le _, by show (y 2).val < 0 + 1; omega⟩)⟩
  | n + 8, e => omega

/-- Eight heads' pieces, each a block of `G`, stored over anything, leave `G`. -/
theorem heads_a (G : Vec Ideal S8x512 .f32) (L' : List (View.Piece (Elt Ideal) S8x512 .f32))
    (p7 : ∀ a, ![0, 448] a + ![8, 64] a ≤ S8x512.size a) (p6 : ∀ a, ![0, 384] a + ![8, 64] a ≤ S8x512.size a) (p5 : ∀ a, ![0, 320] a + ![8, 64] a ≤ S8x512.size a) (p4 : ∀ a, ![0, 256] a + ![8, 64] a ≤ S8x512.size a) (p3 : ∀ a, ![0, 192] a + ![8, 64] a ≤ S8x512.size a) (p2 : ∀ a, ![0, 128] a + ![8, 64] a ≤ S8x512.size a) (p1 : ∀ a, ![0, 64] a + ![8, 64] a ≤ S8x512.size a) (p0 : ∀ a, ![0, 0] a + ![8, 64] a ≤ S8x512.size a)
    (w7 w6 w5 w4 w3 w2 w1 w0 : Vec Ideal S8x64 .f32)
    (h7 : ∀ (y2 : S8x64.Idx) (y : S8x512.Idx), (y 0).val = (y2 0).val → (y 1).val = 448 + (y2 1).val → w7 y2 = G y)
    (h6 : ∀ (y2 : S8x64.Idx) (y : S8x512.Idx), (y 0).val = (y2 0).val → (y 1).val = 384 + (y2 1).val → w6 y2 = G y)
    (h5 : ∀ (y2 : S8x64.Idx) (y : S8x512.Idx), (y 0).val = (y2 0).val → (y 1).val = 320 + (y2 1).val → w5 y2 = G y)
    (h4 : ∀ (y2 : S8x64.Idx) (y : S8x512.Idx), (y 0).val = (y2 0).val → (y 1).val = 256 + (y2 1).val → w4 y2 = G y)
    (h3 : ∀ (y2 : S8x64.Idx) (y : S8x512.Idx), (y 0).val = (y2 0).val → (y 1).val = 192 + (y2 1).val → w3 y2 = G y)
    (h2 : ∀ (y2 : S8x64.Idx) (y : S8x512.Idx), (y 0).val = (y2 0).val → (y 1).val = 128 + (y2 1).val → w2 y2 = G y)
    (h1 : ∀ (y2 : S8x64.Idx) (y : S8x512.Idx), (y 0).val = (y2 0).val → (y 1).val = 64 + (y2 1).val → w1 y2 = G y)
    (h0 : ∀ (y2 : S8x64.Idx) (y : S8x512.Idx), (y 0).val = (y2 0).val → (y 1).val = 0 + (y2 1).val → w0 y2 = G y) (y : S8x512.Idx) :
    View.canon (Val := Elt Ideal) (e := .f32) (s := S8x512) (⟨Rect.unit ![0, 448] ![8, 64] p7, w7⟩ :: ⟨Rect.unit ![0, 384] ![8, 64] p6, w6⟩ :: ⟨Rect.unit ![0, 320] ![8, 64] p5, w5⟩ :: ⟨Rect.unit ![0, 256] ![8, 64] p4, w4⟩ :: ⟨Rect.unit ![0, 192] ![8, 64] p3, w3⟩ :: ⟨Rect.unit ![0, 128] ![8, 64] p2, w2⟩ :: ⟨Rect.unit ![0, 64] ![8, 64] p1, w1⟩ :: ⟨Rect.unit ![0, 0] ![8, 64] p0, w0⟩ :: L') y = G y := by
  refine View.canon_append_of_piecesOf (Val := Elt Ideal) (e := .f32) G L' [⟨Rect.unit ![0, 448] ![8, 64] p7, w7⟩, ⟨Rect.unit ![0, 384] ![8, 64] p6, w6⟩, ⟨Rect.unit ![0, 320] ![8, 64] p5, w5⟩, ⟨Rect.unit ![0, 256] ![8, 64] p4, w4⟩, ⟨Rect.unit ![0, 192] ![8, 64] p3, w3⟩, ⟨Rect.unit ![0, 128] ![8, 64] p2, w2⟩, ⟨Rect.unit ![0, 64] ![8, 64] p1, w1⟩, ⟨Rect.unit ![0, 0] ![8, 64] p0, w0⟩] ⟨fun x => h7 x ((Rect.unit (s := S8x512) ![0, 448] ![8, 64] p7).idx x) ((Rect.idx_unit_val (s := S8x512) ![0, 448] ![8, 64] p7 x 0).trans (Nat.zero_add _)) (Rect.idx_unit_val (s := S8x512) ![0, 448] ![8, 64] p7 x 1), fun x => h6 x ((Rect.unit (s := S8x512) ![0, 384] ![8, 64] p6).idx x) ((Rect.idx_unit_val (s := S8x512) ![0, 384] ![8, 64] p6 x 0).trans (Nat.zero_add _)) (Rect.idx_unit_val (s := S8x512) ![0, 384] ![8, 64] p6 x 1), fun x => h5 x ((Rect.unit (s := S8x512) ![0, 320] ![8, 64] p5).idx x) ((Rect.idx_unit_val (s := S8x512) ![0, 320] ![8, 64] p5 x 0).trans (Nat.zero_add _)) (Rect.idx_unit_val (s := S8x512) ![0, 320] ![8, 64] p5 x 1), fun x => h4 x ((Rect.unit (s := S8x512) ![0, 256] ![8, 64] p4).idx x) ((Rect.idx_unit_val (s := S8x512) ![0, 256] ![8, 64] p4 x 0).trans (Nat.zero_add _)) (Rect.idx_unit_val (s := S8x512) ![0, 256] ![8, 64] p4 x 1), fun x => h3 x ((Rect.unit (s := S8x512) ![0, 192] ![8, 64] p3).idx x) ((Rect.idx_unit_val (s := S8x512) ![0, 192] ![8, 64] p3 x 0).trans (Nat.zero_add _)) (Rect.idx_unit_val (s := S8x512) ![0, 192] ![8, 64] p3 x 1), fun x => h2 x ((Rect.unit (s := S8x512) ![0, 128] ![8, 64] p2).idx x) ((Rect.idx_unit_val (s := S8x512) ![0, 128] ![8, 64] p2 x 0).trans (Nat.zero_add _)) (Rect.idx_unit_val (s := S8x512) ![0, 128] ![8, 64] p2 x 1), fun x => h1 x ((Rect.unit (s := S8x512) ![0, 64] ![8, 64] p1).idx x) ((Rect.idx_unit_val (s := S8x512) ![0, 64] ![8, 64] p1 x 0).trans (Nat.zero_add _)) (Rect.idx_unit_val (s := S8x512) ![0, 64] ![8, 64] p1 x 1), fun x => h0 x ((Rect.unit (s := S8x512) ![0, 0] ![8, 64] p0).idx x) ((Rect.idx_unit_val (s := S8x512) ![0, 0] ![8, 64] p0 x 0).trans (Nat.zero_add _)) (Rect.idx_unit_val (s := S8x512) ![0, 0] ![8, 64] p0 x 1), trivial⟩ y ?_
  have b0 : (y 0).val < 8 := (y 0).isLt
  have b1 : (y 1).val < 512 := (y 1).isLt
  obtain ⟨z, e⟩ : ∃ z, (y 1).val / 64 = z := ⟨_, rfl⟩
  match z, e with
  | 0, e => exact ⟨⟨Rect.unit ![0, 0] ![8, 64] p0, w0⟩, List.mem_cons_of_mem _ (List.mem_cons_of_mem _ (List.mem_cons_of_mem _ (List.mem_cons_of_mem _ (List.mem_cons_of_mem _ (List.mem_cons_of_mem _ (List.mem_cons_of_mem _ (List.mem_cons_self))))))), (Rect.mem_set_unit (inb := p0)).mpr (fun a => by
      match a with
      | ⟨0, _⟩ => exact ⟨Nat.zero_le _, by show (y 0).val < 0 + 8; omega⟩
      | ⟨1, _⟩ => exact ⟨by show 0 ≤ (y 1).val; omega, by show (y 1).val < 0 + 64; omega⟩)⟩
  | 1, e => exact ⟨⟨Rect.unit ![0, 64] ![8, 64] p1, w1⟩, List.mem_cons_of_mem _ (List.mem_cons_of_mem _ (List.mem_cons_of_mem _ (List.mem_cons_of_mem _ (List.mem_cons_of_mem _ (List.mem_cons_of_mem _ (List.mem_cons_self)))))), (Rect.mem_set_unit (inb := p1)).mpr (fun a => by
      match a with
      | ⟨0, _⟩ => exact ⟨Nat.zero_le _, by show (y 0).val < 0 + 8; omega⟩
      | ⟨1, _⟩ => exact ⟨by show 64 ≤ (y 1).val; omega, by show (y 1).val < 64 + 64; omega⟩)⟩
  | 2, e => exact ⟨⟨Rect.unit ![0, 128] ![8, 64] p2, w2⟩, List.mem_cons_of_mem _ (List.mem_cons_of_mem _ (List.mem_cons_of_mem _ (List.mem_cons_of_mem _ (List.mem_cons_of_mem _ (List.mem_cons_self))))), (Rect.mem_set_unit (inb := p2)).mpr (fun a => by
      match a with
      | ⟨0, _⟩ => exact ⟨Nat.zero_le _, by show (y 0).val < 0 + 8; omega⟩
      | ⟨1, _⟩ => exact ⟨by show 128 ≤ (y 1).val; omega, by show (y 1).val < 128 + 64; omega⟩)⟩
  | 3, e => exact ⟨⟨Rect.unit ![0, 192] ![8, 64] p3, w3⟩, List.mem_cons_of_mem _ (List.mem_cons_of_mem _ (List.mem_cons_of_mem _ (List.mem_cons_of_mem _ (List.mem_cons_self)))), (Rect.mem_set_unit (inb := p3)).mpr (fun a => by
      match a with
      | ⟨0, _⟩ => exact ⟨Nat.zero_le _, by show (y 0).val < 0 + 8; omega⟩
      | ⟨1, _⟩ => exact ⟨by show 192 ≤ (y 1).val; omega, by show (y 1).val < 192 + 64; omega⟩)⟩
  | 4, e => exact ⟨⟨Rect.unit ![0, 256] ![8, 64] p4, w4⟩, List.mem_cons_of_mem _ (List.mem_cons_of_mem _ (List.mem_cons_of_mem _ (List.mem_cons_self))), (Rect.mem_set_unit (inb := p4)).mpr (fun a => by
      match a with
      | ⟨0, _⟩ => exact ⟨Nat.zero_le _, by show (y 0).val < 0 + 8; omega⟩
      | ⟨1, _⟩ => exact ⟨by show 256 ≤ (y 1).val; omega, by show (y 1).val < 256 + 64; omega⟩)⟩
  | 5, e => exact ⟨⟨Rect.unit ![0, 320] ![8, 64] p5, w5⟩, List.mem_cons_of_mem _ (List.mem_cons_of_mem _ (List.mem_cons_self)), (Rect.mem_set_unit (inb := p5)).mpr (fun a => by
      match a with
      | ⟨0, _⟩ => exact ⟨Nat.zero_le _, by show (y 0).val < 0 + 8; omega⟩
      | ⟨1, _⟩ => exact ⟨by show 320 ≤ (y 1).val; omega, by show (y 1).val < 320 + 64; omega⟩)⟩
  | 6, e => exact ⟨⟨Rect.unit ![0, 384] ![8, 64] p6, w6⟩, List.mem_cons_of_mem _ (List.mem_cons_self), (Rect.mem_set_unit (inb := p6)).mpr (fun a => by
      match a with
      | ⟨0, _⟩ => exact ⟨Nat.zero_le _, by show (y 0).val < 0 + 8; omega⟩
      | ⟨1, _⟩ => exact ⟨by show 384 ≤ (y 1).val; omega, by show (y 1).val < 384 + 64; omega⟩)⟩
  | 7, e => exact ⟨⟨Rect.unit ![0, 448] ![8, 64] p7, w7⟩, List.mem_cons_self, (Rect.mem_set_unit (inb := p7)).mpr (fun a => by
      match a with
      | ⟨0, _⟩ => exact ⟨Nat.zero_le _, by show (y 0).val < 0 + 8; omega⟩
      | ⟨1, _⟩ => exact ⟨by show 448 ≤ (y 1).val; omega, by show (y 1).val < 448 + 64; omega⟩)⟩
  | n + 8, e => omega

/-- A head's weighted values over its mass. -/
def quot (A : Vec Ideal S8x64 .f32) (L : Vec Ideal S1x8x1 .f32) : FVec Ideal S8x64 .f32 :=
  divf A (broadcastTo S8x64 (shapeCast S8x1 L shapeCasts_S1x8x1_S8x1) broadcasts_S8x1_S8x64)

theorem quot_apply (A : Vec Ideal S8x64 .f32) (L : Vec Ideal S1x8x1 .f32) (r : Fin 8) (c : Fin 64) :
    (quot A L (ix2 r c) : EReal) = Ideal.div (A (ix2 r c)) (L (ix3 (0 : Fin 1) r (0 : Fin 1))) := by
  refine congrArg (Ideal.div (A (ix2 r c))) ?_
  rw [Pointwise.broadcastTo_apply]
  exact cast_out L r

/-- Eight heads side by side. -/
theorem cat64_apply (f : Fin 8 → FVec Ideal S8x64 .f32) (r : Fin 8) (k : Fin 512) :
    concatenate S8x512 1 [⟨S8x64, f 0⟩, ⟨S8x64, f 1⟩, ⟨S8x64, f 2⟩, ⟨S8x64, f 3⟩, ⟨S8x64, f 4⟩, ⟨S8x64, f 5⟩, ⟨S8x64, f 6⟩,
      ⟨S8x64, f 7⟩] concatenates_S8x64_S8x64_S8x64_S8x64_S8x64_S8x64_S8x64_S8x64_S8x512_d1 (ix2 r k)
      = f (⟨k.val / 64, by have := k.isLt; omega⟩ : Fin 8) (ix2 r (⟨k.val % 64, Nat.mod_lt _ (by decide)⟩ : Fin 64)) := by
  refine concatenate_ofFn_apply (t := S8x512) (s₁ := S8x64) 1 f
    concatenates_S8x64_S8x64_S8x64_S8x64_S8x64_S8x64_S8x64_S8x64_S8x512_d1 rfl 64 rfl (ix2 r k)
    (⟨k.val / 64, by have := k.isLt; omega⟩ : Fin 8) rfl (ix2 r (⟨k.val % 64, Nat.mod_lt _ (by decide)⟩ : Fin 64)) rfl fun b hb => ?_
  match b with
  | ⟨0, _⟩ => rfl
  | ⟨1, _⟩ => exact absurd rfl hb

/-- The block of the output: the weighted values `aa` over the masses `ll`. -/
theorem out_eq (aa : Vec Ideal S8x512 .f32) (ll : Vec Ideal S8x8x1 .f32) (A0 A1 A2 A3 A4 A5 A6 A7 : Vec Ideal S8x64 .f32) (L0 L1 L2 L3 L4 L5 L6 L7 : Vec Ideal S1x8x1 .f32)
    (hA0 : ∀ (y2 : S8x64.Idx) (y : S8x512.Idx), (y 0).val = (y2 0).val → (y 1).val = 0 + (y2 1).val → A0 y2 = aa y)
    (hA1 : ∀ (y2 : S8x64.Idx) (y : S8x512.Idx), (y 0).val = (y2 0).val → (y 1).val = 64 + (y2 1).val → A1 y2 = aa y)
    (hA2 : ∀ (y2 : S8x64.Idx) (y : S8x512.Idx), (y 0).val = (y2 0).val → (y 1).val = 128 + (y2 1).val → A2 y2 = aa y)
    (hA3 : ∀ (y2 : S8x64.Idx) (y : S8x512.Idx), (y 0).val = (y2 0).val → (y 1).val = 192 + (y2 1).val → A3 y2 = aa y)
    (hA4 : ∀ (y2 : S8x64.Idx) (y : S8x512.Idx), (y 0).val = (y2 0).val → (y 1).val = 256 + (y2 1).val → A4 y2 = aa y)
    (hA5 : ∀ (y2 : S8x64.Idx) (y : S8x512.Idx), (y 0).val = (y2 0).val → (y 1).val = 320 + (y2 1).val → A5 y2 = aa y)
    (hA6 : ∀ (y2 : S8x64.Idx) (y : S8x512.Idx), (y 0).val = (y2 0).val → (y 1).val = 384 + (y2 1).val → A6 y2 = aa y)
    (hA7 : ∀ (y2 : S8x64.Idx) (y : S8x512.Idx), (y 0).val = (y2 0).val → (y 1).val = 448 + (y2 1).val → A7 y2 = aa y)
    (hL0 : ∀ (y2 : S1x8x1.Idx) (y : S8x8x1.Idx), (y 0).val = 0 + (y2 0).val → (y 1).val = (y2 1).val → L0 y2 = ll y)
    (hL1 : ∀ (y2 : S1x8x1.Idx) (y : S8x8x1.Idx), (y 0).val = 1 + (y2 0).val → (y 1).val = (y2 1).val → L1 y2 = ll y)
    (hL2 : ∀ (y2 : S1x8x1.Idx) (y : S8x8x1.Idx), (y 0).val = 2 + (y2 0).val → (y 1).val = (y2 1).val → L2 y2 = ll y)
    (hL3 : ∀ (y2 : S1x8x1.Idx) (y : S8x8x1.Idx), (y 0).val = 3 + (y2 0).val → (y 1).val = (y2 1).val → L3 y2 = ll y)
    (hL4 : ∀ (y2 : S1x8x1.Idx) (y : S8x8x1.Idx), (y 0).val = 4 + (y2 0).val → (y 1).val = (y2 1).val → L4 y2 = ll y)
    (hL5 : ∀ (y2 : S1x8x1.Idx) (y : S8x8x1.Idx), (y 0).val = 5 + (y2 0).val → (y 1).val = (y2 1).val → L5 y2 = ll y)
    (hL6 : ∀ (y2 : S1x8x1.Idx) (y : S8x8x1.Idx), (y 0).val = 6 + (y2 0).val → (y 1).val = (y2 1).val → L6 y2 = ll y)
    (hL7 : ∀ (y2 : S1x8x1.Idx) (y : S8x8x1.Idx), (y 0).val = 7 + (y2 0).val → (y 1).val = (y2 1).val → L7 y2 = ll y) (r : Fin 8) (k : Fin 512) :
    (k0_pay2 (F := Ideal) (k0_pay91 A0 L0) (k0_pay92 A1 L1) (k0_pay93 A2 L2) (k0_pay94 A3 L3) (k0_pay95 A4 L4) (k0_pay96 A5 L5) A6 L6 A7 L7 (ix3 (0 : Fin 1) r k) : EReal)
      = Ideal.div (aa (ix2 r k)) (ll (ix3 (⟨k.val / 64, by have := k.isLt; omega⟩ : Fin 8) r (0 : Fin 1))) := by
  show (shapeCast S1x8x512 (concatenate S8x512 1 [⟨S8x64, quot A0 L0⟩, ⟨S8x64, quot A1 L1⟩, ⟨S8x64, quot A2 L2⟩, ⟨S8x64, quot A3 L3⟩, ⟨S8x64, quot A4 L4⟩, ⟨S8x64, quot A5 L5⟩, ⟨S8x64, quot A6 L6⟩, ⟨S8x64, quot A7 L7⟩]
    concatenates_S8x64_S8x64_S8x64_S8x64_S8x64_S8x64_S8x64_S8x64_S8x512_d1) shapeCasts_S8x512_S1x8x512 (ix3 (0 : Fin 1) r k) : EReal) = _
  refine (shapeCast_apply _ shapeCasts_S8x512_S1x8x512 (ix3 (0 : Fin 1) r k) (ix2 r k) ?_).trans ?_
  · rw [Shape.rowMajor_val_three, Shape.rowMajor_val_two]
    show r.val * 512 + k.val = (0 * 8 + r.val) * 512 + k.val
    omega
  refine (cat64_apply ![quot A0 L0, quot A1 L1, quot A2 L2, quot A3 L3, quot A4 L4, quot A5 L5, quot A6 L6, quot A7 L7] r k).trans ?_
  have key : ∀ n : Fin 8, n.val = k.val / 64 → (![quot A0 L0, quot A1 L1, quot A2 L2, quot A3 L3, quot A4 L4, quot A5 L5, quot A6 L6, quot A7 L7] n
      (ix2 r (⟨k.val % 64, Nat.mod_lt _ (by decide)⟩ : Fin 64)) : EReal) = Ideal.div (aa (ix2 r k)) (ll (ix3 n r (0 : Fin 1))) := by
    intro n hn
    match n, hn with
    | ⟨0, _⟩, hn =>
      refine (quot_apply A0 L0 _ _).trans ?_
      rw [hA0 _ (ix2 r k) rfl (by show k.val = 0 + k.val % 64; have : 0 = k.val / 64 := hn; omega), hL0 _ (ix3 (⟨0, by decide⟩ : Fin 8) r (0 : Fin 1)) rfl rfl]
    | ⟨1, _⟩, hn =>
      refine (quot_apply A1 L1 _ _).trans ?_
      rw [hA1 _ (ix2 r k) rfl (by show k.val = 64 + k.val % 64; have : 1 = k.val / 64 := hn; omega), hL1 _ (ix3 (⟨1, by decide⟩ : Fin 8) r (0 : Fin 1)) rfl rfl]
    | ⟨2, _⟩, hn =>
      refine (quot_apply A2 L2 _ _).trans ?_
      rw [hA2 _ (ix2 r k) rfl (by show k.val = 128 + k.val % 64; have : 2 = k.val / 64 := hn; omega), hL2 _ (ix3 (⟨2, by decide⟩ : Fin 8) r (0 : Fin 1)) rfl rfl]
    | ⟨3, _⟩, hn =>
      refine (quot_apply A3 L3 _ _).trans ?_
      rw [hA3 _ (ix2 r k) rfl (by show k.val = 192 + k.val % 64; have : 3 = k.val / 64 := hn; omega), hL3 _ (ix3 (⟨3, by decide⟩ : Fin 8) r (0 : Fin 1)) rfl rfl]
    | ⟨4, _⟩, hn =>
      refine (quot_apply A4 L4 _ _).trans ?_
      rw [hA4 _ (ix2 r k) rfl (by show k.val = 256 + k.val % 64; have : 4 = k.val / 64 := hn; omega), hL4 _ (ix3 (⟨4, by decide⟩ : Fin 8) r (0 : Fin 1)) rfl rfl]
    | ⟨5, _⟩, hn =>
      refine (quot_apply A5 L5 _ _).trans ?_
      rw [hA5 _ (ix2 r k) rfl (by show k.val = 320 + k.val % 64; have : 5 = k.val / 64 := hn; omega), hL5 _ (ix3 (⟨5, by decide⟩ : Fin 8) r (0 : Fin 1)) rfl rfl]
    | ⟨6, _⟩, hn =>
      refine (quot_apply A6 L6 _ _).trans ?_
      rw [hA6 _ (ix2 r k) rfl (by show k.val = 384 + k.val % 64; have : 6 = k.val / 64 := hn; omega), hL6 _ (ix3 (⟨6, by decide⟩ : Fin 8) r (0 : Fin 1)) rfl rfl]
    | ⟨7, _⟩, hn =>
      refine (quot_apply A7 L7 _ _).trans ?_
      rw [hA7 _ (ix2 r k) rfl (by show k.val = 448 + k.val % 64; have : 7 = k.val / 64 := hn; omega), hL7 _ (ix3 (⟨7, by decide⟩ : Fin 8) r (0 : Fin 1)) rfl rfl]
  exact key _ rfl

end Cert.KernelIdeal.AttnVal

end
-- ==== Proof.AttnMid.lean ====
/-
  A middle point of the sample attention: the carried arrays once its eight pages are in.
-/
module

public import proofs.«01_k».proof.Proof.AttnOuts
public import proofs.«01_k».proof.Proof.AttnHeads
public import proofs.«01_k».proof.Proof.AttnBuf

@[expose] public section

set_option maxRecDepth 16384

noncomputable section

namespace Cert.KernelIdeal.AttnVal

open Cert.KernelIdeal Cert.KernelIdeal.Gen Cert.KernelIdeal.Attn
open Idealize.ShloMosaic Idealize.ShloMosaic.TcCoe Idealize.ShloMosaic.Tactic

variable (c : Dev nD) (i : grid0.Coords) (arg3 : Memref sig .tc .vmem S1x8x512 .f32) (harg3 : arg3.IsWhole) (arg4 : Memref sig .tc .vmem S1x65x8x128 .f32) (harg4 : arg4.IsWhole) (arg5 : Memref sig .tc .vmem S1x8x64x128 .f32) (harg5 : arg5.IsWhole) (arg6 : Memref sig .tc .vmem S1x8x64x128 .f32) (harg6 : arg6.IsWhole) (arg7 : Memref sig .tc .vmem S1x8x64x128 .f32) (harg7 : arg7.IsWhole) (arg8 : Memref sig .tc .vmem S1x8x64x128 .f32) (harg8 : arg8.IsWhole) (arg9 : Memref sig .tc .vmem S1x8x64x128 .f32) (harg9 : arg9.IsWhole) (arg10 : Memref sig .tc .vmem S1x8x64x128 .f32) (harg10 : arg10.IsWhole) (arg11 : Memref sig .tc .vmem S1x8x64x128 .f32) (harg11 : arg11.IsWhole) (arg12 : Memref sig .tc .vmem S1x8x64x128 .f32) (harg12 : arg12.IsWhole) (arg13 : Memref sig .tc .vmem S1x8x64x128 .f32) (harg13 : arg13.IsWhole) (arg14 : Memref sig .tc .vmem S1x8x64x128 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x512 .f32) (harg23 : arg23.IsWhole) (arg24 : Memref sig .tc .vmem S8x64x1024 .bf16) (harg24 : arg24.IsWhole) (arg25 : Memref sig .tc .vmem S8x64x1024 .bf16) (harg25 : arg25.IsWhole) (arg26 : Memref sig .tc .vmem S8x8x1 .f32) (harg26 : arg26.IsWhole) (arg27 : Memref sig .tc .vmem S8x8x1 .f32) (harg27 : arg27.IsWhole) (arg28 : Memref sig .tc .vmem S8x512 .f32) (harg28 : arg28.IsWhole) (hc0 : ¬cond0_0 i) (hc1 : ¬cond0_1 i)
  (x0 : Vec Ideal S1x8x512 .f32) (x1 : Vec Ideal S1x65x8x128 .f32) (x2 : Vec Ideal S1x8x64x128 .f32) (x3 : Vec Ideal S1x8x64x128 .f32) (x4 : Vec Ideal S1x8x64x128 .f32) (x5 : Vec Ideal S1x8x64x128 .f32) (x6 : Vec Ideal S1x8x64x128 .f32) (x7 : Vec Ideal S1x8x64x128 .f32) (x8 : Vec Ideal S1x8x64x128 .f32) (x9 : Vec Ideal S1x8x64x128 .f32) (x10 : Vec Ideal S1x8x64x128 .f32) (x11 : Vec Ideal S1x8x64x128 .f32) (x12 : Vec Ideal S1x8x64x128 .f32) (x13 : Vec Ideal S1x8x64x128 .f32) (x14 : Vec Ideal S1x8x64x128 .f32) (x15 : Vec Ideal S1x8x64x128 .f32) (x16 : Vec Ideal S1x8x64x128 .f32) (x17 : Vec Ideal S1x8x64x128 .f32) (x18 : Vec Ideal S1x8x64x128 .f32) (x19 : Vec Ideal S1x8x64x128 .f32) (xt0 : TbBuf0 (F := Ideal) c tbM0_0) (xs2 : Vec Ideal S8x8x1 .f32) (xs3 : Vec Ideal S8x8x1 .f32) (xs4 : Vec Ideal S8x512 .f32)

/-- The greatest logits after a middle point. -/
theorem sout0_B_2_eq (y : S8x8x1.Idx) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4 y
      = nextM xs2 x0 (keysOf ![x4, x5, x6, x7, x8, x9, x10, x11]) (biasOf (i 1).val (i 1).isLt x1) y := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4)]
  unfold kernelRun0_B
  dsimp only
  sl_unfold_words
  simp (disch := decide) only [↓View.readCov_skip (s := S8x8x1), ↓View.readCov_skip (s := S8x512), View.readCov_cons_toLoadRect, View.readCov_fill, kbuf, vbuf, View.readAt_eq_ld,
    harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread]
  clear * -
  refine heads_m (nextM xs2 x0 (keysOf ![x4, x5, x6, x7, x8, x9, x10, x11]) (biasOf (i 1).val (i 1).isLt x1)) _ _ _ _ _ _ _ _ _ _ _ _ _ _ _ _ _ ?_ ?_ ?_ ?_ ?_ ?_ ?_ ?_ y
  · exact fun y2 y h0 h1 => m_head 7 (by decide) slices_S8x512_o0_448_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 7 (by decide) _ d k) _ xs2 (fun r => col_apply xs2 7 (by decide) _ r) y2 y h0 h1
  · exact fun y2 y h0 h1 => m_head 6 (by decide) slices_S8x512_o0_384_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 6 (by decide) _ d k) _ xs2 (fun r => col_apply xs2 6 (by decide) _ r) y2 y h0 h1
  · exact fun y2 y h0 h1 => m_head 5 (by decide) slices_S8x512_o0_320_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 5 (by decide) _ d k) _ xs2 (fun r => col_apply xs2 5 (by decide) _ r) y2 y h0 h1
  · exact fun y2 y h0 h1 => m_head 4 (by decide) slices_S8x512_o0_256_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 4 (by decide) _ d k) _ xs2 (fun r => col_apply xs2 4 (by decide) _ r) y2 y h0 h1
  · exact fun y2 y h0 h1 => m_head 3 (by decide) slices_S8x512_o0_192_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 3 (by decide) _ d k) _ xs2 (fun r => col_apply xs2 3 (by decide) _ r) y2 y h0 h1
  · exact fun y2 y h0 h1 => m_head 2 (by decide) slices_S8x512_o0_128_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 2 (by decide) _ d k) _ xs2 (fun r => col_apply xs2 2 (by decide) _ r) y2 y h0 h1
  · exact fun y2 y h0 h1 => m_head 1 (by decide) slices_S8x512_o0_64_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 1 (by decide) _ d k) _ xs2 (fun r => col_apply xs2 1 (by decide) _ r) y2 y h0 h1
  · exact fun y2 y h0 h1 => m_head 0 (by decide) slices_S8x512_o0_0_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 0 (by decide) _ d k) _ xs2 (fun r => col_apply xs2 0 (by decide) _ r) y2 y h0 h1

/-- The masses after a middle point. -/
theorem sout0_B_3_eq (y : S8x8x1.Idx) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4 y
      = nextL xs2 xs3 x0 (keysOf ![x4, x5, x6, x7, x8, x9, x10, x11]) (biasOf (i 1).val (i 1).isLt x1) y := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4)]
  unfold kernelRun0_B
  dsimp only
  sl_unfold_words
  simp (disch := decide) only [↓View.readCov_skip (s := S8x8x1), ↓View.readCov_skip (s := S8x512), View.readCov_cons_toLoadRect, View.readCov_fill, kbuf, vbuf, View.readAt_eq_ld,
    harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread]
  clear * -
  refine heads_m (nextL xs2 xs3 x0 (keysOf ![x4, x5, x6, x7, x8, x9, x10, x11]) (biasOf (i 1).val (i 1).isLt x1)) _ _ _ _ _ _ _ _ _ _ _ _ _ _ _ _ _ ?_ ?_ ?_ ?_ ?_ ?_ ?_ ?_ y
  · exact fun y2 y h0 h1 => l_head 7 (by decide) slices_S8x512_o0_448_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 7 (by decide) _ d k) _ xs2 (fun r => col_apply xs2 7 (by decide) _ r) _ xs3 (fun r => col_apply xs3 7 (by decide) _ r) y2 y h0 h1
  · exact fun y2 y h0 h1 => l_head 6 (by decide) slices_S8x512_o0_384_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 6 (by decide) _ d k) _ xs2 (fun r => col_apply xs2 6 (by decide) _ r) _ xs3 (fun r => col_apply xs3 6 (by decide) _ r) y2 y h0 h1
  · exact fun y2 y h0 h1 => l_head 5 (by decide) slices_S8x512_o0_320_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 5 (by decide) _ d k) _ xs2 (fun r => col_apply xs2 5 (by decide) _ r) _ xs3 (fun r => col_apply xs3 5 (by decide) _ r) y2 y h0 h1
  · exact fun y2 y h0 h1 => l_head 4 (by decide) slices_S8x512_o0_256_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 4 (by decide) _ d k) _ xs2 (fun r => col_apply xs2 4 (by decide) _ r) _ xs3 (fun r => col_apply xs3 4 (by decide) _ r) y2 y h0 h1
  · exact fun y2 y h0 h1 => l_head 3 (by decide) slices_S8x512_o0_192_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 3 (by decide) _ d k) _ xs2 (fun r => col_apply xs2 3 (by decide) _ r) _ xs3 (fun r => col_apply xs3 3 (by decide) _ r) y2 y h0 h1
  · exact fun y2 y h0 h1 => l_head 2 (by decide) slices_S8x512_o0_128_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 2 (by decide) _ d k) _ xs2 (fun r => col_apply xs2 2 (by decide) _ r) _ xs3 (fun r => col_apply xs3 2 (by decide) _ r) y2 y h0 h1
  · exact fun y2 y h0 h1 => l_head 1 (by decide) slices_S8x512_o0_64_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 1 (by decide) _ d k) _ xs2 (fun r => col_apply xs2 1 (by decide) _ r) _ xs3 (fun r => col_apply xs3 1 (by decide) _ r) y2 y h0 h1
  · exact fun y2 y h0 h1 => l_head 0 (by decide) slices_S8x512_o0_0_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 0 (by decide) _ d k) _ xs2 (fun r => col_apply xs2 0 (by decide) _ r) _ xs3 (fun r => col_apply xs3 0 (by decide) _ r) y2 y h0 h1

/-- The weighted values after a middle point. -/
theorem sout0_B_4_eq (y : S8x512.Idx) :
    sout0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4 y
      = nextA xs2 xs4 x0 (keysOf ![x4, x5, x6, x7, x8, x9, x10, x11]) (keysOf ![x12, x13, x14, x15, x16, x17, x18, x19]) (biasOf (i 1).val (i 1).isLt x1) y := by
  unfold sout0_B_4
  rw [View.read_writes_eq_canon _ _ _ (scover0_B_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4)]
  unfold kernelRun0_B
  dsimp only
  sl_unfold_words
  simp (disch := decide) only [↓View.readCov_skip (s := S8x8x1), ↓View.readCov_skip (s := S8x512), View.readCov_cons_toLoadRect, View.readCov_fill, kbuf, vbuf, View.readAt_eq_ld,
    harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread]
  clear * -
  refine heads_a (nextA xs2 xs4 x0 (keysOf ![x4, x5, x6, x7, x8, x9, x10, x11]) (keysOf ![x12, x13, x14, x15, x16, x17, x18, x19]) (biasOf (i 1).val (i 1).isLt x1)) _ _ _ _ _ _ _ _ _ _ _ _ _ _ _ _ _ ?_ ?_ ?_ ?_ ?_ ?_ ?_ ?_ y
  · exact fun y2 y h0 h1 => a_head 7 (by decide) slices_S8x512_o0_448_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 7 (by decide) _ d k) _ xs2 (fun r => col_apply xs2 7 (by decide) _ r) _ (keysOf ![x12, x13, x14, x15, x16, x17, x18, x19]) (fun d k => keys_apply ![x12, x13, x14, x15, x16, x17, x18, x19] 7 (by decide) _ d k) _ xs4 y2 y (val_apply xs4 448 _ y2 y h0 h1) h0 h1
  · exact fun y2 y h0 h1 => a_head 6 (by decide) slices_S8x512_o0_384_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 6 (by decide) _ d k) _ xs2 (fun r => col_apply xs2 6 (by decide) _ r) _ (keysOf ![x12, x13, x14, x15, x16, x17, x18, x19]) (fun d k => keys_apply ![x12, x13, x14, x15, x16, x17, x18, x19] 6 (by decide) _ d k) _ xs4 y2 y (val_apply xs4 384 _ y2 y h0 h1) h0 h1
  · exact fun y2 y h0 h1 => a_head 5 (by decide) slices_S8x512_o0_320_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 5 (by decide) _ d k) _ xs2 (fun r => col_apply xs2 5 (by decide) _ r) _ (keysOf ![x12, x13, x14, x15, x16, x17, x18, x19]) (fun d k => keys_apply ![x12, x13, x14, x15, x16, x17, x18, x19] 5 (by decide) _ d k) _ xs4 y2 y (val_apply xs4 320 _ y2 y h0 h1) h0 h1
  · exact fun y2 y h0 h1 => a_head 4 (by decide) slices_S8x512_o0_256_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 4 (by decide) _ d k) _ xs2 (fun r => col_apply xs2 4 (by decide) _ r) _ (keysOf ![x12, x13, x14, x15, x16, x17, x18, x19]) (fun d k => keys_apply ![x12, x13, x14, x15, x16, x17, x18, x19] 4 (by decide) _ d k) _ xs4 y2 y (val_apply xs4 256 _ y2 y h0 h1) h0 h1
  · exact fun y2 y h0 h1 => a_head 3 (by decide) slices_S8x512_o0_192_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 3 (by decide) _ d k) _ xs2 (fun r => col_apply xs2 3 (by decide) _ r) _ (keysOf ![x12, x13, x14, x15, x16, x17, x18, x19]) (fun d k => keys_apply ![x12, x13, x14, x15, x16, x17, x18, x19] 3 (by decide) _ d k) _ xs4 y2 y (val_apply xs4 192 _ y2 y h0 h1) h0 h1
  · exact fun y2 y h0 h1 => a_head 2 (by decide) slices_S8x512_o0_128_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 2 (by decide) _ d k) _ xs2 (fun r => col_apply xs2 2 (by decide) _ r) _ (keysOf ![x12, x13, x14, x15, x16, x17, x18, x19]) (fun d k => keys_apply ![x12, x13, x14, x15, x16, x17, x18, x19] 2 (by decide) _ d k) _ xs4 y2 y (val_apply xs4 128 _ y2 y h0 h1) h0 h1
  · exact fun y2 y h0 h1 => a_head 1 (by decide) slices_S8x512_o0_64_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 1 (by decide) _ d k) _ xs2 (fun r => col_apply xs2 1 (by decide) _ r) _ (keysOf ![x12, x13, x14, x15, x16, x17, x18, x19]) (fun d k => keys_apply ![x12, x13, x14, x15, x16, x17, x18, x19] 1 (by decide) _ d k) _ xs4 y2 y (val_apply xs4 64 _ y2 y h0 h1) h0 h1
  · exact fun y2 y h0 h1 => a_head 0 (by decide) slices_S8x512_o0_0_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 0 (by decide) _ d k) _ xs2 (fun r => col_apply xs2 0 (by decide) _ r) _ (keysOf ![x12, x13, x14, x15, x16, x17, x18, x19]) (fun d k => keys_apply ![x12, x13, x14, x15, x16, x17, x18, x19] 0 (by decide) _ d k) _ xs4 y2 y (val_apply xs4 0 _ y2 y h0 h1) h0 h1

end Cert.KernelIdeal.AttnVal

end
-- ==== Proof.AttnFirst.lean ====
/-
  A first point of the sample attention: the carried arrays once the new keys and its eight pages are in.
-/
module

public import proofs.«01_k».proof.Proof.AttnOuts
public import proofs.«01_k».proof.Proof.AttnHeads
public import proofs.«01_k».proof.Proof.AttnBuf

@[expose] public section

set_option maxRecDepth 16384

noncomputable section

namespace Cert.KernelIdeal.AttnVal

open Cert.KernelIdeal Cert.KernelIdeal.Gen Cert.KernelIdeal.Attn
open Idealize.ShloMosaic Idealize.ShloMosaic.TcCoe Idealize.ShloMosaic.Tactic

variable (c : Dev nD) (i : grid0.Coords) (arg3 : Memref sig .tc .vmem S1x8x512 .f32) (harg3 : arg3.IsWhole) (arg4 : Memref sig .tc .vmem S1x65x8x128 .f32) (harg4 : arg4.IsWhole) (arg5 : Memref sig .tc .vmem S1x8x64x128 .f32) (harg5 : arg5.IsWhole) (arg6 : Memref sig .tc .vmem S1x8x64x128 .f32) (harg6 : arg6.IsWhole) (arg7 : Memref sig .tc .vmem S1x8x64x128 .f32) (harg7 : arg7.IsWhole) (arg8 : Memref sig .tc .vmem S1x8x64x128 .f32) (harg8 : arg8.IsWhole) (arg9 : Memref sig .tc .vmem S1x8x64x128 .f32) (harg9 : arg9.IsWhole) (arg10 : Memref sig .tc .vmem S1x8x64x128 .f32) (harg10 : arg10.IsWhole) (arg11 : Memref sig .tc .vmem S1x8x64x128 .f32) (harg11 : arg11.IsWhole) (arg12 : Memref sig .tc .vmem S1x8x64x128 .f32) (harg12 : arg12.IsWhole) (arg13 : Memref sig .tc .vmem S1x8x64x128 .f32) (harg13 : arg13.IsWhole) (arg14 : Memref sig .tc .vmem S1x8x64x128 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x512 .f32) (harg23 : arg23.IsWhole) (arg24 : Memref sig .tc .vmem S8x64x1024 .bf16) (harg24 : arg24.IsWhole) (arg25 : Memref sig .tc .vmem S8x64x1024 .bf16) (harg25 : arg25.IsWhole) (arg26 : Memref sig .tc .vmem S8x8x1 .f32) (harg26 : arg26.IsWhole) (arg27 : Memref sig .tc .vmem S8x8x1 .f32) (harg27 : arg27.IsWhole) (arg28 : Memref sig .tc .vmem S8x512 .f32) (harg28 : arg28.IsWhole) (hc0 : cond0_0 i) (hc1 : ¬cond0_1 i)
  (x0 : Vec Ideal S1x8x512 .f32) (x1 : Vec Ideal S1x65x8x128 .f32) (x2 : Vec Ideal S1x8x64x128 .f32) (x3 : Vec Ideal S1x8x64x128 .f32) (x4 : Vec Ideal S1x8x64x128 .f32) (x5 : Vec Ideal S1x8x64x128 .f32) (x6 : Vec Ideal S1x8x64x128 .f32) (x7 : Vec Ideal S1x8x64x128 .f32) (x8 : Vec Ideal S1x8x64x128 .f32) (x9 : Vec Ideal S1x8x64x128 .f32) (x10 : Vec Ideal S1x8x64x128 .f32) (x11 : Vec Ideal S1x8x64x128 .f32) (x12 : Vec Ideal S1x8x64x128 .f32) (x13 : Vec Ideal S1x8x64x128 .f32) (x14 : Vec Ideal S1x8x64x128 .f32) (x15 : Vec Ideal S1x8x64x128 .f32) (x16 : Vec Ideal S1x8x64x128 .f32) (x17 : Vec Ideal S1x8x64x128 .f32) (x18 : Vec Ideal S1x8x64x128 .f32) (x19 : Vec Ideal S1x8x64x128 .f32) (xt0 : TbBuf0 (F := Ideal) c tbM0_0)

/-- The greatest logits after a first point. -/
theorem sout0_A_2_eq (y : S8x8x1.Idx) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 y
      = nextM (nextM (k0_pay3 (F := Ideal)) x0 (keysNew x2) (biasNew x1)) x0 (keysOf ![x4, x5, x6, x7, x8, x9, x10, x11]) (biasOf (i 1).val (i 1).isLt x1) y := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0)]
  unfold kernelRun0_A
  dsimp only
  sl_unfold_words
  simp (disch := decide) only [↓View.readCov_skip (s := S8x8x1), ↓View.readCov_skip (s := S8x512), View.readCov_cons_toLoadRect, View.readCov_fill, kbuf, vbuf, View.readAt_eq_ld,
    harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread]
  clear * -
  refine heads_m (nextM (nextM (k0_pay3 (F := Ideal)) x0 (keysNew x2) (biasNew x1)) x0 (keysOf ![x4, x5, x6, x7, x8, x9, x10, x11]) (biasOf (i 1).val (i 1).isLt x1)) _ _ _ _ _ _ _ _ _ _ _ _ _ _ _ _ _ ?_ ?_ ?_ ?_ ?_ ?_ ?_ ?_ y
  · exact fun y2 y h0 h1 => m_head 7 (by decide) slices_S8x512_o0_448_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 7 (by decide) _ d k) _ (nextM (k0_pay3 (F := Ideal)) x0 (keysNew x2) (biasNew x1)) (fun r => m_head 7 (by decide) slices_S8x512_o0_448_S8x64 _  _ x0 (fun r c => q_apply x0 _ r c) _ (biasNew x1) (fun r k => biasNew_apply x1 _ r k) _ (keysNew x2) (fun d k => keysNew_apply x2 7 (by decide) _ d k) _ (k0_pay3 (F := Ideal)) (fun r => col_apply (k0_pay3 (F := Ideal)) 7 (by decide) _ r) _ _ rfl rfl) y2 y h0 h1
  · exact fun y2 y h0 h1 => m_head 6 (by decide) slices_S8x512_o0_384_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 6 (by decide) _ d k) _ (nextM (k0_pay3 (F := Ideal)) x0 (keysNew x2) (biasNew x1)) (fun r => m_head 6 (by decide) slices_S8x512_o0_384_S8x64 _  _ x0 (fun r c => q_apply x0 _ r c) _ (biasNew x1) (fun r k => biasNew_apply x1 _ r k) _ (keysNew x2) (fun d k => keysNew_apply x2 6 (by decide) _ d k) _ (k0_pay3 (F := Ideal)) (fun r => col_apply (k0_pay3 (F := Ideal)) 6 (by decide) _ r) _ _ rfl rfl) y2 y h0 h1
  · exact fun y2 y h0 h1 => m_head 5 (by decide) slices_S8x512_o0_320_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 5 (by decide) _ d k) _ (nextM (k0_pay3 (F := Ideal)) x0 (keysNew x2) (biasNew x1)) (fun r => m_head 5 (by decide) slices_S8x512_o0_320_S8x64 _  _ x0 (fun r c => q_apply x0 _ r c) _ (biasNew x1) (fun r k => biasNew_apply x1 _ r k) _ (keysNew x2) (fun d k => keysNew_apply x2 5 (by decide) _ d k) _ (k0_pay3 (F := Ideal)) (fun r => col_apply (k0_pay3 (F := Ideal)) 5 (by decide) _ r) _ _ rfl rfl) y2 y h0 h1
  · exact fun y2 y h0 h1 => m_head 4 (by decide) slices_S8x512_o0_256_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 4 (by decide) _ d k) _ (nextM (k0_pay3 (F := Ideal)) x0 (keysNew x2) (biasNew x1)) (fun r => m_head 4 (by decide) slices_S8x512_o0_256_S8x64 _  _ x0 (fun r c => q_apply x0 _ r c) _ (biasNew x1) (fun r k => biasNew_apply x1 _ r k) _ (keysNew x2) (fun d k => keysNew_apply x2 4 (by decide) _ d k) _ (k0_pay3 (F := Ideal)) (fun r => col_apply (k0_pay3 (F := Ideal)) 4 (by decide) _ r) _ _ rfl rfl) y2 y h0 h1
  · exact fun y2 y h0 h1 => m_head 3 (by decide) slices_S8x512_o0_192_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 3 (by decide) _ d k) _ (nextM (k0_pay3 (F := Ideal)) x0 (keysNew x2) (biasNew x1)) (fun r => m_head 3 (by decide) slices_S8x512_o0_192_S8x64 _  _ x0 (fun r c => q_apply x0 _ r c) _ (biasNew x1) (fun r k => biasNew_apply x1 _ r k) _ (keysNew x2) (fun d k => keysNew_apply x2 3 (by decide) _ d k) _ (k0_pay3 (F := Ideal)) (fun r => col_apply (k0_pay3 (F := Ideal)) 3 (by decide) _ r) _ _ rfl rfl) y2 y h0 h1
  · exact fun y2 y h0 h1 => m_head 2 (by decide) slices_S8x512_o0_128_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 2 (by decide) _ d k) _ (nextM (k0_pay3 (F := Ideal)) x0 (keysNew x2) (biasNew x1)) (fun r => m_head 2 (by decide) slices_S8x512_o0_128_S8x64 _  _ x0 (fun r c => q_apply x0 _ r c) _ (biasNew x1) (fun r k => biasNew_apply x1 _ r k) _ (keysNew x2) (fun d k => keysNew_apply x2 2 (by decide) _ d k) _ (k0_pay3 (F := Ideal)) (fun r => col_apply (k0_pay3 (F := Ideal)) 2 (by decide) _ r) _ _ rfl rfl) y2 y h0 h1
  · exact fun y2 y h0 h1 => m_head 1 (by decide) slices_S8x512_o0_64_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 1 (by decide) _ d k) _ (nextM (k0_pay3 (F := Ideal)) x0 (keysNew x2) (biasNew x1)) (fun r => m_head 1 (by decide) slices_S8x512_o0_64_S8x64 _  _ x0 (fun r c => q_apply x0 _ r c) _ (biasNew x1) (fun r k => biasNew_apply x1 _ r k) _ (keysNew x2) (fun d k => keysNew_apply x2 1 (by decide) _ d k) _ (k0_pay3 (F := Ideal)) (fun r => col_apply (k0_pay3 (F := Ideal)) 1 (by decide) _ r) _ _ rfl rfl) y2 y h0 h1
  · exact fun y2 y h0 h1 => m_head 0 (by decide) slices_S8x512_o0_0_S8x64 _  _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 0 (by decide) _ d k) _ (nextM (k0_pay3 (F := Ideal)) x0 (keysNew x2) (biasNew x1)) (fun r => m_head 0 (by decide) slices_S8x512_o0_0_S8x64 _  _ x0 (fun r c => q_apply x0 _ r c) _ (biasNew x1) (fun r k => biasNew_apply x1 _ r k) _ (keysNew x2) (fun d k => keysNew_apply x2 0 (by decide) _ d k) _ (k0_pay3 (F := Ideal)) (fun r => col_apply (k0_pay3 (F := Ideal)) 0 (by decide) _ r) _ _ rfl rfl) y2 y h0 h1

/-- The masses after a first point. -/
theorem sout0_A_3_eq (y : S8x8x1.Idx) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 y
      = nextL (nextM (k0_pay3 (F := Ideal)) x0 (keysNew x2) (biasNew x1)) (nextL (k0_pay3 (F := Ideal)) (k0_pay4 (F := Ideal)) x0 (keysNew x2) (biasNew x1)) x0 (keysOf ![x4, x5, x6, x7, x8, x9, x10, x11]) (biasOf (i 1).val (i 1).isLt x1) y := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0)]
  unfold kernelRun0_A
  dsimp only
  sl_unfold_words
  simp (disch := decide) only [↓View.readCov_skip (s := S8x8x1), ↓View.readCov_skip (s := S8x512), View.readCov_cons_toLoadRect, View.readCov_fill, kbuf, vbuf, View.readAt_eq_ld,
    harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread]
  clear * -
  refine heads_m (nextL (nextM (k0_pay3 (F := Ideal)) x0 (keysNew x2) (biasNew x1)) (nextL (k0_pay3 (F := Ideal)) (k0_pay4 (F := Ideal)) x0 (keysNew x2) (biasNew x1)) x0 (keysOf ![x4, x5, x6, x7, x8, x9, x10, x11]) (biasOf (i 1).val (i 1).isLt x1)) _ _ _ _ _ _ _ _ _ _ _ _ _ _ _ _ _ ?_ ?_ ?_ ?_ ?_ ?_ ?_ ?_ y
  · exact fun y2 y h0 h1 => l_head 7 (by decide) slices_S8x512_o0_448_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 7 (by decide) _ d k) _ (nextM (k0_pay3 (F := Ideal)) x0 (keysNew x2) (biasNew x1)) (fun r => m_head 7 (by decide) slices_S8x512_o0_448_S8x64 _  _ x0 (fun r c => q_apply x0 _ r c) _ (biasNew x1) (fun r k => biasNew_apply x1 _ r k) _ (keysNew x2) (fun d k => keysNew_apply x2 7 (by decide) _ d k) _ (k0_pay3 (F := Ideal)) (fun r => col_apply (k0_pay3 (F := Ideal)) 7 (by decide) _ r) _ _ rfl rfl) _ (nextL (k0_pay3 (F := Ideal)) (k0_pay4 (F := Ideal)) x0 (keysNew x2) (biasNew x1)) (fun r => l_head 7 (by decide) slices_S8x512_o0_448_S8x64 _ _ _ x0 (fun r c => q_apply x0 _ r c) _ (biasNew x1) (fun r k => biasNew_apply x1 _ r k) _ (keysNew x2) (fun d k => keysNew_apply x2 7 (by decide) _ d k) _ (k0_pay3 (F := Ideal)) (fun r => col_apply (k0_pay3 (F := Ideal)) 7 (by decide) _ r) _ (k0_pay4 (F := Ideal)) (fun r => col_apply (k0_pay4 (F := Ideal)) 7 (by decide) _ r) _ _ rfl rfl) y2 y h0 h1
  · exact fun y2 y h0 h1 => l_head 6 (by decide) slices_S8x512_o0_384_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 6 (by decide) _ d k) _ (nextM (k0_pay3 (F := Ideal)) x0 (keysNew x2) (biasNew x1)) (fun r => m_head 6 (by decide) slices_S8x512_o0_384_S8x64 _  _ x0 (fun r c => q_apply x0 _ r c) _ (biasNew x1) (fun r k => biasNew_apply x1 _ r k) _ (keysNew x2) (fun d k => keysNew_apply x2 6 (by decide) _ d k) _ (k0_pay3 (F := Ideal)) (fun r => col_apply (k0_pay3 (F := Ideal)) 6 (by decide) _ r) _ _ rfl rfl) _ (nextL (k0_pay3 (F := Ideal)) (k0_pay4 (F := Ideal)) x0 (keysNew x2) (biasNew x1)) (fun r => l_head 6 (by decide) slices_S8x512_o0_384_S8x64 _ _ _ x0 (fun r c => q_apply x0 _ r c) _ (biasNew x1) (fun r k => biasNew_apply x1 _ r k) _ (keysNew x2) (fun d k => keysNew_apply x2 6 (by decide) _ d k) _ (k0_pay3 (F := Ideal)) (fun r => col_apply (k0_pay3 (F := Ideal)) 6 (by decide) _ r) _ (k0_pay4 (F := Ideal)) (fun r => col_apply (k0_pay4 (F := Ideal)) 6 (by decide) _ r) _ _ rfl rfl) y2 y h0 h1
  · exact fun y2 y h0 h1 => l_head 5 (by decide) slices_S8x512_o0_320_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 5 (by decide) _ d k) _ (nextM (k0_pay3 (F := Ideal)) x0 (keysNew x2) (biasNew x1)) (fun r => m_head 5 (by decide) slices_S8x512_o0_320_S8x64 _  _ x0 (fun r c => q_apply x0 _ r c) _ (biasNew x1) (fun r k => biasNew_apply x1 _ r k) _ (keysNew x2) (fun d k => keysNew_apply x2 5 (by decide) _ d k) _ (k0_pay3 (F := Ideal)) (fun r => col_apply (k0_pay3 (F := Ideal)) 5 (by decide) _ r) _ _ rfl rfl) _ (nextL (k0_pay3 (F := Ideal)) (k0_pay4 (F := Ideal)) x0 (keysNew x2) (biasNew x1)) (fun r => l_head 5 (by decide) slices_S8x512_o0_320_S8x64 _ _ _ x0 (fun r c => q_apply x0 _ r c) _ (biasNew x1) (fun r k => biasNew_apply x1 _ r k) _ (keysNew x2) (fun d k => keysNew_apply x2 5 (by decide) _ d k) _ (k0_pay3 (F := Ideal)) (fun r => col_apply (k0_pay3 (F := Ideal)) 5 (by decide) _ r) _ (k0_pay4 (F := Ideal)) (fun r => col_apply (k0_pay4 (F := Ideal)) 5 (by decide) _ r) _ _ rfl rfl) y2 y h0 h1
  · exact fun y2 y h0 h1 => l_head 4 (by decide) slices_S8x512_o0_256_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 4 (by decide) _ d k) _ (nextM (k0_pay3 (F := Ideal)) x0 (keysNew x2) (biasNew x1)) (fun r => m_head 4 (by decide) slices_S8x512_o0_256_S8x64 _  _ x0 (fun r c => q_apply x0 _ r c) _ (biasNew x1) (fun r k => biasNew_apply x1 _ r k) _ (keysNew x2) (fun d k => keysNew_apply x2 4 (by decide) _ d k) _ (k0_pay3 (F := Ideal)) (fun r => col_apply (k0_pay3 (F := Ideal)) 4 (by decide) _ r) _ _ rfl rfl) _ (nextL (k0_pay3 (F := Ideal)) (k0_pay4 (F := Ideal)) x0 (keysNew x2) (biasNew x1)) (fun r => l_head 4 (by decide) slices_S8x512_o0_256_S8x64 _ _ _ x0 (fun r c => q_apply x0 _ r c) _ (biasNew x1) (fun r k => biasNew_apply x1 _ r k) _ (keysNew x2) (fun d k => keysNew_apply x2 4 (by decide) _ d k) _ (k0_pay3 (F := Ideal)) (fun r => col_apply (k0_pay3 (F := Ideal)) 4 (by decide) _ r) _ (k0_pay4 (F := Ideal)) (fun r => col_apply (k0_pay4 (F := Ideal)) 4 (by decide) _ r) _ _ rfl rfl) y2 y h0 h1
  · exact fun y2 y h0 h1 => l_head 3 (by decide) slices_S8x512_o0_192_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 3 (by decide) _ d k) _ (nextM (k0_pay3 (F := Ideal)) x0 (keysNew x2) (biasNew x1)) (fun r => m_head 3 (by decide) slices_S8x512_o0_192_S8x64 _  _ x0 (fun r c => q_apply x0 _ r c) _ (biasNew x1) (fun r k => biasNew_apply x1 _ r k) _ (keysNew x2) (fun d k => keysNew_apply x2 3 (by decide) _ d k) _ (k0_pay3 (F := Ideal)) (fun r => col_apply (k0_pay3 (F := Ideal)) 3 (by decide) _ r) _ _ rfl rfl) _ (nextL (k0_pay3 (F := Ideal)) (k0_pay4 (F := Ideal)) x0 (keysNew x2) (biasNew x1)) (fun r => l_head 3 (by decide) slices_S8x512_o0_192_S8x64 _ _ _ x0 (fun r c => q_apply x0 _ r c) _ (biasNew x1) (fun r k => biasNew_apply x1 _ r k) _ (keysNew x2) (fun d k => keysNew_apply x2 3 (by decide) _ d k) _ (k0_pay3 (F := Ideal)) (fun r => col_apply (k0_pay3 (F := Ideal)) 3 (by decide) _ r) _ (k0_pay4 (F := Ideal)) (fun r => col_apply (k0_pay4 (F := Ideal)) 3 (by decide) _ r) _ _ rfl rfl) y2 y h0 h1
  · exact fun y2 y h0 h1 => l_head 2 (by decide) slices_S8x512_o0_128_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 2 (by decide) _ d k) _ (nextM (k0_pay3 (F := Ideal)) x0 (keysNew x2) (biasNew x1)) (fun r => m_head 2 (by decide) slices_S8x512_o0_128_S8x64 _  _ x0 (fun r c => q_apply x0 _ r c) _ (biasNew x1) (fun r k => biasNew_apply x1 _ r k) _ (keysNew x2) (fun d k => keysNew_apply x2 2 (by decide) _ d k) _ (k0_pay3 (F := Ideal)) (fun r => col_apply (k0_pay3 (F := Ideal)) 2 (by decide) _ r) _ _ rfl rfl) _ (nextL (k0_pay3 (F := Ideal)) (k0_pay4 (F := Ideal)) x0 (keysNew x2) (biasNew x1)) (fun r => l_head 2 (by decide) slices_S8x512_o0_128_S8x64 _ _ _ x0 (fun r c => q_apply x0 _ r c) _ (biasNew x1) (fun r k => biasNew_apply x1 _ r k) _ (keysNew x2) (fun d k => keysNew_apply x2 2 (by decide) _ d k) _ (k0_pay3 (F := Ideal)) (fun r => col_apply (k0_pay3 (F := Ideal)) 2 (by decide) _ r) _ (k0_pay4 (F := Ideal)) (fun r => col_apply (k0_pay4 (F := Ideal)) 2 (by decide) _ r) _ _ rfl rfl) y2 y h0 h1
  · exact fun y2 y h0 h1 => l_head 1 (by decide) slices_S8x512_o0_64_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 1 (by decide) _ d k) _ (nextM (k0_pay3 (F := Ideal)) x0 (keysNew x2) (biasNew x1)) (fun r => m_head 1 (by decide) slices_S8x512_o0_64_S8x64 _  _ x0 (fun r c => q_apply x0 _ r c) _ (biasNew x1) (fun r k => biasNew_apply x1 _ r k) _ (keysNew x2) (fun d k => keysNew_apply x2 1 (by decide) _ d k) _ (k0_pay3 (F := Ideal)) (fun r => col_apply (k0_pay3 (F := Ideal)) 1 (by decide) _ r) _ _ rfl rfl) _ (nextL (k0_pay3 (F := Ideal)) (k0_pay4 (F := Ideal)) x0 (keysNew x2) (biasNew x1)) (fun r => l_head 1 (by decide) slices_S8x512_o0_64_S8x64 _ _ _ x0 (fun r c => q_apply x0 _ r c) _ (biasNew x1) (fun r k => biasNew_apply x1 _ r k) _ (keysNew x2) (fun d k => keysNew_apply x2 1 (by decide) _ d k) _ (k0_pay3 (F := Ideal)) (fun r => col_apply (k0_pay3 (F := Ideal)) 1 (by decide) _ r) _ (k0_pay4 (F := Ideal)) (fun r => col_apply (k0_pay4 (F := Ideal)) 1 (by decide) _ r) _ _ rfl rfl) y2 y h0 h1
  · exact fun y2 y h0 h1 => l_head 0 (by decide) slices_S8x512_o0_0_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 0 (by decide) _ d k) _ (nextM (k0_pay3 (F := Ideal)) x0 (keysNew x2) (biasNew x1)) (fun r => m_head 0 (by decide) slices_S8x512_o0_0_S8x64 _  _ x0 (fun r c => q_apply x0 _ r c) _ (biasNew x1) (fun r k => biasNew_apply x1 _ r k) _ (keysNew x2) (fun d k => keysNew_apply x2 0 (by decide) _ d k) _ (k0_pay3 (F := Ideal)) (fun r => col_apply (k0_pay3 (F := Ideal)) 0 (by decide) _ r) _ _ rfl rfl) _ (nextL (k0_pay3 (F := Ideal)) (k0_pay4 (F := Ideal)) x0 (keysNew x2) (biasNew x1)) (fun r => l_head 0 (by decide) slices_S8x512_o0_0_S8x64 _ _ _ x0 (fun r c => q_apply x0 _ r c) _ (biasNew x1) (fun r k => biasNew_apply x1 _ r k) _ (keysNew x2) (fun d k => keysNew_apply x2 0 (by decide) _ d k) _ (k0_pay3 (F := Ideal)) (fun r => col_apply (k0_pay3 (F := Ideal)) 0 (by decide) _ r) _ (k0_pay4 (F := Ideal)) (fun r => col_apply (k0_pay4 (F := Ideal)) 0 (by decide) _ r) _ _ rfl rfl) y2 y h0 h1

/-- The weighted values after a first point. -/
theorem sout0_A_4_eq (y : S8x512.Idx) :
    sout0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 y
      = nextA (nextM (k0_pay3 (F := Ideal)) x0 (keysNew x2) (biasNew x1)) (nextA (k0_pay3 (F := Ideal)) (k0_pay5 (F := Ideal)) x0 (keysNew x2) (keysNew x3) (biasNew x1)) x0 (keysOf ![x4, x5, x6, x7, x8, x9, x10, x11]) (keysOf ![x12, x13, x14, x15, x16, x17, x18, x19]) (biasOf (i 1).val (i 1).isLt x1) y := by
  unfold sout0_A_4
  rw [View.read_writes_eq_canon _ _ _ (scover0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0)]
  unfold kernelRun0_A
  dsimp only
  sl_unfold_words
  simp (disch := decide) only [↓View.readCov_skip (s := S8x8x1), ↓View.readCov_skip (s := S8x512), View.readCov_cons_toLoadRect, View.readCov_fill, kbuf, vbuf, View.readAt_eq_ld,
    harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread]
  clear * -
  refine heads_a (nextA (nextM (k0_pay3 (F := Ideal)) x0 (keysNew x2) (biasNew x1)) (nextA (k0_pay3 (F := Ideal)) (k0_pay5 (F := Ideal)) x0 (keysNew x2) (keysNew x3) (biasNew x1)) x0 (keysOf ![x4, x5, x6, x7, x8, x9, x10, x11]) (keysOf ![x12, x13, x14, x15, x16, x17, x18, x19]) (biasOf (i 1).val (i 1).isLt x1)) _ _ _ _ _ _ _ _ _ _ _ _ _ _ _ _ _ ?_ ?_ ?_ ?_ ?_ ?_ ?_ ?_ y
  · exact fun y2 y h0 h1 => a_head 7 (by decide) slices_S8x512_o0_448_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 7 (by decide) _ d k) _ (nextM (k0_pay3 (F := Ideal)) x0 (keysNew x2) (biasNew x1)) (fun r => m_head 7 (by decide) slices_S8x512_o0_448_S8x64 _  _ x0 (fun r c => q_apply x0 _ r c) _ (biasNew x1) (fun r k => biasNew_apply x1 _ r k) _ (keysNew x2) (fun d k => keysNew_apply x2 7 (by decide) _ d k) _ (k0_pay3 (F := Ideal)) (fun r => col_apply (k0_pay3 (F := Ideal)) 7 (by decide) _ r) _ _ rfl rfl) _ (keysOf ![x12, x13, x14, x15, x16, x17, x18, x19]) (fun d k => keys_apply ![x12, x13, x14, x15, x16, x17, x18, x19] 7 (by decide) _ d k) _ (nextA (k0_pay3 (F := Ideal)) (k0_pay5 (F := Ideal)) x0 (keysNew x2) (keysNew x3) (biasNew x1)) y2 y (a_head 7 (by decide) slices_S8x512_o0_448_S8x64 _ _ _ x0 (fun r c => q_apply x0 _ r c) _ (biasNew x1) (fun r k => biasNew_apply x1 _ r k) _ (keysNew x2) (fun d k => keysNew_apply x2 7 (by decide) _ d k) _ (k0_pay3 (F := Ideal)) (fun r => col_apply (k0_pay3 (F := Ideal)) 7 (by decide) _ r) _ (keysNew x3) (fun d k => keysNew_apply x3 7 (by decide) _ d k) _ (k0_pay5 (F := Ideal)) y2 y (val_apply (k0_pay5 (F := Ideal)) 448 _ y2 y h0 h1) h0 h1) h0 h1
  · exact fun y2 y h0 h1 => a_head 6 (by decide) slices_S8x512_o0_384_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 6 (by decide) _ d k) _ (nextM (k0_pay3 (F := Ideal)) x0 (keysNew x2) (biasNew x1)) (fun r => m_head 6 (by decide) slices_S8x512_o0_384_S8x64 _  _ x0 (fun r c => q_apply x0 _ r c) _ (biasNew x1) (fun r k => biasNew_apply x1 _ r k) _ (keysNew x2) (fun d k => keysNew_apply x2 6 (by decide) _ d k) _ (k0_pay3 (F := Ideal)) (fun r => col_apply (k0_pay3 (F := Ideal)) 6 (by decide) _ r) _ _ rfl rfl) _ (keysOf ![x12, x13, x14, x15, x16, x17, x18, x19]) (fun d k => keys_apply ![x12, x13, x14, x15, x16, x17, x18, x19] 6 (by decide) _ d k) _ (nextA (k0_pay3 (F := Ideal)) (k0_pay5 (F := Ideal)) x0 (keysNew x2) (keysNew x3) (biasNew x1)) y2 y (a_head 6 (by decide) slices_S8x512_o0_384_S8x64 _ _ _ x0 (fun r c => q_apply x0 _ r c) _ (biasNew x1) (fun r k => biasNew_apply x1 _ r k) _ (keysNew x2) (fun d k => keysNew_apply x2 6 (by decide) _ d k) _ (k0_pay3 (F := Ideal)) (fun r => col_apply (k0_pay3 (F := Ideal)) 6 (by decide) _ r) _ (keysNew x3) (fun d k => keysNew_apply x3 6 (by decide) _ d k) _ (k0_pay5 (F := Ideal)) y2 y (val_apply (k0_pay5 (F := Ideal)) 384 _ y2 y h0 h1) h0 h1) h0 h1
  · exact fun y2 y h0 h1 => a_head 5 (by decide) slices_S8x512_o0_320_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 5 (by decide) _ d k) _ (nextM (k0_pay3 (F := Ideal)) x0 (keysNew x2) (biasNew x1)) (fun r => m_head 5 (by decide) slices_S8x512_o0_320_S8x64 _  _ x0 (fun r c => q_apply x0 _ r c) _ (biasNew x1) (fun r k => biasNew_apply x1 _ r k) _ (keysNew x2) (fun d k => keysNew_apply x2 5 (by decide) _ d k) _ (k0_pay3 (F := Ideal)) (fun r => col_apply (k0_pay3 (F := Ideal)) 5 (by decide) _ r) _ _ rfl rfl) _ (keysOf ![x12, x13, x14, x15, x16, x17, x18, x19]) (fun d k => keys_apply ![x12, x13, x14, x15, x16, x17, x18, x19] 5 (by decide) _ d k) _ (nextA (k0_pay3 (F := Ideal)) (k0_pay5 (F := Ideal)) x0 (keysNew x2) (keysNew x3) (biasNew x1)) y2 y (a_head 5 (by decide) slices_S8x512_o0_320_S8x64 _ _ _ x0 (fun r c => q_apply x0 _ r c) _ (biasNew x1) (fun r k => biasNew_apply x1 _ r k) _ (keysNew x2) (fun d k => keysNew_apply x2 5 (by decide) _ d k) _ (k0_pay3 (F := Ideal)) (fun r => col_apply (k0_pay3 (F := Ideal)) 5 (by decide) _ r) _ (keysNew x3) (fun d k => keysNew_apply x3 5 (by decide) _ d k) _ (k0_pay5 (F := Ideal)) y2 y (val_apply (k0_pay5 (F := Ideal)) 320 _ y2 y h0 h1) h0 h1) h0 h1
  · exact fun y2 y h0 h1 => a_head 4 (by decide) slices_S8x512_o0_256_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 4 (by decide) _ d k) _ (nextM (k0_pay3 (F := Ideal)) x0 (keysNew x2) (biasNew x1)) (fun r => m_head 4 (by decide) slices_S8x512_o0_256_S8x64 _  _ x0 (fun r c => q_apply x0 _ r c) _ (biasNew x1) (fun r k => biasNew_apply x1 _ r k) _ (keysNew x2) (fun d k => keysNew_apply x2 4 (by decide) _ d k) _ (k0_pay3 (F := Ideal)) (fun r => col_apply (k0_pay3 (F := Ideal)) 4 (by decide) _ r) _ _ rfl rfl) _ (keysOf ![x12, x13, x14, x15, x16, x17, x18, x19]) (fun d k => keys_apply ![x12, x13, x14, x15, x16, x17, x18, x19] 4 (by decide) _ d k) _ (nextA (k0_pay3 (F := Ideal)) (k0_pay5 (F := Ideal)) x0 (keysNew x2) (keysNew x3) (biasNew x1)) y2 y (a_head 4 (by decide) slices_S8x512_o0_256_S8x64 _ _ _ x0 (fun r c => q_apply x0 _ r c) _ (biasNew x1) (fun r k => biasNew_apply x1 _ r k) _ (keysNew x2) (fun d k => keysNew_apply x2 4 (by decide) _ d k) _ (k0_pay3 (F := Ideal)) (fun r => col_apply (k0_pay3 (F := Ideal)) 4 (by decide) _ r) _ (keysNew x3) (fun d k => keysNew_apply x3 4 (by decide) _ d k) _ (k0_pay5 (F := Ideal)) y2 y (val_apply (k0_pay5 (F := Ideal)) 256 _ y2 y h0 h1) h0 h1) h0 h1
  · exact fun y2 y h0 h1 => a_head 3 (by decide) slices_S8x512_o0_192_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 3 (by decide) _ d k) _ (nextM (k0_pay3 (F := Ideal)) x0 (keysNew x2) (biasNew x1)) (fun r => m_head 3 (by decide) slices_S8x512_o0_192_S8x64 _  _ x0 (fun r c => q_apply x0 _ r c) _ (biasNew x1) (fun r k => biasNew_apply x1 _ r k) _ (keysNew x2) (fun d k => keysNew_apply x2 3 (by decide) _ d k) _ (k0_pay3 (F := Ideal)) (fun r => col_apply (k0_pay3 (F := Ideal)) 3 (by decide) _ r) _ _ rfl rfl) _ (keysOf ![x12, x13, x14, x15, x16, x17, x18, x19]) (fun d k => keys_apply ![x12, x13, x14, x15, x16, x17, x18, x19] 3 (by decide) _ d k) _ (nextA (k0_pay3 (F := Ideal)) (k0_pay5 (F := Ideal)) x0 (keysNew x2) (keysNew x3) (biasNew x1)) y2 y (a_head 3 (by decide) slices_S8x512_o0_192_S8x64 _ _ _ x0 (fun r c => q_apply x0 _ r c) _ (biasNew x1) (fun r k => biasNew_apply x1 _ r k) _ (keysNew x2) (fun d k => keysNew_apply x2 3 (by decide) _ d k) _ (k0_pay3 (F := Ideal)) (fun r => col_apply (k0_pay3 (F := Ideal)) 3 (by decide) _ r) _ (keysNew x3) (fun d k => keysNew_apply x3 3 (by decide) _ d k) _ (k0_pay5 (F := Ideal)) y2 y (val_apply (k0_pay5 (F := Ideal)) 192 _ y2 y h0 h1) h0 h1) h0 h1
  · exact fun y2 y h0 h1 => a_head 2 (by decide) slices_S8x512_o0_128_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 2 (by decide) _ d k) _ (nextM (k0_pay3 (F := Ideal)) x0 (keysNew x2) (biasNew x1)) (fun r => m_head 2 (by decide) slices_S8x512_o0_128_S8x64 _  _ x0 (fun r c => q_apply x0 _ r c) _ (biasNew x1) (fun r k => biasNew_apply x1 _ r k) _ (keysNew x2) (fun d k => keysNew_apply x2 2 (by decide) _ d k) _ (k0_pay3 (F := Ideal)) (fun r => col_apply (k0_pay3 (F := Ideal)) 2 (by decide) _ r) _ _ rfl rfl) _ (keysOf ![x12, x13, x14, x15, x16, x17, x18, x19]) (fun d k => keys_apply ![x12, x13, x14, x15, x16, x17, x18, x19] 2 (by decide) _ d k) _ (nextA (k0_pay3 (F := Ideal)) (k0_pay5 (F := Ideal)) x0 (keysNew x2) (keysNew x3) (biasNew x1)) y2 y (a_head 2 (by decide) slices_S8x512_o0_128_S8x64 _ _ _ x0 (fun r c => q_apply x0 _ r c) _ (biasNew x1) (fun r k => biasNew_apply x1 _ r k) _ (keysNew x2) (fun d k => keysNew_apply x2 2 (by decide) _ d k) _ (k0_pay3 (F := Ideal)) (fun r => col_apply (k0_pay3 (F := Ideal)) 2 (by decide) _ r) _ (keysNew x3) (fun d k => keysNew_apply x3 2 (by decide) _ d k) _ (k0_pay5 (F := Ideal)) y2 y (val_apply (k0_pay5 (F := Ideal)) 128 _ y2 y h0 h1) h0 h1) h0 h1
  · exact fun y2 y h0 h1 => a_head 1 (by decide) slices_S8x512_o0_64_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 1 (by decide) _ d k) _ (nextM (k0_pay3 (F := Ideal)) x0 (keysNew x2) (biasNew x1)) (fun r => m_head 1 (by decide) slices_S8x512_o0_64_S8x64 _  _ x0 (fun r c => q_apply x0 _ r c) _ (biasNew x1) (fun r k => biasNew_apply x1 _ r k) _ (keysNew x2) (fun d k => keysNew_apply x2 1 (by decide) _ d k) _ (k0_pay3 (F := Ideal)) (fun r => col_apply (k0_pay3 (F := Ideal)) 1 (by decide) _ r) _ _ rfl rfl) _ (keysOf ![x12, x13, x14, x15, x16, x17, x18, x19]) (fun d k => keys_apply ![x12, x13, x14, x15, x16, x17, x18, x19] 1 (by decide) _ d k) _ (nextA (k0_pay3 (F := Ideal)) (k0_pay5 (F := Ideal)) x0 (keysNew x2) (keysNew x3) (biasNew x1)) y2 y (a_head 1 (by decide) slices_S8x512_o0_64_S8x64 _ _ _ x0 (fun r c => q_apply x0 _ r c) _ (biasNew x1) (fun r k => biasNew_apply x1 _ r k) _ (keysNew x2) (fun d k => keysNew_apply x2 1 (by decide) _ d k) _ (k0_pay3 (F := Ideal)) (fun r => col_apply (k0_pay3 (F := Ideal)) 1 (by decide) _ r) _ (keysNew x3) (fun d k => keysNew_apply x3 1 (by decide) _ d k) _ (k0_pay5 (F := Ideal)) y2 y (val_apply (k0_pay5 (F := Ideal)) 64 _ y2 y h0 h1) h0 h1) h0 h1
  · exact fun y2 y h0 h1 => a_head 0 (by decide) slices_S8x512_o0_0_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 0 (by decide) _ d k) _ (nextM (k0_pay3 (F := Ideal)) x0 (keysNew x2) (biasNew x1)) (fun r => m_head 0 (by decide) slices_S8x512_o0_0_S8x64 _  _ x0 (fun r c => q_apply x0 _ r c) _ (biasNew x1) (fun r k => biasNew_apply x1 _ r k) _ (keysNew x2) (fun d k => keysNew_apply x2 0 (by decide) _ d k) _ (k0_pay3 (F := Ideal)) (fun r => col_apply (k0_pay3 (F := Ideal)) 0 (by decide) _ r) _ _ rfl rfl) _ (keysOf ![x12, x13, x14, x15, x16, x17, x18, x19]) (fun d k => keys_apply ![x12, x13, x14, x15, x16, x17, x18, x19] 0 (by decide) _ d k) _ (nextA (k0_pay3 (F := Ideal)) (k0_pay5 (F := Ideal)) x0 (keysNew x2) (keysNew x3) (biasNew x1)) y2 y (a_head 0 (by decide) slices_S8x512_o0_0_S8x64 _ _ _ x0 (fun r c => q_apply x0 _ r c) _ (biasNew x1) (fun r k => biasNew_apply x1 _ r k) _ (keysNew x2) (fun d k => keysNew_apply x2 0 (by decide) _ d k) _ (k0_pay3 (F := Ideal)) (fun r => col_apply (k0_pay3 (F := Ideal)) 0 (by decide) _ r) _ (keysNew x3) (fun d k => keysNew_apply x3 0 (by decide) _ d k) _ (k0_pay5 (F := Ideal)) y2 y (val_apply (k0_pay5 (F := Ideal)) 0 _ y2 y h0 h1) h0 h1) h0 h1

end Cert.KernelIdeal.AttnVal

end
-- ==== Proof.AttnLast.lean ====
/-
  A last point of the sample attention: the block of the output.
-/
module

public import proofs.«01_k».proof.Proof.AttnOuts
public import proofs.«01_k».proof.Proof.AttnHeads
public import proofs.«01_k».proof.Proof.AttnBuf

@[expose] public section

set_option maxRecDepth 16384

noncomputable section

namespace Cert.KernelIdeal.AttnVal

open Cert.KernelIdeal Cert.KernelIdeal.Gen Cert.KernelIdeal.Attn
open Idealize.ShloMosaic Idealize.ShloMosaic.TcCoe Idealize.ShloMosaic.Tactic

/-- The output block after a last point. -/
theorem out0_C_20_eq (c : Dev nD) (i : grid0.Coords) (arg3 : Memref sig .tc .vmem S1x8x512 .f32) (harg3 : arg3.IsWhole) (arg4 : Memref sig .tc .vmem S1x65x8x128 .f32) (harg4 : arg4.IsWhole) (arg5 : Memref sig .tc .vmem S1x8x64x128 .f32) (harg5 : arg5.IsWhole) (arg6 : Memref sig .tc .vmem S1x8x64x128 .f32) (harg6 : arg6.IsWhole) (arg7 : Memref sig .tc .vmem S1x8x64x128 .f32) (harg7 : arg7.IsWhole) (arg8 : Memref sig .tc .vmem S1x8x64x128 .f32) (harg8 : arg8.IsWhole) (arg9 : Memref sig .tc .vmem S1x8x64x128 .f32) (harg9 : arg9.IsWhole) (arg10 : Memref sig .tc .vmem S1x8x64x128 .f32) (harg10 : arg10.IsWhole) (arg11 : Memref sig .tc .vmem S1x8x64x128 .f32) (harg11 : arg11.IsWhole) (arg12 : Memref sig .tc .vmem S1x8x64x128 .f32) (harg12 : arg12.IsWhole) (arg13 : Memref sig .tc .vmem S1x8x64x128 .f32) (harg13 : arg13.IsWhole) (arg14 : Memref sig .tc .vmem S1x8x64x128 .f32) (harg14 : arg14.IsWhole) (arg15 : Memref sig .tc .vmem S1x8x64x128 .f32) (harg15 : arg15.IsWhole) (arg16 : Memref sig .tc .vmem S1x8x64x128 .f32) (harg16 : arg16.IsWhole) (arg17 : Memref sig .tc .vmem S1x8x64x128 .f32) (harg17 : arg17.IsWhole) (arg18 : Memref sig .tc .vmem S1x8x64x128 .f32) (harg18 : arg18.IsWhole) (arg19 : Memref sig .tc .vmem S1x8x64x128 .f32) (harg19 : arg19.IsWhole) (arg20 : Memref sig .tc .vmem S1x8x64x128 .f32) (harg20 : arg20.IsWhole) (arg21 : Memref sig .tc .vmem S1x8x64x128 .f32) (harg21 : arg21.IsWhole) (arg22 : Memref sig .tc .vmem S1x8x64x128 .f32) (harg22 : arg22.IsWhole) (arg23 : Memref sig .tc .vmem S1x8x512 .f32) (harg23 : arg23.IsWhole) (arg24 : Memref sig .tc .vmem S8x64x1024 .bf16) (harg24 : arg24.IsWhole) (arg25 : Memref sig .tc .vmem S8x64x1024 .bf16) (harg25 : arg25.IsWhole) (arg26 : Memref sig .tc .vmem S8x8x1 .f32) (harg26 : arg26.IsWhole) (arg27 : Memref sig .tc .vmem S8x8x1 .f32) (harg27 : arg27.IsWhole) (arg28 : Memref sig .tc .vmem S8x512 .f32) (harg28 : arg28.IsWhole) (hc0 : ¬cond0_0 i) (hc1 : cond0_1 i)
    (x0 : Vec Ideal S1x8x512 .f32) (x1 : Vec Ideal S1x65x8x128 .f32) (x2 : Vec Ideal S1x8x64x128 .f32) (x3 : Vec Ideal S1x8x64x128 .f32) (x4 : Vec Ideal S1x8x64x128 .f32) (x5 : Vec Ideal S1x8x64x128 .f32) (x6 : Vec Ideal S1x8x64x128 .f32) (x7 : Vec Ideal S1x8x64x128 .f32) (x8 : Vec Ideal S1x8x64x128 .f32) (x9 : Vec Ideal S1x8x64x128 .f32) (x10 : Vec Ideal S1x8x64x128 .f32) (x11 : Vec Ideal S1x8x64x128 .f32) (x12 : Vec Ideal S1x8x64x128 .f32) (x13 : Vec Ideal S1x8x64x128 .f32) (x14 : Vec Ideal S1x8x64x128 .f32) (x15 : Vec Ideal S1x8x64x128 .f32) (x16 : Vec Ideal S1x8x64x128 .f32) (x17 : Vec Ideal S1x8x64x128 .f32) (x18 : Vec Ideal S1x8x64x128 .f32) (x19 : Vec Ideal S1x8x64x128 .f32) (xt0 : TbBuf0 (F := Ideal) c tbM0_0) (xs2 : Vec Ideal S8x8x1 .f32) (xs3 : Vec Ideal S8x8x1 .f32) (xs4 : Vec Ideal S8x512 .f32) (r : Fin 8) (k : Fin 512) :
    out0_C_20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4 (ix3 (0 : Fin 1) r k)
      = Ideal.div (nextA xs2 xs4 x0 (keysOf ![x4, x5, x6, x7, x8, x9, x10, x11]) (keysOf ![x12, x13, x14, x15, x16, x17, x18, x19]) (biasOf (i 1).val (i 1).isLt x1) (ix2 r k))
        (nextL xs2 xs3 x0 (keysOf ![x4, x5, x6, x7, x8, x9, x10, x11]) (biasOf (i 1).val (i 1).isLt x1) (ix3 (⟨k.val / 64, by have := k.isLt; omega⟩ : Fin 8) r (0 : Fin 1))) := by
  unfold out0_C_20
  rw [View.read_writes_eq_canon _ _ _ (cover0_C_20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 xt0 xs2 xs3 xs4)]
  unfold kernelRun0_C
  dsimp only
  sl_unfold_words
  simp (disch := decide) only [↓View.readCov_skip (s := S8x8x1), ↓View.readCov_skip (s := S8x512), View.readCov_cons_toLoadRect, View.readCov_fill, kbuf, vbuf, View.readAt_eq_ld,
    harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread]
  clear * -
  refine (congrFun (View.canon_cons_unit_lit (S := S1x8x512) _ _ _ (by decide)) _).trans ?_
  refine out_eq (nextA xs2 xs4 x0 (keysOf ![x4, x5, x6, x7, x8, x9, x10, x11]) (keysOf ![x12, x13, x14, x15, x16, x17, x18, x19]) (biasOf (i 1).val (i 1).isLt x1)) (nextL xs2 xs3 x0 (keysOf ![x4, x5, x6, x7, x8, x9, x10, x11]) (biasOf (i 1).val (i 1).isLt x1)) _ _ _ _ _ _ _ _ _ _ _ _ _ _ _ _
    (fun y2 y h0 h1 => a_head 0 (by decide) slices_S8x512_o0_0_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 0 (by decide) _ d k) _ xs2 (fun r => col_apply xs2 0 (by decide) _ r) _ (keysOf ![x12, x13, x14, x15, x16, x17, x18, x19]) (fun d k => keys_apply ![x12, x13, x14, x15, x16, x17, x18, x19] 0 (by decide) _ d k) _ xs4 y2 y (val_apply xs4 0 _ y2 y h0 h1) h0 h1)
    (fun y2 y h0 h1 => a_head 1 (by decide) slices_S8x512_o0_64_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 1 (by decide) _ d k) _ xs2 (fun r => col_apply xs2 1 (by decide) _ r) _ (keysOf ![x12, x13, x14, x15, x16, x17, x18, x19]) (fun d k => keys_apply ![x12, x13, x14, x15, x16, x17, x18, x19] 1 (by decide) _ d k) _ xs4 y2 y (val_apply xs4 64 _ y2 y h0 h1) h0 h1)
    (fun y2 y h0 h1 => a_head 2 (by decide) slices_S8x512_o0_128_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 2 (by decide) _ d k) _ xs2 (fun r => col_apply xs2 2 (by decide) _ r) _ (keysOf ![x12, x13, x14, x15, x16, x17, x18, x19]) (fun d k => keys_apply ![x12, x13, x14, x15, x16, x17, x18, x19] 2 (by decide) _ d k) _ xs4 y2 y (val_apply xs4 128 _ y2 y h0 h1) h0 h1)
    (fun y2 y h0 h1 => a_head 3 (by decide) slices_S8x512_o0_192_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 3 (by decide) _ d k) _ xs2 (fun r => col_apply xs2 3 (by decide) _ r) _ (keysOf ![x12, x13, x14, x15, x16, x17, x18, x19]) (fun d k => keys_apply ![x12, x13, x14, x15, x16, x17, x18, x19] 3 (by decide) _ d k) _ xs4 y2 y (val_apply xs4 192 _ y2 y h0 h1) h0 h1)
    (fun y2 y h0 h1 => a_head 4 (by decide) slices_S8x512_o0_256_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 4 (by decide) _ d k) _ xs2 (fun r => col_apply xs2 4 (by decide) _ r) _ (keysOf ![x12, x13, x14, x15, x16, x17, x18, x19]) (fun d k => keys_apply ![x12, x13, x14, x15, x16, x17, x18, x19] 4 (by decide) _ d k) _ xs4 y2 y (val_apply xs4 256 _ y2 y h0 h1) h0 h1)
    (fun y2 y h0 h1 => a_head 5 (by decide) slices_S8x512_o0_320_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 5 (by decide) _ d k) _ xs2 (fun r => col_apply xs2 5 (by decide) _ r) _ (keysOf ![x12, x13, x14, x15, x16, x17, x18, x19]) (fun d k => keys_apply ![x12, x13, x14, x15, x16, x17, x18, x19] 5 (by decide) _ d k) _ xs4 y2 y (val_apply xs4 320 _ y2 y h0 h1) h0 h1)
    (fun y2 y h0 h1 => a_head 6 (by decide) slices_S8x512_o0_384_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 6 (by decide) _ d k) _ xs2 (fun r => col_apply xs2 6 (by decide) _ r) _ (keysOf ![x12, x13, x14, x15, x16, x17, x18, x19]) (fun d k => keys_apply ![x12, x13, x14, x15, x16, x17, x18, x19] 6 (by decide) _ d k) _ xs4 y2 y (val_apply xs4 384 _ y2 y h0 h1) h0 h1)
    (fun y2 y h0 h1 => a_head 7 (by decide) slices_S8x512_o0_448_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 7 (by decide) _ d k) _ xs2 (fun r => col_apply xs2 7 (by decide) _ r) _ (keysOf ![x12, x13, x14, x15, x16, x17, x18, x19]) (fun d k => keys_apply ![x12, x13, x14, x15, x16, x17, x18, x19] 7 (by decide) _ d k) _ xs4 y2 y (val_apply xs4 448 _ y2 y h0 h1) h0 h1)
    (fun y2 y h0 h1 => l_head 0 (by decide) slices_S8x512_o0_0_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 0 (by decide) _ d k) _ xs2 (fun r => col_apply xs2 0 (by decide) _ r) _ xs3 (fun r => col_apply xs3 0 (by decide) _ r) y2 y h0 h1)
    (fun y2 y h0 h1 => l_head 1 (by decide) slices_S8x512_o0_64_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 1 (by decide) _ d k) _ xs2 (fun r => col_apply xs2 1 (by decide) _ r) _ xs3 (fun r => col_apply xs3 1 (by decide) _ r) y2 y h0 h1)
    (fun y2 y h0 h1 => l_head 2 (by decide) slices_S8x512_o0_128_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 2 (by decide) _ d k) _ xs2 (fun r => col_apply xs2 2 (by decide) _ r) _ xs3 (fun r => col_apply xs3 2 (by decide) _ r) y2 y h0 h1)
    (fun y2 y h0 h1 => l_head 3 (by decide) slices_S8x512_o0_192_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 3 (by decide) _ d k) _ xs2 (fun r => col_apply xs2 3 (by decide) _ r) _ xs3 (fun r => col_apply xs3 3 (by decide) _ r) y2 y h0 h1)
    (fun y2 y h0 h1 => l_head 4 (by decide) slices_S8x512_o0_256_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 4 (by decide) _ d k) _ xs2 (fun r => col_apply xs2 4 (by decide) _ r) _ xs3 (fun r => col_apply xs3 4 (by decide) _ r) y2 y h0 h1)
    (fun y2 y h0 h1 => l_head 5 (by decide) slices_S8x512_o0_320_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 5 (by decide) _ d k) _ xs2 (fun r => col_apply xs2 5 (by decide) _ r) _ xs3 (fun r => col_apply xs3 5 (by decide) _ r) y2 y h0 h1)
    (fun y2 y h0 h1 => l_head 6 (by decide) slices_S8x512_o0_384_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 6 (by decide) _ d k) _ xs2 (fun r => col_apply xs2 6 (by decide) _ r) _ xs3 (fun r => col_apply xs3 6 (by decide) _ r) y2 y h0 h1)
    (fun y2 y h0 h1 => l_head 7 (by decide) slices_S8x512_o0_448_S8x64 _ _ _ x0 (fun r c => q_apply x0 _ r c) _ (biasOf (i 1).val (i 1).isLt x1) (fun r k => bias_apply i x1 _ _ _ _ _ _ _ _ r k) _ (keysOf ![x4, x5, x6, x7, x8, x9, x10, x11]) (fun d k => keys_apply ![x4, x5, x6, x7, x8, x9, x10, x11] 7 (by decide) _ d k) _ xs2 (fun r => col_apply xs2 7 (by decide) _ r) _ xs3 (fun r => col_apply xs3 7 (by decide) _ r) y2 y h0 h1) r k

end Cert.KernelIdeal.AttnVal

end
-- ==== Proof.SoftmaxSet.lean ====
module

public import proofs.«01_k».proof.Proof.Softmax

@[expose] public section

/-! # The running softmax over a set of keys

The state after some of the keys is the greatest logit among them and both sums against it
(`stateOf`); taking a further block of keys in gives the state of the larger set (`next_stateOf`).
So the state at the end does not depend on how the keys were cut into blocks. -/

noncomputable section

open Idealize.ShloMosaic

namespace Cert.Softmax

variable {ι κ : Type} [Fintype κ]

/-- The state after the keys of `s`. -/
def stateOf (s : Finset ι) (X V : ι → EReal) : State :=
  ⟨s.sup X, ∑ i ∈ s, Ideal.exp (X i - s.sup X), ∑ i ∈ s, Ideal.exp (X i - s.sup X) * V i⟩

theorem stateOf_empty (X V : ι → EReal) : stateOf ∅ X V = State.start := by
  simp [stateOf, State.start]

/-- A block of new keys taken in. -/
theorem next_stateOf (s t : Finset ι) (X V : ι → EReal) (e : κ → ι) (he : Function.Injective e) (hd : ∀ k, e k ∉ s)
    (ht : ∀ i, i ∈ t ↔ i ∈ s ∨ ∃ k, e k = i) :
    (stateOf s X V).next (fun k => X (e k)) (fun k => V (e k)) = stateOf t X V := by
  classical
  have hu : t = s ∪ Finset.univ.map ⟨e, he⟩ := by
    ext i; rw [ht, Finset.mem_union, Finset.mem_map]; simp
  have hdis : Disjoint s (Finset.univ.map ⟨e, he⟩) := by
    rw [Finset.disjoint_left]; intro i hi hm
    obtain ⟨k, _, rfl⟩ := Finset.mem_map.mp hm
    exact hd k hi
  have hm : t.sup X = max (s.sup X) (top fun k => X (e k)) := by
    rw [hu, Finset.sup_union, Finset.sup_map, top_eq_sup]; rfl
  have hle : s.sup X ≤ t.sup X := hm ▸ le_max_left _ _
  unfold stateOf State.next
  dsimp only
  rw [← hm]
  congr 1
  · rw [mul_sum _ (exp_nonneg _) (exp_ne_top_of_le hle), mass]
    conv_rhs => rw [hu, Finset.sum_union hdis, Finset.sum_map, ← hu]
    refine congrArg₂ (· + ·) (Finset.sum_congr rfl fun i hi => exp_rescale (Finset.le_sup hi) hle) rfl
  · rw [mul_sum _ (exp_nonneg _) (exp_ne_top_of_le hle), acc]
    conv_rhs => rw [hu, Finset.sum_union hdis, Finset.sum_map, ← hu]
    refine congrArg₂ (· + ·) (Finset.sum_congr rfl fun i hi => ?_) rfl
    rw [← mul_assoc, exp_rescale (Finset.le_sup hi) hle]

/-- The state of all the keys, when those outside the image of `e` have logit −∞ and the greatest logit is real:
    the greatest logit, the mass and the weighted values of the keys in the image. -/
theorem stateOf_univ [Fintype ι] (X V : ι → EReal) (e : κ → ι) (he : Function.Injective e) (hX : ∀ i, (¬∃ k, e k = i) → X i = ⊥)
    (r : ℝ) (hr : (top fun k => X (e k)) = (r : EReal)) :
    stateOf Finset.univ X V = ⟨top fun k => X (e k), mass (top fun k => X (e k)) fun k => X (e k),
      acc (top fun k => X (e k)) (fun k => X (e k)) fun k => V (e k)⟩ := by
  classical
  have hm : Finset.univ.sup X = top fun k => X (e k) := by
    rw [top_eq_sup]
    refine le_antisymm (Finset.sup_le fun i _ => ?_) (Finset.sup_le fun k _ => Finset.le_sup (f := X) (Finset.mem_univ (e k)))
    by_cases h : ∃ k, e k = i
    · obtain ⟨k, rfl⟩ := h; exact Finset.le_sup (f := fun k => X (e k)) (Finset.mem_univ k)
    · rw [hX i h]; exact bot_le
  have h0 : ∀ i, i ∉ Finset.univ.map (⟨e, he⟩ : κ ↪ ι) → Ideal.exp (X i - top fun k => X (e k)) = 0 := fun i hi => by
    have : X i = ⊥ := hX i fun ⟨k, hk⟩ => hi (Finset.mem_map.mpr ⟨k, Finset.mem_univ _, hk⟩)
    rw [this, hr]; simp
  unfold stateOf
  rw [hm]
  congr 1
  · rw [← Finset.sum_subset (Finset.subset_univ (Finset.univ.map (⟨e, he⟩ : κ ↪ ι))) fun i _ hi => h0 i hi, Finset.sum_map]; rfl
  · rw [← Finset.sum_subset (Finset.subset_univ (Finset.univ.map (⟨e, he⟩ : κ ↪ ι))) fun i _ hi => by rw [h0 i hi, zero_mul], Finset.sum_map]; rfl

end Cert.Softmax

end
-- ==== Proof.AttnWhole.lean ====
/-
  The sample attention over a sequence's eight points: after each, the carried arrays are the running softmax of the keys
  taken in so far; the last point's block is their quotient over all 8320 keys.
-/
module

public import proofs.«01_k».proof.Proof.AttnKeys
public import proofs.«01_k».proof.Proof.AttnMid
public import proofs.«01_k».proof.Proof.AttnFirst
public import proofs.«01_k».proof.Proof.AttnLast
public import proofs.«01_k».proof.Proof.SoftmaxSet

@[expose] public section

set_option maxRecDepth 16384

noncomputable section

namespace Cert.KernelIdeal.AttnWhole

open Cert.KernelIdeal Cert.KernelIdeal.Gen Cert.KernelIdeal.Attn Cert.KernelIdeal.AttnArr Cert.KernelIdeal.AttnVal Cert.KernelIdeal.AttnTile
open Cert.Softmax
open Idealize.ShloMosaic Idealize.ShloMosaic.TcCoe

/-- The keys taken in when `n` steps are done: the new ones, and the first `1024 n` of the cache's. -/
def seen (n : ℕ) : Finset (Fin 8320) := Finset.univ.filter fun k => 8192 ≤ k.val ∨ k.val < 1024 * n

theorem fresh_injective : Function.Injective fresh := fun a b h => by
  have := congrArg Fin.val h
  exact Fin.ext (by unfold fresh at this; dsimp only at this; omega)

theorem old_injective (g : Fin 8) : Function.Injective (old g) := fun a b h => by
  have := congrArg Fin.val h
  exact Fin.ext (by unfold old at this; dsimp only at this; omega)

theorem mem_seen_fresh (i : Fin 8320) : i ∈ seen 0 ↔ i ∈ (∅ : Finset (Fin 8320)) ∨ ∃ k, fresh k = i := by
  unfold seen fresh
  rw [Finset.mem_filter]
  refine ⟨fun h => .inr ⟨⟨i.val - 8192, by omega⟩, Fin.ext (by have := h.2; dsimp only; omega)⟩, ?_⟩
  rintro (h | ⟨k, rfl⟩)
  · simp at h
  · exact ⟨Finset.mem_univ _, .inl (by dsimp only; omega)⟩

theorem mem_seen_old (g : Fin 8) (i : Fin 8320) : i ∈ seen (g.val + 1) ↔ i ∈ seen g.val ∨ ∃ k, old g k = i := by
  unfold seen old
  rw [Finset.mem_filter, Finset.mem_filter]
  refine ⟨fun h => ?_, ?_⟩
  · by_cases hc : 8192 ≤ i.val ∨ i.val < 1024 * g.val
    · exact .inl ⟨Finset.mem_univ _, hc⟩
    · exact .inr ⟨⟨i.val - 1024 * g.val, by have := h.2; omega⟩, Fin.ext (by dsimp only; omega)⟩
  · rintro (h | ⟨k, rfl⟩)
    · exact ⟨Finset.mem_univ _, by have := h.2; omega⟩
    · exact ⟨Finset.mem_univ _, .inr (by dsimp only; omega)⟩

theorem old_not_seen (g : Fin 8) (k : Fin 1024) : old g k ∉ seen g.val := by
  unfold seen old
  rw [Finset.mem_filter]
  rintro ⟨_, h⟩
  dsimp only at h
  omega

theorem seen_all : seen 8 = Finset.univ := by
  unfold seen
  exact Finset.filter_true_of_mem fun i _ => by omega

/-! ## A block taken in, at one row of one head -/

section
variable {W : ℕ} (s u : Finset (Fin 8320)) (Y Z : Fin 8320 → EReal) (e : Fin W → Fin 8320) (he : Function.Injective e)
  (hd : ∀ k, e k ∉ s) (hu : ∀ i, i ∈ u ↔ i ∈ s ∨ ∃ k, e k = i)
include he hd hu

theorem stepM (mm : Vec Ideal S8x8x1 .f32) (x0 : Vec Ideal S1x8x512 .f32) (K : Fin 8 → Fin 64 → Fin W → EReal) (B : Fin 8 → Fin W → EReal)
    (h r : Fin 8) (hX : ∀ k, logits x0 K B h r k = Y (e k)) (hm : mm (ix3 h r 0) = (stateOf s Y Z).m) :
    nextM mm x0 K B (ix3 h r 0) = (stateOf u Y Z).m := by
  rw [← next_stateOf s u Y Z e he hd hu]
  show max (mm (ix3 h r 0)) (top (logits x0 K B h r)) = max (stateOf s Y Z).m (top fun k => Y (e k))
  rw [hm, show logits x0 K B h r = fun k => Y (e k) from funext hX]

theorem stepL (mm ll : Vec Ideal S8x8x1 .f32) (x0 : Vec Ideal S1x8x512 .f32) (K : Fin 8 → Fin 64 → Fin W → EReal) (B : Fin 8 → Fin W → EReal)
    (h r : Fin 8) (hX : ∀ k, logits x0 K B h r k = Y (e k)) (hm : mm (ix3 h r 0) = (stateOf s Y Z).m) (hl : ll (ix3 h r 0) = (stateOf s Y Z).l) :
    nextL mm ll x0 K B (ix3 h r 0) = (stateOf u Y Z).l := by
  rw [← next_stateOf s u Y Z e he hd hu]
  show (State.next ⟨mm (ix3 h r 0), ll (ix3 h r 0), 0⟩ (logits x0 K B h r) fun _ => 0).l = _
  rw [hm, hl, show logits x0 K B h r = fun k => Y (e k) from funext hX]
  rfl

theorem stepA (mm : Vec Ideal S8x8x1 .f32) (aa : Vec Ideal S8x512 .f32) (x0 : Vec Ideal S1x8x512 .f32) (K V : Fin 8 → Fin 64 → Fin W → EReal)
    (B : Fin 8 → Fin W → EReal) (r : Fin 8) (j : Fin 512) (hX : ∀ k, logits x0 K B ⟨j / 64, by omega⟩ r k = Y (e k))
    (hV : ∀ k, V ⟨j / 64, by omega⟩ ⟨j % 64, by omega⟩ k = Z (e k))
    (hm : mm (ix3 ⟨j / 64, by omega⟩ r 0) = (stateOf s Y Z).m) (ha : aa (ix2 r j) = (stateOf s Y Z).a) :
    nextA mm aa x0 K V B (ix2 r j) = (stateOf u Y Z).a := by
  rw [← next_stateOf s u Y Z e he hd hu]
  show (State.next ⟨mm (ix3 ⟨j / 64, by omega⟩ r 0), 0, aa (ix2 r j)⟩ (logits x0 K B ⟨j / 64, by omega⟩ r) (V ⟨j / 64, by omega⟩ ⟨j % 64, by omega⟩)).a = _
  rw [hm, ha, show logits x0 K B ⟨j / 64, by omega⟩ r = fun k => Y (e k) from funext hX,
    show V ⟨j / 64, by omega⟩ ⟨j % 64, by omega⟩ = fun k => Z (e k) from funext hV]
  rfl

end

/-! ## The points of a sequence -/

variable (m : (ℓ : Loc nD τ sig) → Buf (Elt Ideal) ℓ)

/-- The value rows of 8320 keys. -/
abbrev vals (c : Dev nD) (b : Fin 32) (h : Fin 8) (d : Fin 64) (k : Fin 8320) : EReal :=
  rowAt (argT m c) (laidV m c) (argCV m c) b h d k

/-- The carried arrays are the running softmax of the keys of `s`. -/
def Inv (c : Dev nD) (b : Fin 32) (s : Finset (Fin 8320)) (M L : Vec Ideal S8x8x1 .f32) (A : Vec Ideal S8x512 .f32) : Prop :=
  (∀ h r : Fin 8, M (ix3 h r 0) = (stateOf s (X m c b h r) fun _ => 0).m)
  ∧ (∀ h r : Fin 8, L (ix3 h r 0) = (stateOf s (X m c b h r) fun _ => 0).l)
  ∧ (∀ (r : Fin 8) (j : Fin 512), A (ix2 r j) = (stateOf s (X m c b ⟨j / 64, by omega⟩ r) (vals m c b ⟨j / 64, by omega⟩ ⟨j % 64, by omega⟩)).a)

section
variable (hO : Ok m) (c : Dev nD) (t : Fin (cfgM m hO).N) (b : Fin 32) (g : Fin 8) (ht : t.val = 8 * b.val + g.val)
include ht

theorem inv_fresh : Inv m c b (seen 0) (nextM (k0_pay3 (F := Ideal)) (iblk m hO c 0 t) (keysNew (iblk m hO c 2 t)) (biasNew (iblk m hO c 1 t)))
    (nextL (k0_pay3 (F := Ideal)) (k0_pay4 (F := Ideal)) (iblk m hO c 0 t) (keysNew (iblk m hO c 2 t)) (biasNew (iblk m hO c 1 t)))
    (nextA (k0_pay3 (F := Ideal)) (k0_pay5 (F := Ideal)) (iblk m hO c 0 t) (keysNew (iblk m hO c 2 t)) (keysNew (iblk m hO c 3 t)) (biasNew (iblk m hO c 1 t))) :=
  ⟨fun h r => stepM ∅ (seen 0) _ _ fresh fresh_injective (fun _ => Finset.notMem_empty _) mem_seen_fresh _ _ _ _ h r
      (logits_fresh m hO c t b g ht h r) (start_m _),
    fun h r => stepL ∅ (seen 0) _ _ fresh fresh_injective (fun _ => Finset.notMem_empty _) mem_seen_fresh _ _ _ _ _ h r
      (logits_fresh m hO c t b g ht h r) (start_m _) (start_l _),
    fun r j => stepA ∅ (seen 0) _ _ fresh fresh_injective (fun _ => Finset.notMem_empty _) mem_seen_fresh _ _ _ _ _ _ r j
      (logits_fresh m hO c t b g ht _ r) (vals_fresh m hO c t b g ht _ _) (start_m _) (start_a _)⟩

theorem inv_old (h0 : ∀ b g, (argT m c (ix2 b g)).toNat < 2560) (M L : Vec Ideal S8x8x1 .f32) (A : Vec Ideal S8x512 .f32) (h : Inv m c b (seen g.val) M L A) :
    Inv m c b (seen (g.val + 1))
      (nextM M (iblk m hO c 0 t) (keysOf ![iblk m hO c 4 t, iblk m hO c 5 t, iblk m hO c 6 t, iblk m hO c 7 t, iblk m hO c 8 t, iblk m hO c 9 t, iblk m hO c 10 t, iblk m hO c 11 t]) (biasOf (grid0.coords t 1).val (grid0.coords t 1).isLt (iblk m hO c 1 t)))
      (nextL M L (iblk m hO c 0 t) (keysOf ![iblk m hO c 4 t, iblk m hO c 5 t, iblk m hO c 6 t, iblk m hO c 7 t, iblk m hO c 8 t, iblk m hO c 9 t, iblk m hO c 10 t, iblk m hO c 11 t]) (biasOf (grid0.coords t 1).val (grid0.coords t 1).isLt (iblk m hO c 1 t)))
      (nextA M A (iblk m hO c 0 t) (keysOf ![iblk m hO c 4 t, iblk m hO c 5 t, iblk m hO c 6 t, iblk m hO c 7 t, iblk m hO c 8 t, iblk m hO c 9 t, iblk m hO c 10 t, iblk m hO c 11 t]) (keysOf ![iblk m hO c 12 t, iblk m hO c 13 t, iblk m hO c 14 t, iblk m hO c 15 t, iblk m hO c 16 t, iblk m hO c 17 t, iblk m hO c 18 t, iblk m hO c 19 t]) (biasOf (grid0.coords t 1).val (grid0.coords t 1).isLt (iblk m hO c 1 t))) :=
  ⟨fun k r => stepM (seen g.val) _ _ _ (old g) (old_injective g) (old_not_seen g) (mem_seen_old g) _ _ _ _ k r
      (logits_old m hO c t b g ht h0 k r) (h.1 k r),
    fun k r => stepL (seen g.val) _ _ _ (old g) (old_injective g) (old_not_seen g) (mem_seen_old g) _ _ _ _ _ k r
      (logits_old m hO c t b g ht h0 k r) (h.1 k r) (h.2.1 k r),
    fun r j => stepA (seen g.val) _ _ _ (old g) (old_injective g) (old_not_seen g) (mem_seen_old g) _ _ _ _ _ _ r j
      (logits_old m hO c t b g ht h0 _ r) (keysCV m hO c t b g ht h0 _ _) (h.1 _ r) (h.2.2 r j)⟩

end

/-- The carried arrays after step `g` of sequence `b`, before the last. -/
theorem inv_at (hO : Ok m) (c : Dev nD) (b : Fin 32) (h0 : ∀ b g, (argT m c (ix2 b g)).toNat < 2560) (g : ℕ) (hg : g < 7) (hn : 8 * b.val + g < (cfgM m hO).N) :
    Inv m c b (seen (g + 1)) (outsAt0 m hO c (8 * b.val + g) hn).2.1 (outsAt0 m hO c (8 * b.val + g) hn).2.2.1 (outsAt0 m hO c (8 * b.val + g) hn).2.2.2 := by
  induction g with
  | zero =>
    have e := outsAt0_A m hO c ⟨8 * b.val + 0, hn⟩ (by dsimp only; omega) (by dsimp only; omega)
    dsimp only at e
    have i := inv_old m hO c ⟨8 * b.val + 0, hn⟩ b 0 rfl h0 _ _ _ (inv_fresh m hO c ⟨8 * b.val + 0, hn⟩ b 0 rfl)
    rw [e]
    dsimp only
    exact ⟨fun h r => (sout0_A_2_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (i.1 h r), fun h r => (sout0_A_3_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (i.2.1 h r),
      fun r j => (sout0_A_4_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (i.2.2 r j)⟩
  | succ g ih =>
    have e := outsAt0_B m hO c ⟨8 * b.val + (g + 1), hn⟩ (by dsimp only; omega) (by dsimp only; omega)
    dsimp only at e
    have i := inv_old m hO c ⟨8 * b.val + (g + 1), hn⟩ b ⟨g + 1, by omega⟩ rfl h0 _ _ _ (ih (by omega) (by omega))
    rw [e]
    dsimp only
    exact ⟨fun h r => (sout0_B_2_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (i.1 h r), fun h r => (sout0_B_3_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (i.2.1 h r),
      fun r j => (sout0_B_4_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (i.2.2 r j)⟩

/-- The block that the last step of sequence `b` stores. -/
theorem out_at (hO : Ok m) (c : Dev nD) (b : Fin 32) (h0 : ∀ b g, (argT m c (ix2 b g)).toNat < 2560) (hn : 8 * b.val + 7 < (cfgM m hO).N) (r : Fin 8) (j : Fin 512) :
    (outsAt0 m hO c (8 * b.val + 7) hn).1 (ix3 0 r j)
      = Ideal.div (stateOf Finset.univ (X m c b ⟨j / 64, by omega⟩ r) (vals m c b ⟨j / 64, by omega⟩ ⟨j % 64, by omega⟩)).a
          (stateOf Finset.univ (X m c b ⟨j / 64, by omega⟩ r) fun _ => 0).l := by
  have e := outsAt0_C m hO c ⟨8 * b.val + 7, hn⟩ (by dsimp only; omega) (by dsimp only; omega)
  dsimp only at e
  have i := inv_old m hO c ⟨8 * b.val + 7, hn⟩ b 7 rfl h0 _ _ _ (inv_at m hO c b h0 6 (by omega) (by omega))
  rw [show seen ((7 : Fin 8).val + 1) = Finset.univ from seen_all] at i
  rw [e]
  dsimp only
  exact (out0_C_20_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans (congrArg₂ Ideal.div (i.2.2 r j) (i.2.1 _ r))

end Cert.KernelIdeal.AttnWhole

end
-- ==== Proof.AttnFrame.lean ====
/-
  The attention's call: its run, and that it leaves its arguments unchanged, over what `AttnOuts` says each point leaves.
-/
module

public import proofs.«01_k».proof.Proof.AttnOuts
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop((∃ d, owns (c : Thread nD τ) scM0_0 fullShare d) ∗ (∃ d, owns (c : Thread nD τ) scM0_1 fullShare d) ∗ owns (c : Thread nD τ) scM0_2 fullShare ((outsAt0 m hO c n hn).2.1) ∗ owns (c : Thread nD τ) scM0_3 fullShare ((outsAt0 m hO c n hn).2.2.1) ∗ owns (c : Thread nD τ) scM0_4 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop((∃ d, owns (c : Thread nD τ) scM0_0 fullShare d) ∗ (∃ d, owns (c : Thread nD τ) scM0_1 fullShare d) ∗ owns (c : Thread nD τ) scM0_2 fullShare ((outsAt0 m hO c n hn).2.1) ∗ owns (c : Thread nD τ) scM0_3 fullShare ((outsAt0 m hO c n hn).2.2.1) ∗ owns (c : Thread nD τ) scM0_4 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop((∃ d, owns (c : Thread nD τ) scM0_0 fullShare d) ∗ (∃ d, owns (c : Thread nD τ) scM0_1 fullShare d) ∗ owns (c : Thread nD τ) scM0_2 fullShare ((outsAt0 m hO c (n - 1) (by omega)).2.1) ∗ owns (c : Thread nD τ) scM0_3 fullShare ((outsAt0 m hO c (n - 1) (by omega)).2.2.1) ∗ owns (c : Thread nD τ) scM0_4 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => (outsAt0 m hO c t.val t.isLt).1
    | ⟨_ + 21, h⟩ => absurd h (Nat.not_lt.2 (Nat.le_add_left _ _))
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t
    ∗ (dats m hO 0 c).leavesExact 20 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 256 := lt_of_lt_of_eq t.isLt (show (cfgM m hO).N = 256 from N_0)
  by_cases h0 : t.val % 8 = 0
  · by_cases h1 : t.val % 8 = 7
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [Dat.leavesExact_idle (dats m hO 0 c) 20 t (idleAt0_20_A m hO t ((hcond0_0 t).mpr h0) (fun h => h1 ((hcond0_1 t).mp h))) (noFlush0_20_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_2 sout0_A_3 sout0_A_4; (try dsimp only)
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, H8, H9, H10, H11, H12, H13, H14, H15, H16, H17, H18, H19, H20, ⟨%fT0, HS0⟩, ⟨%fT1, HS1⟩, ⟨%es2, HS2⟩, ⟨%es3, HS3⟩, ⟨%es4, HS4⟩, HT0⟩
        isplitl [HS0 HS1 HS2 HS3 HS4 Hg HT0]
        · isplitl [HS0 HS1 HS2 HS3 HS4 Hg]
          · isplitl [HS0 HS1 HS2 HS3 HS4]
            · isplitl [HS0]
              · iexists _; unfold owns; iexists _; isplitr
                swap; · iexact HS0
                ipureintro; rfl
              isplitl [HS1]
              · iexists _; unfold owns; iexists _; isplitr
                swap; · iexact HS1
                ipureintro; rfl
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexists _; iexact H20
      · rw [PhiS_castSucc m hO c t, PhiS_pos m hO c _ _ hz, PhiT0_eq]
        rw [outsAt0_A m hO c t h0 h1]
        unfold sout0_A_2 sout0_A_3 sout0_A_4; (try dsimp only)
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexists _; iexact HS2
        isplitl [HS3]; · iexists _; iexact HS3
        isplitl [HS4]; · iexists _; iexact HS4
        isplitl [HT0]; · iexact HT0
        iintro ⟨H0, H1, H2, H3, H4, H5, H6, H7, H8, H9, H10, H11, H12, H13, H14, H15, H16, H17, H18, H19, H20, ⟨%fT0, HS0⟩, ⟨%fT1, HS1⟩, ⟨%es2, HS2⟩, ⟨%es3, HS3⟩, ⟨%es4, HS4⟩, HT0⟩
        isplitl [HS0 HS1 HS2 HS3 HS4 Hg HT0]
        · isplitl [HS0 HS1 HS2 HS3 HS4 Hg]
          · isplitl [HS0 HS1 HS2 HS3 HS4]
            · isplitl [HS0]
              · iexists _; unfold owns; iexists _; isplitr
                swap; · iexact HS0
                ipureintro; rfl
              isplitl [HS1]
              · iexists _; unfold owns; iexists _; isplitr
                swap; · iexact HS1
                ipureintro; rfl
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexists _; iexact H20
  · by_cases h1 : t.val % 8 = 7
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20_C m hO t (fun h => h0 ((hcond0_0 t).mp h)) ((hcond0_1 t).mpr h1)]; try rfl, after0_20]
      by_cases hz : t.val = 0
      · exfalso; have hN : t.val < 256 := lt_of_lt_of_eq t.isLt (show (cfgM m hO).N = 256 from N_0); omega
      · rw [PhiS_castSucc m hO c t, PhiS_pos m hO c _ _ hz, PhiT0_eq]
        rw [outsAt0_C m hO c t h0 h1]
        unfold out0_C_20 sout0_C_2 sout0_C_3 sout0_C_4; (try dsimp only)
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, H8, H9, H10, H11, H12, H13, H14, H15, H16, H17, H18, H19, ⟨%e20, H20⟩, ⟨%fT0, HS0⟩, ⟨%fT1, HS1⟩, ⟨%es2, HS2⟩, ⟨%es3, HS3⟩, ⟨%es4, HS4⟩, HT0⟩
        isplitl [HS0 HS1 HS2 HS3 HS4 Hg HT0]
        · isplitl [HS0 HS1 HS2 HS3 HS4 Hg]
          · isplitl [HS0 HS1 HS2 HS3 HS4]
            · isplitl [HS0]
              · iexists _; unfold owns; iexists _; isplitr
                swap; · iexact HS0
                ipureintro; rfl
              isplitl [HS1]
              · iexists _; unfold owns; iexists _; isplitr
                swap; · iexact HS1
                ipureintro; rfl
              isplitl [HS2]
              · unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        unfold owns; iexists _; isplitr
        swap; · iexact H20
        ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [Dat.leavesExact_idle (dats m hO 0 c) 20 t (idleAt0_20_B m hO t (fun h => h0 ((hcond0_0 t).mp h)) (fun h => h1 ((hcond0_1 t).mp h))) (noFlush0_20_B m hO t (fun h => h0 ((hcond0_0 t).mp h)) (fun h => h1 ((hcond0_1 t).mp h)))]
      by_cases hz : t.val = 0
      · exfalso; have hN : t.val < 256 := lt_of_lt_of_eq t.isLt (show (cfgM m hO).N = 256 from N_0); omega
      · rw [PhiS_castSucc m hO c t, PhiS_pos m hO c _ _ hz, PhiT0_eq]
        rw [outsAt0_B m hO c t h0 h1]
        unfold sout0_B_2 sout0_B_3 sout0_B_4; (try dsimp only)
        iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexact HS2
        isplitl [HS3]; · iexact HS3
        isplitl [HS4]; · iexact HS4
        isplitl [HT0]; · iexact HT0
        iintro ⟨H0, H1, H2, H3, H4, H5, H6, H7, H8, H9, H10, H11, H12, H13, H14, H15, H16, H17, H18, H19, H20, ⟨%fT0, HS0⟩, ⟨%fT1, HS1⟩, ⟨%es2, HS2⟩, ⟨%es3, HS3⟩, ⟨%es4, HS4⟩, HT0⟩
        isplitl [HS0 HS1 HS2 HS3 HS4 Hg HT0]
        · isplitl [HS0 HS1 HS2 HS3 HS4 Hg]
          · isplitl [HS0 HS1 HS2 HS3 HS4]
            · isplitl [HS0]
              · iexists _; unfold owns; iexists _; isplitr
                swap; · iexact HS0
                ipureintro; rfl
              isplitl [HS1]
              · iexists _; unfold owns; iexists _; isplitr
                swap; · iexact HS1
                ipureintro; rfl
              isplitl [HS2]
              · unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexists _; iexact H20

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4⟩, Hg⟩, -⟩
  isplitl [HS0 HS1 HS2 HS3 HS4]
  · isplitl [HS0]
    · iexact HS0
    isplitl [HS1]
    · iexact HS1
    isplitl [HS2]
    · iexists _; iexact HS2
    isplitl [HS3]
    · iexists _; iexact HS3
    iexists _; iexact HS4
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 256 := N_0; omega)

/-! ## The run and the frame -/

-- `θ_run_frameP_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Attn

end
-- ==== Proof.AttnResult.lean ====
/-
  The result array of the sample attention's region: sequence `b`'s block, stored by its last point, holds the quotient of
  the running softmax over all the keys of the sequence.
-/
module

public import proofs.«01_k».proof.Proof.AttnWhole
public import proofs.«01_k».proof.Proof.AttnFrame

@[expose] public section

set_option maxRecDepth 16384

noncomputable section

namespace Cert.KernelIdeal.AttnResult

open Cert.KernelIdeal Cert.KernelIdeal.Gen Cert.KernelIdeal.Attn Cert.KernelIdeal.AttnArr Cert.KernelIdeal.AttnTile Cert.KernelIdeal.AttnWhole
open Cert.Softmax
open Idealize.ShloMosaic Idealize.ShloMosaic.TcCoe

variable (m : (ℓ : Loc nD τ sig) → Buf (Elt Ideal) ℓ) (c : Dev nD)

/-- The attention of row `r` of sequence `b` at column `j`. -/
def cell (b : Fin 32) (r : Fin 8) (j : Fin 512) : EReal :=
  Ideal.div (stateOf Finset.univ (X m c b ⟨j / 64, by omega⟩ r) (vals m c b ⟨j / 64, by omega⟩ ⟨j % 64, by omega⟩)).a
    (stateOf Finset.univ (X m c b ⟨j / 64, by omega⟩ r) fun _ => 0).l

def result : Buf (Elt Ideal) ((c : Thread nD τ).loc main_v21) := fun (i : S32x8x512.Idx) => cell m c (i 0) (i 1) (i 2)

variable (hO : Ok m)

theorem cell_congr {z : S32x8x512.Idx} {b : Fin 32} {r : Fin 8} {j : Fin 512} (h : z = ix3 b r j) : result m c z = cell m c b r j := by
  subst h; rfl

/-- Sequence `b`'s block of the result array. -/
theorem read_eq (t : Fin (cfgM m hO).N) (b : Fin 32) (g : Fin 8) (ht : t.val = 8 * b.val + g.val) (r : Fin 8) (j : Fin 512) :
    (((cfgM m hO).win 20).blk t).view.read (Elt Ideal) (result m c) (ix3 (0 : Fin 1) r j) = cell m c b r j := by
  refine cell_congr m c (funext fun a => Fin.ext ?_)
  match a with
  | ⟨0, _⟩ => show BitVec.toNat (BitVec.ofNat 32 (grid0.coords t 0).val) * 1 + 1 * 0 = b.val; rw [first m hO t b g ht b rfl]; omega
  | ⟨1, _⟩ => show 0 * 8 + 1 * r.val = r.val; omega
  | ⟨2, _⟩ => show 0 * 512 + 1 * j.val = j.val; omega

theorem idx3 (y : S1x8x512.Idx) : ∃ (r : Fin 8) (j : Fin 512), y = ix3 (0 : Fin 1) r j := ⟨y 1, y 2, by
  funext a
  match a with
  | ⟨0, _⟩ => exact Fin.ext (Nat.lt_one_iff.mp (y 0).isLt)
  | ⟨1, _⟩ => rfl
  | ⟨2, _⟩ => rfl⟩

theorem flushed_eq (h0 : ∀ b g, (argT m c (ix2 b g)).toNat < 2560) (t : Fin (cfgM m hO).N) (hf : ((cfgM m hO).win 20).flush t = true) :
    (dats m hO 0 c).flushed 20 t = (((cfgM m hO).win 20).blk t).view.read (Elt Ideal) (result m c) := by
  have h7 : t.val % 8 = 7 := (flush0_20 (adm m hO) t).mp hf
  have hN : t.val < 256 := lt_of_lt_of_eq t.isLt N_0
  have ht : t.val = 8 * (⟨t.val / 8, by omega⟩ : Fin 32).val + (7 : Fin 8).val := by show t.val = 8 * (t.val / 8) + 7; omega
  generalize (⟨t.val / 8, by omega⟩ : Fin 32) = b at ht
  have eo : ∀ (r : Fin 8) (j : Fin 512), (outsAt0 m hO c t.val t.isLt).1 (ix3 (0 : Fin 1) r j) = cell m c b r j := by
    obtain ⟨n, hn⟩ := t
    obtain rfl : n = 8 * b.val + 7 := ht
    exact out_at m hO c b h0 hn
  show ((cfgM m hO).win 20).cut (grid0.coords t) ((dats m hO 0 c).after 20 t) = _
  rw [after0_20]
  refine funext fun (y : S1x8x512.Idx) => ?_
  obtain ⟨r, j, rfl⟩ := idx3 y
  exact (eo r j).trans (read_eq m c hO t b 7 ht r j).symm

theorem mem_rect (o : Fin 3 → ℕ) {T : ℕ} (e : o = ![T, 0, 0]) (h : ∀ a, (o a + 1) * S1x8x512.size a ≤ S32x8x512.size a) (i : S32x8x512.Idx) :
    i ∈ ((View.whole main_v21).slice (Rect.block (s := S32x8x512) S1x8x512.size o h)).set ↔ (i 0 : Nat) = T := by
  subst e
  rw [View.set_slice_whole, Rect.mem_set_unit]
  have h1 : (i 1 : Nat) < 8 := (i 1).isLt
  have h2 : (i 2 : Nat) < 512 := (i 2).isLt
  refine ⟨fun h => ?_, fun h a => ?_⟩
  · have : T * 1 ≤ (i 0 : Nat) ∧ (i 0 : Nat) < T * 1 + 1 := h 0
    omega
  · match a with
    | ⟨0, _⟩ => show T * 1 ≤ (i 0 : Nat) ∧ (i 0 : Nat) < T * 1 + 1; omega
    | ⟨1, _⟩ => show 0 * 8 ≤ (i 1 : Nat) ∧ (i 1 : Nat) < 0 * 8 + 8; omega
    | ⟨2, _⟩ => show 0 * 512 ≤ (i 2 : Nat) ∧ (i 2 : Nat) < 0 * 512 + 512; omega

theorem index_eq (t : Fin (cfgM m hO).N) (b : Fin 32) (g : Fin 8) (ht : t.val = 8 * b.val + g.val) :
    cc0_transform_20 (grid0.coords t) = ![b.val, 0, 0] := by
  have e := first m hO t b g ht b rfl
  funext a
  match a with
  | ⟨0, _⟩ => exact e
  | ⟨1, _⟩ => rfl
  | ⟨2, _⟩ => rfl

theorem mem_blk (t : Fin (cfgM m hO).N) (b : Fin 32) (g : Fin 8) (ht : t.val = 8 * b.val + g.val) (i : S32x8x512.Idx) :
    i ∈ (((cfgM m hO).win 20).blk t).view.set ↔ (i 0 : Nat) = b.val :=
  mem_rect (cc0_transform_20 (grid0.coords t)) (index_eq m hO t b g ht) (Facts₀.hinb0_20 (grid0.coords t)) i

theorem cover (i : S32x8x512.Idx) :
    ∃ t : Fin (cfgM m hO).N, ((cfgM m hO).win 20).flush t = true ∧ i ∈ (((cfgM m hO).win 20).blk t).view.set := by
  have h0 : (i 0 : Nat) < 32 := (i 0).isLt
  have hN : (cfgM m hO).N = 256 := N_0
  exact ⟨⟨8 * (i 0 : Nat) + 7, by omega⟩, (flush0_20 (adm m hO) _).mpr (by dsimp only; omega),
    (mem_blk m hO ⟨8 * (i 0 : Nat) + 7, by omega⟩ (i 0) 7 rfl i).mpr rfl⟩

theorem final_eq (h0 : ∀ b g, (argT m c (ix2 b g)).toNat < 2560) : (dats m hO 0 c).arrAt 20 (cfgM m hO).N = result m c :=
  (dats m hO 0 c).arrAt_eq_of_cover 20 (result m c) (fun t hf => flushed_eq m c hO h0 t hf) (cover m hO)

/-- The host's last line keeps the real rows. -/
theorem slice_eq (W : Valuation τ sig (Elt Ideal)) :
    StableHlo.after [hostOps1 (F := Ideal)].flatten W (Proc.devRef .tc main_v22)
      = extractStridedSlice S32x4x512 ![0, 0, 0] (W (Proc.devRef .tc main_v21)) slices_S32x8x512_S32x4x512_0_0_0 := by
  simp only [hostOps1, List.flatten_cons, List.flatten_nil, List.append_nil]
  after_results_simp

theorem region_eq (h0 : ∀ b g, (argT m c (ix2 b g)).toNat < 2560) :
    Pipeline.withArrays spec0 c (V0 m c) (fun w => (dats m hO 0 c).arrAt w (cfgM m hO).N) (Proc.devRef .tc main_v21) = result m c :=
  (Pipeline.withArrays_arr_shared spec0 c (V0 m c) (fun w => (dats m hO 0 c).arrAt w (cfgM m hO).N)
    ((dats m hO 0 c).arrAt_sharedIn sharedIn0 (V0 m c) (A_eq m hO c) _) 20).trans (final_eq m c hO h0)

/-- The rows that the host keeps: the attention of the real rows. -/
theorem tail_eq (h0 : ∀ b g, (argT m c (ix2 b g)).toNat < 2560) (b : Fin 32) (r : Fin 4) (j : Fin 512) :
    Pipeline.afterTail pcfgs (fun _ => adm m hO) (dats m hO) 0 (V0 m) [hostOps1] c main_v22 (ix3 b r j)
      = cell m c b ⟨r.val, by omega⟩ j := by
  refine (congrFun (slice_eq _) (ix3 b r j)).trans ?_
  refine (congrFun (congrArg (fun A => extractStridedSlice S32x4x512 ![0, 0, 0] A slices_S32x8x512_S32x4x512_0_0_0) (region_eq m c hO h0)) (ix3 b r j)).trans ?_
  refine cell_congr m c (funext fun a => Fin.ext ?_)
  match a with
  | ⟨0, _⟩ => show 0 + b.val = b.val; omega
  | ⟨1, _⟩ => show 0 + r.val = r.val; omega
  | ⟨2, _⟩ => show 0 + j.val = j.val; omega

end Cert.KernelIdeal.AttnResult

end
-- ==== Proof.AttnLogit.lean ====
/-
  The reference of the attention, read at an index: the softmax-weighted sum of the values over the 8192 keys of the pages
  that the table names and the 4 new keys.
-/
module

public import proofs.«01_k».proof.Proof.Gen.ReferenceIdeal.Read
public import proofs.«01_k».proof.Proof.Softmax
public import proofs.«01_k».proof.Proof.AttnGather

@[expose] public section

set_option maxRecDepth 16384

noncomputable section

namespace Cert.ReferenceIdeal.RowsOf

open Cert.ReferenceIdeal Cert.ReferenceIdeal.Read Idealize.ShloMosaic

section
variable (x0 : (⟨S32x64, .i32⟩ : BufTy).Contents (Elt Ideal)) (x1 x2 x3 : (⟨S32x4x8x64, .f32⟩ : BufTy).Contents (Elt Ideal))
  (x4 : (⟨S32x4x8196, .i32⟩ : BufTy).Contents (Elt Ideal)) (x5 x6 : (⟨S1x2560x128x8x64, .f32⟩ : BufTy).Contents (Elt Ideal))

theorem v11_apply (h0 : ∀ b g, BitVec.toNat (w := 32) (x0 (ix2 b g)) < 2560) (b : Fin 32) (k : Fin 8192) (h : Fin 8)
    (d : Fin 64) : val_main_v11 (F := Ideal) x0 x5 (ix4 b k h d)
      = x5 (ix5 0 (page x0 b ⟨k / 128, by omega⟩) ⟨k % 128, by omega⟩ h d) := by
  rw [val_main_v11_apply]
  have e : idx_main_v11 (ix4 b k h d) = ix5 b ⟨k / 128, by omega⟩ ⟨k % 128, by omega⟩ h d := by
    funext a
    match a with
    | ⟨0, _⟩ => exact Fin.ext (show ((((b : Nat) * 8192 + k) * 8 + h) * 64 + d) / 4194304 = b by omega)
    | ⟨1, _⟩ => exact Fin.ext (show ((((b : Nat) * 8192 + k) * 8 + h) * 64 + d) / 65536 % 64 = k / 128 by omega)
    | ⟨2, _⟩ => exact Fin.ext (show ((((b : Nat) * 8192 + k) * 8 + h) * 64 + d) / 512 % 128 = k % 128 by omega)
    | ⟨3, _⟩ => exact Fin.ext (show ((((b : Nat) * 8192 + k) * 8 + h) * 64 + d) / 64 % 8 = h by omega)
    | ⟨4, _⟩ => exact Fin.ext (show ((((b : Nat) * 8192 + k) * 8 + h) * 64 + d) % 64 = d by omega)
  rw [e]
  exact gather_apply x0 x5 h0 b _ _ h d

theorem v12_apply (h0 : ∀ b g, BitVec.toNat (w := 32) (x0 (ix2 b g)) < 2560) (b : Fin 32) (k : Fin 8196) (h : Fin 8)
    (d : Fin 64) : val_main_v12 (F := Ideal) x0 x2 x5 (ix4 b k h d) = rowOf x0 x2 x5 b h k d := by
  pointwise [val_main_v12]
  unfold rowOf
  split
  · rename_i hk
    rw [v11_apply x0 x5 h0]
  · rfl

/-- The values are gathered as the keys are. -/
theorem v25_apply (h0 : ∀ b g, BitVec.toNat (w := 32) (x0 (ix2 b g)) < 2560) (b : Fin 32) (k : Fin 8196) (h : Fin 8)
    (d : Fin 64) : val_main_v25 (F := Ideal) x0 x3 x6 (ix4 b k h d) = rowOf x0 x3 x6 b h k d :=
  (show val_main_v25 (F := Ideal) x0 x3 x6 (ix4 b k h d) = val_main_v12 (F := Ideal) x0 x3 x6 (ix4 b k h d) from rfl).trans
    (v12_apply x0 x3 x6 h0 b k h d)

/-- The pattern of −∞. -/
theorem ofBits_bot : Ideal.ofBits .f32 4286578688#32 = ⊥ := by simp [Ideal.ofBits, Ideal.ieee]

/-- The logit of new row `r` at key `k`, −∞ where the mask leaves the key out. -/
def logit (pt : S32x64.Idx → BitVec 32) (q new : S32x4x8x64.Idx → EReal) (keep : S32x4x8196.Idx → BitVec 32)
    (cache : S1x2560x128x8x64.Idx → EReal) (b : Fin 32) (r : Fin 4) (h : Fin 8) (k : Fin 8196) : EReal :=
  if keep (ix3 b r k) = 0#32 then ⊥
  else (∑ d : Fin 64, rowOf pt new cache b h k d * q (ix4 b r h d)) * Ideal.ofBits .f32 0x3E000000#32

theorem v33_apply (h0 : ∀ b g, BitVec.toNat (w := 32) (x0 (ix2 b g)) < 2560) (b : Fin 32) (r : Fin 4) (h : Fin 8)
    (k : Fin 8196) : val_main_v33 (F := Ideal) x0 x1 x2 x4 x5 (ix4 b r h k) = logit x0 x1 x2 x4 x5 b r h k := by
  pointwise [val_main_v33, val_main_call0_v2, val_main_call0_v1, val_main_call0_v0, val_main_cst_6, val_main_v32,
    val_main_v31, val_main_c_5, val_main_v30, val_main_v29, val_main_v28, val_main_cst, val_main_v27, val_main_v26]
  simp only [v12_apply x0 x2 x5 h0]
  have e : (id (constant (F := Ideal) S_ FTy.f32 4286578688#32) ix0 : EReal) = ⊥ := ofBits_bot
  rw [e]
  unfold logit
  by_cases hk : x4 (ix3 b r k) = 0#32
  · rw [if_pos hk, hk]; rfl
  · rw [if_neg hk]
    have : IntOp.cmpi .ne (x4 (ix3 b r k)) 0#32 = 1#1 := by
      have : (x4 (ix3 b r k) != 0#32) = true := by simpa using hk
      simp only [IntOp.cmpi, this]; rfl
    rw [this]; rfl

end

end Cert.ReferenceIdeal.RowsOf

end
-- ==== Proof.AttnLogits.lean ====
/-
  The 8196 keys of a sequence among the 8320 that the kernel scans: on them the kernel's logits and values are the
  reference's, past them the logit is −∞.
-/
module

public import proofs.«01_k».proof.Proof.AttnKeys
public import proofs.«01_k».proof.Proof.AttnLogit
public import proofs.«01_k».proof.Proof.SoftmaxSet

@[expose] public section

set_option maxRecDepth 16384

noncomputable section

namespace Cert.KernelIdeal.AttnTile

open Cert.KernelIdeal Cert.KernelIdeal.Gen Cert.KernelIdeal.AttnArr
open Idealize.ShloMosaic Idealize.ShloMosaic.TcCoe
open Cert.ReferenceIdeal.RowsOf (page rowOf logit)

variable (m : (ℓ : Loc nD τ sig) → Buf (Elt Ideal) ℓ) (c : Dev nD)

/-- A key of the sequence among the scanned ones. -/
def key (k : Fin 8196) : Fin 8320 := ⟨k.val, by omega⟩

theorem key_injective : Function.Injective key := fun a b h => Fin.ext (Fin.mk.inj h)

theorem past_of (i : Fin 8320) (h : ¬∃ k, key k = i) : ¬128 * (i.val / 128) + i.val % 128 < 8196 := fun hi =>
  h ⟨⟨i.val, by omega⟩, rfl⟩

theorem scale_eq : scale = ((1 / 8 : ℝ) : EReal) := by
  simp [Ideal.ofBits, Ideal.ieee]
  rw [← EReal.coe_mul]
  congr 1
  norm_num

theorem scale_nonneg : 0 ≤ scale := by
  rw [scale_eq]; exact_mod_cast (by norm_num : (0 : ℝ) ≤ 1 / 8)

theorem scale_ne_top : scale ≠ ⊤ := by
  rw [scale_eq]; exact EReal.coe_ne_top _

/-- A row of the cache or of the new rows. -/
theorem rowAt_key (new : S32x8x64x128.Idx → EReal) (given : S32x4x8x64.Idx → EReal) (cache : S1x2560x128x8x64.Idx → EReal)
    (pt : S32x64.Idx → BitVec 32) (b : Fin 32) (h : Fin 8) (d : Fin 64)
    (hn : ∀ k : Fin 4, new (ix4 b h d ⟨k, by omega⟩) = given (ix4 b k h d)) (k : Fin 8196) :
    rowAt pt new cache b h d (key k) = rowOf pt given cache b h k d := by
  unfold rowAt rowOf key
  by_cases hk : k.val < 8192
  · rw [dif_pos hk, dif_pos hk]
  · rw [dif_neg hk, dif_neg hk]
    exact hn ⟨k.val - 8192, by omega⟩

/-- A logit of the kernel is the reference's. -/
theorem X_key (b : Fin 32) (h : Fin 8) (r : Fin 4) (k : Fin 8196) :
    X m c b h ⟨r, by omega⟩ (key k) = logit (argT m c) (argQ m c) (argK m c) (argKeep m c) (argCK m c) b r h k := by
  unfold X logit
  have hk : 128 * (k.val / 128) + k.val % 128 = k.val := by omega
  have eb := v9_apply m c b r ⟨k.val / 128, by omega⟩ ⟨k.val % 128, by omega⟩ (by dsimp only; omega)
  rw [show (⟨128 * ((⟨k.val / 128, by omega⟩ : Fin 65) : ℕ) + ((⟨k.val % 128, by omega⟩ : Fin 128) : ℕ), by dsimp only; omega⟩ : Fin 8196) = k from Fin.ext hk] at eb
  rw [show laidB m c (ix4 b ⟨(key k).val / 128, by omega⟩ ⟨r, by omega⟩ ⟨(key k).val % 128, by omega⟩) = _ from eb]
  by_cases hkeep : argKeep m c (ix3 b r k) = 0#32
  · rw [if_pos hkeep, if_pos hkeep, EReal.add_bot]
  · rw [if_neg hkeep, if_neg hkeep, add_zero, mul_comm _ (Ideal.ofBits _ _), Softmax.mul_sum _ scale_nonneg scale_ne_top]
    refine Finset.sum_congr rfl fun d _ => ?_
    rw [v12_apply m c b r h d, rowAt_key (laidK m c) (argK m c) (argCK m c) (argT m c) b h d (v14_apply m c b h d) k,
      mul_comm (argQ m c _), mul_assoc, mul_comm (argQ m c _)]

theorem X_past (b : Fin 32) (h : Fin 8) (r : Fin 8) (i : Fin 8320) (hi : ¬∃ k, key k = i) : X m c b h r i = ⊥ := by
  unfold X
  rw [v9_apply_past m c b r ⟨i / 128, by omega⟩ ⟨i % 128, by omega⟩ (past_of i hi), EReal.add_bot]

/-! ## A row with a kept key has a real greatest logit -/

theorem real_mul {a b : EReal} (ha : ∃ x : ℝ, a = x) (hb : ∃ x : ℝ, b = x) : ∃ x : ℝ, a * b = x := by
  obtain ⟨x, rfl⟩ := ha; obtain ⟨y, rfl⟩ := hb; exact ⟨x * y, (EReal.coe_mul x y).symm⟩

theorem real_sum {ι : Type} (s : Finset ι) (f : ι → EReal) (hf : ∀ i, ∃ x : ℝ, f i = x) : ∃ x : ℝ, ∑ i ∈ s, f i = x := by
  choose g hg using hf
  exact ⟨∑ i ∈ s, g i, by rw [← Softmax.coe_sum]; exact Finset.sum_congr rfl fun i _ => hg i⟩

theorem top_real {ι : Type} [Fintype ι] (x : ι → EReal) (hx : ∀ i, x i = ⊥ ∨ ∃ a : ℝ, x i = a) (i : ι) (hi : x i ≠ ⊥) :
    ∃ a : ℝ, Softmax.top x = a := by
  rw [Softmax.top_eq_sup]
  obtain ⟨j, _, hj⟩ := Finset.exists_mem_eq_sup Finset.univ ⟨i, Finset.mem_univ i⟩ x
  rcases hx j with h | h
  · exact absurd (le_bot_iff.mp ((Finset.le_sup (Finset.mem_univ i)).trans (hj.trans h).le)) hi
  · rw [hj]; exact h

theorem logit_top {pt : S32x64.Idx → BitVec 32} {q new : S32x4x8x64.Idx → EReal} {keep : S32x4x8196.Idx → BitVec 32}
    {cache : S1x2560x128x8x64.Idx → EReal} (hq : ∀ i, ∃ x : ℝ, q i = x) (hn : ∀ i, ∃ x : ℝ, new i = x)
    (hc : ∀ i, ∃ x : ℝ, cache i = x) (b : Fin 32) (r : Fin 4) (h : Fin 8) (hk : ∃ k, keep (ix3 b r k) ≠ 0#32) :
    ∃ a : ℝ, Softmax.top (logit pt q new keep cache b r h) = a := by
  have hrow : ∀ k d, ∃ x : ℝ, rowOf pt new cache b h k d = x := fun k d => by
    unfold rowOf; split <;> first | exact hc _ | exact hn _
  have hl : ∀ k, keep (ix3 b r k) ≠ 0#32 → ∃ a : ℝ, logit pt q new keep cache b r h k = a := fun k hk => by
    unfold logit; rw [if_neg hk]
    exact real_mul (real_sum _ _ fun d => real_mul (hrow k d) (hq _)) ⟨_, scale_eq⟩
  obtain ⟨k, hk⟩ := hk
  refine top_real _ (fun k => ?_) k ?_
  · by_cases h0 : keep (ix3 b r k) = 0#32
    · exact .inl (by unfold logit; rw [if_pos h0])
    · exact .inr (hl k h0)
  · obtain ⟨a, ha⟩ := hl k hk
    rw [ha]; exact EReal.coe_ne_bot a

end Cert.KernelIdeal.AttnTile

end
-- ==== Proof.AttnOk.lean ====
/-
  With every page number in range, every block of a page that the sample attention reads lies inside the cache.
-/
module

public import proofs.«01_k».proof.Proof.Gen.KernelIdeal.Frame.Runs

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F]

theorem row4 (pf : pre0.Contents (Elt F)) (i : grid0.Coords) :
    ∃ x, cc0_transform_4 k0_off1_inb numel1_S1x1 pf i = ![BitVec.toNat (w := 32) (pf 0 x), 0, 0, 0] := by
  unfold cc0_transform_4
  exact ⟨_, rfl⟩

theorem row5 (pf : pre0.Contents (Elt F)) (i : grid0.Coords) :
    ∃ x, cc0_transform_5 k0_off1_inb numel1_S1x1 pf i = ![BitVec.toNat (w := 32) (pf 0 x), 0, 0, 0] := by
  unfold cc0_transform_5
  exact ⟨_, rfl⟩

theorem row6 (pf : pre0.Contents (Elt F)) (i : grid0.Coords) :
    ∃ x, cc0_transform_6 k0_off1_inb numel1_S1x1 pf i = ![BitVec.toNat (w := 32) (pf 0 x), 0, 0, 0] := by
  unfold cc0_transform_6
  exact ⟨_, rfl⟩

theorem row7 (pf : pre0.Contents (Elt F)) (i : grid0.Coords) :
    ∃ x, cc0_transform_7 k0_off1_inb numel1_S1x1 pf i = ![BitVec.toNat (w := 32) (pf 0 x), 0, 0, 0] := by
  unfold cc0_transform_7
  exact ⟨_, rfl⟩

theorem row8 (pf : pre0.Contents (Elt F)) (i : grid0.Coords) :
    ∃ x, cc0_transform_8 k0_off1_inb numel1_S1x1 pf i = ![BitVec.toNat (w := 32) (pf 0 x), 0, 0, 0] := by
  unfold cc0_transform_8
  exact ⟨_, rfl⟩

theorem row9 (pf : pre0.Contents (Elt F)) (i : grid0.Coords) :
    ∃ x, cc0_transform_9 k0_off1_inb numel1_S1x1 pf i = ![BitVec.toNat (w := 32) (pf 0 x), 0, 0, 0] := by
  unfold cc0_transform_9
  exact ⟨_, rfl⟩

theorem row10 (pf : pre0.Contents (Elt F)) (i : grid0.Coords) :
    ∃ x, cc0_transform_10 k0_off1_inb numel1_S1x1 pf i = ![BitVec.toNat (w := 32) (pf 0 x), 0, 0, 0] := by
  unfold cc0_transform_10
  exact ⟨_, rfl⟩

theorem row11 (pf : pre0.Contents (Elt F)) (i : grid0.Coords) :
    ∃ x, cc0_transform_11 k0_off1_inb numel1_S1x1 pf i = ![BitVec.toNat (w := 32) (pf 0 x), 0, 0, 0] := by
  unfold cc0_transform_11
  exact ⟨_, rfl⟩

theorem row12 (pf : pre0.Contents (Elt F)) (i : grid0.Coords) :
    ∃ x, cc0_transform_12 k0_off1_inb numel1_S1x1 pf i = ![BitVec.toNat (w := 32) (pf 0 x), 0, 0, 0] := by
  unfold cc0_transform_12
  exact ⟨_, rfl⟩

theorem row13 (pf : pre0.Contents (Elt F)) (i : grid0.Coords) :
    ∃ x, cc0_transform_13 k0_off1_inb numel1_S1x1 pf i = ![BitVec.toNat (w := 32) (pf 0 x), 0, 0, 0] := by
  unfold cc0_transform_13
  exact ⟨_, rfl⟩

theorem row14 (pf : pre0.Contents (Elt F)) (i : grid0.Coords) :
    ∃ x, cc0_transform_14 k0_off1_inb numel1_S1x1 pf i = ![BitVec.toNat (w := 32) (pf 0 x), 0, 0, 0] := by
  unfold cc0_transform_14
  exact ⟨_, rfl⟩

theorem row15 (pf : pre0.Contents (Elt F)) (i : grid0.Coords) :
    ∃ x, cc0_transform_15 k0_off1_inb numel1_S1x1 pf i = ![BitVec.toNat (w := 32) (pf 0 x), 0, 0, 0] := by
  unfold cc0_transform_15
  exact ⟨_, rfl⟩

theorem row16 (pf : pre0.Contents (Elt F)) (i : grid0.Coords) :
    ∃ x, cc0_transform_16 k0_off1_inb numel1_S1x1 pf i = ![BitVec.toNat (w := 32) (pf 0 x), 0, 0, 0] := by
  unfold cc0_transform_16
  exact ⟨_, rfl⟩

theorem row17 (pf : pre0.Contents (Elt F)) (i : grid0.Coords) :
    ∃ x, cc0_transform_17 k0_off1_inb numel1_S1x1 pf i = ![BitVec.toNat (w := 32) (pf 0 x), 0, 0, 0] := by
  unfold cc0_transform_17
  exact ⟨_, rfl⟩

theorem row18 (pf : pre0.Contents (Elt F)) (i : grid0.Coords) :
    ∃ x, cc0_transform_18 k0_off1_inb numel1_S1x1 pf i = ![BitVec.toNat (w := 32) (pf 0 x), 0, 0, 0] := by
  unfold cc0_transform_18
  exact ⟨_, rfl⟩

theorem row19 (pf : pre0.Contents (Elt F)) (i : grid0.Coords) :
    ∃ x, cc0_transform_19 k0_off1_inb numel1_S1x1 pf i = ![BitVec.toNat (w := 32) (pf 0 x), 0, 0, 0] := by
  unfold cc0_transform_19
  exact ⟨_, rfl⟩

theorem inside (o : Fin 4 → ℕ) {T : ℕ} (e : o = ![T, 0, 0, 0]) (hT : T < 2560) (a : Fin 4) :
    (o a + 1) * S1x8x64x128.size a ≤ S2560x8x64x128.size a := by
  subst e
  match a with
  | ⟨0, _⟩ => show (T + 1) * 1 ≤ 2560; omega
  | ⟨1, _⟩ => show (0 + 1) * 8 ≤ 8; omega
  | ⟨2, _⟩ => show (0 + 1) * 64 ≤ 64; omega
  | ⟨3, _⟩ => show (0 + 1) * 128 ≤ 128; omega

theorem block {pf : pre0.Contents (Elt F)} (o : Fin 4 → ℕ) (e : ∃ x, o = ![BitVec.toNat (w := 32) (pf 0 x), 0, 0, 0])
    (h : ∀ x, BitVec.toNat (w := 32) (pf 0 x) < 2560) :
    ∃ h : (∀ a, (o a + 1) * S1x8x64x128.size a ≤ S2560x8x64x128.size a),
      EltTy.bits .f32 = 32 ∨ (Rect.block (s := S2560x8x64x128) S1x8x64x128.size o h).WholeWords (EltTy.packing .f32) := by
  obtain ⟨x, e⟩ := e
  exact ⟨inside o e (h x), .inl rfl⟩

variable (m : (ℓ : Loc nD τ sig) → Buf (Elt F) ℓ)

/-- The pipeline's side condition, from the range of the page numbers. -/
theorem ok_of_range (h : ∀ x : S32x64.Idx, BitVec.toNat (w := 32) (m (((0 : Dev nD) : Thread nD τ).loc main_arg0) x) < 2560) : Ok m := by
  have h' : ∀ x, BitVec.toNat (w := 32) (tbl m 0 x) < 2560 := fun x => by
    rw [show tbl m 0 = m (((0 : Dev nD) : Thread nD τ).loc main_arg0) from V_main_arg0 m 0]; exact h x
  exact ⟨fun i => block _ (row4 (tbl m) i) h',
    fun i => block _ (row5 (tbl m) i) h',
    fun i => block _ (row6 (tbl m) i) h',
    fun i => block _ (row7 (tbl m) i) h',
    fun i => block _ (row8 (tbl m) i) h',
    fun i => block _ (row9 (tbl m) i) h',
    fun i => block _ (row10 (tbl m) i) h',
    fun i => block _ (row11 (tbl m) i) h',
    fun i => block _ (row12 (tbl m) i) h',
    fun i => block _ (row13 (tbl m) i) h',
    fun i => block _ (row14 (tbl m) i) h',
    fun i => block _ (row15 (tbl m) i) h',
    fun i => block _ (row16 (tbl m) i) h',
    fun i => block _ (row17 (tbl m) i) h',
    fun i => block _ (row18 (tbl m) i) h',
    fun i => block _ (row19 (tbl m) i) h'⟩

end Cert.KernelIdeal.Attn

end
-- ==== Proof.AttnRef.lean ====
/-
  The reference of the attention, read at an index: the softmax-weighted sum of the values over the 8192 keys of the pages
  that the table names and the 4 new keys.
-/
module

public import proofs.«01_k».proof.Proof.Gen.ReferenceIdeal.Read
public import proofs.«01_k».proof.Proof.Softmax
public import proofs.«01_k».proof.Proof.AttnLogit

@[expose] public section

set_option maxRecDepth 16384

noncomputable section

namespace Cert.ReferenceIdeal.RowsOf

open Cert.ReferenceIdeal Cert.ReferenceIdeal.Gen Cert.ReferenceIdeal.Read Idealize.ShloMosaic

section
variable (x0 : (⟨S32x64, .i32⟩ : BufTy).Contents (Elt Ideal)) (x1 x2 x3 : (⟨S32x4x8x64, .f32⟩ : BufTy).Contents (Elt Ideal))
  (x4 : (⟨S32x4x8196, .i32⟩ : BufTy).Contents (Elt Ideal)) (x5 x6 : (⟨S1x2560x128x8x64, .f32⟩ : BufTy).Contents (Elt Ideal))

section
variable (h0 : ∀ b g, BitVec.toNat (w := 32) (x0 (ix2 b g)) < 2560) (b : Fin 32) (r : Fin 4) (h : Fin 8)
include h0

omit h0 in
theorem rowMax (y : FVec Ideal S32x4x8x8196 .f32) (f : Fin 8196 → EReal) (hv : ∀ k, y (ix4 b r h k) = f k) :
    Host.reduce FloatOps.maximumf y (constant S_ .f32 0xFF800000#32) reducesTo_S32x4x8x8196_S32x4x8_d3 h_S_ (ix3 b r h)
      = Softmax.top f := by
  have hr : S32x4x8x8196.Reduces [3] S32x4x8 := by decide
  rw [Host.reduce_eq_fold_single FloatOps.maximumf y _ _ hr h_S_]
  have hf : (y ∘ hr.lift (ix3 b r h)) = f := by
    funext k
    refine (congrArg y ?_).trans (hv k)
    funext a; apply Fin.ext
    match a with
    | ⟨0, _⟩ => rfl
    | ⟨1, _⟩ => rfl
    | ⟨2, _⟩ => rfl
    | ⟨3, _⟩ => rfl
  rw [hf]
  unfold Softmax.top
  exact congrArg (fun z => Finset.fold max z f (Finset.univ : Finset (Fin 8196))) ofBits_bot

theorem v34_apply : val_main_v34 (F := Ideal) x0 x1 x2 x4 x5 (ix3 b r h) = Softmax.top (logit x0 x1 x2 x4 x5 b r h) :=
  rowMax b r h _ _ (v33_apply x0 x1 x2 x4 x5 h0 b r h)

theorem v36_apply : val_main_v36 (F := Ideal) x0 x1 x2 x4 x5 (ix3 b r h) = Softmax.top (logit x0 x1 x2 x4 x5 b r h) := by
  rw [val_main_v36_apply, v34_apply x0 x1 x2 x4 x5 h0 b r h, val_main_v35_apply]
  show max (Ideal.ofBits .f32 0xFF800000#32) _ = _
  rw [show Ideal.ofBits .f32 0xFF800000#32 = ⊥ from ofBits_bot, max_bot_left]

theorem v40_apply (k : Fin 8196) : val_main_v40 (F := Ideal) x0 x1 x2 x4 x5 (ix4 b r h k)
    = Ideal.exp (logit x0 x1 x2 x4 x5 b r h k - Softmax.top (logit x0 x1 x2 x4 x5 b r h)) := by
  rw [val_main_v40_apply, val_main_v39_apply, val_main_v38_apply, val_main_v37_apply,
    show idx_main_v37 (idx_main_v38 (ix4 b r h k)) = ix3 b r h from
      funext fun a => match a with | ⟨0, _⟩ => rfl | ⟨1, _⟩ => rfl | ⟨2, _⟩ => rfl,
    v36_apply x0 x1 x2 x4 x5 h0 b r h, v33_apply x0 x1 x2 x4 x5 h0 b r h k]
  rfl

theorem v41_apply : val_main_v41 (F := Ideal) x0 x1 x2 x4 x5 (ix3 b r h)
    = Softmax.mass (Softmax.top (logit x0 x1 x2 x4 x5 b r h)) (logit x0 x1 x2 x4 x5 b r h) := by
  have hv := v40_apply x0 x1 x2 x4 x5 h0 b r h
  rw [val_main_v41_apply]
  have e : val_main_cst_9 (F := Ideal) (Shape.Idx.first h_S_) = (0 : EReal) := by
    show Ideal.ofBits .f32 0x00000000#32 = 0
    simp [Ideal.ofBits, Ideal.ieee]
  rw [e, zero_add]
  unfold Softmax.mass
  refine Finset.sum_congr rfl fun k _ => ?_
  rw [show idx_main_v41 (ix3 b r h) k = ix4 b r h k from
      funext fun a => match a with | ⟨0, _⟩ => rfl | ⟨1, _⟩ => rfl | ⟨2, _⟩ => rfl | ⟨3, _⟩ => rfl, hv]

theorem v44_apply (k : Fin 8196) : val_main_v44 (F := Ideal) x0 x1 x2 x4 x5 (ix4 b r h k)
    = Ideal.div (Ideal.exp (logit x0 x1 x2 x4 x5 b r h k - Softmax.top (logit x0 x1 x2 x4 x5 b r h)))
        (Softmax.mass (Softmax.top (logit x0 x1 x2 x4 x5 b r h)) (logit x0 x1 x2 x4 x5 b r h)) := by
  rw [val_main_v44_apply, val_main_v43_apply, val_main_v42_apply,
    show idx_main_v42 (idx_main_v43 (ix4 b r h k)) = ix3 b r h from
      funext fun a => match a with | ⟨0, _⟩ => rfl | ⟨1, _⟩ => rfl | ⟨2, _⟩ => rfl,
    v40_apply x0 x1 x2 x4 x5 h0 b r h, v41_apply x0 x1 x2 x4 x5 h0 b r h]
  rfl

/-- The attention's column `64 h + d` of new row `r`: the values under the softmax of the logits. -/
theorem v46_apply (d : Fin 64) : val_main_v46 (F := Ideal) x0 x1 x2 x3 x4 x5 x6 (ix4 b r h d)
      = ∑ k, rowOf x0 x3 x6 b h k d * Ideal.div
          (Ideal.exp (logit x0 x1 x2 x4 x5 b r h k - Softmax.top (logit x0 x1 x2 x4 x5 b r h)))
          (Softmax.mass (Softmax.top (logit x0 x1 x2 x4 x5 b r h)) (logit x0 x1 x2 x4 x5 b r h)) := by
  have hv := v44_apply x0 x1 x2 x4 x5 h0 b r h
  have hw := fun k => v25_apply x0 x3 x6 h0 b k h d
  rw [val_main_v46_apply, val_main_v45_apply]
  refine Finset.sum_congr rfl fun k _ => ?_
  rw [← hv k, ← hw k]
  refine congrArg₂ (· * ·) (congrArg _ ?_) (congrArg _ ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

omit h0 in
theorem v47_apply (j : Fin 512) : val_main_v47 (F := Ideal) x0 x1 x2 x3 x4 x5 x6 (ix3 b r j)
      = val_main_v46 (F := Ideal) x0 x1 x2 x3 x4 x5 x6 (ix4 b r ⟨j / 64, by omega⟩ ⟨j % 64, by omega⟩) := by
  rw [val_main_v47_apply]
  congr 1
  funext a
  match a with
  | ⟨0, _⟩ => exact Fin.ext (show (((b : Nat) * 4 + r) * 512 + j) / 2048 = b by omega)
  | ⟨1, _⟩ => exact Fin.ext (show (((b : Nat) * 4 + r) * 512 + j) / 512 % 4 = r by omega)
  | ⟨2, _⟩ => exact Fin.ext (show (((b : Nat) * 4 + r) * 512 + j) / 64 % 8 = j / 64 by omega)
  | ⟨3, _⟩ => exact Fin.ext (show (((b : Nat) * 4 + r) * 512 + j) % 64 = j % 64 by omega)

end

end

end Cert.ReferenceIdeal.RowsOf

end
-- ==== Proof.AttnClaim.lean ====
/-
  The sample attention against its reference: the same extended reals, the arguments unchanged.
-/
module

public import proofs.«01_k».proof.Defs
public import proofs.«01_k».proof.Proof.AttnResult
public import proofs.«01_k».proof.Proof.AttnLogits
public import proofs.«01_k».proof.Proof.AttnPre
public import proofs.«01_k».proof.Proof.AttnOk
public import proofs.«01_k».proof.Proof.AttnRef
public import proofs.«01_k».proof.Proof.Gen.ReferenceIdeal.Run
public import Idealize.ShloMosaic.Lib.Quiescent

@[expose] public section

set_option maxRecDepth 16384

noncomputable section

namespace Cert.KernelIdeal.AttnProof

open Cert.KernelIdeal Cert.KernelIdeal.Gen Cert.KernelIdeal.Attn Cert.KernelIdeal.AttnArr Cert.KernelIdeal.AttnTile Cert.KernelIdeal.AttnWhole
open Cert.KernelIdeal.AttnResult
open Idealize.ShloMosaic Idealize.ShloMosaic.TcCoe Idealize.SL.Sem
open Cert.ReferenceIdeal.RowsOf (logit)

section
variable (m : (ℓ : Loc nD τ sig) → Buf (Elt Ideal) ℓ) (c : Dev nD)

theorem cell_eq (h0 : ∀ b g, (argT m c (ix2 b g)).toNat < 2560) (hq : ∀ i, ∃ x : ℝ, argQ m c i = x) (hk : ∀ i, ∃ x : ℝ, argK m c i = x)
    (hc : ∀ i, ∃ x : ℝ, argCK m c i = x) (hkeep : ∀ (b : Fin 32) (r : Fin 4), ∃ k : Fin 8196, argKeep m c (ix3 b r k) ≠ 0#32)
    (b : Fin 32) (r : Fin 4) (j : Fin 512) : cell m c b ⟨r.val, by omega⟩ j
      = Cert.ReferenceIdeal.Read.val_main_v47 (F := Ideal) (argT m c) (argQ m c) (argK m c) (argV m c) (argKeep m c) (argCK m c) (argCV m c) (ix3 b r j) := by
  have hj : j.val / 64 < 8 := by omega
  have hd : j.val % 64 < 64 := by omega
  obtain ⟨a, ha⟩ := logit_top (pt := argT m c) hq hk hc b r ⟨j.val / 64, hj⟩ (hkeep b r)
  have hX : (fun k => X m c b ⟨j.val / 64, hj⟩ ⟨r.val, by omega⟩ (key k)) = logit (argT m c) (argQ m c) (argK m c) (argKeep m c) (argCK m c) b r ⟨j.val / 64, hj⟩ :=
    funext fun k => X_key m c b ⟨j.val / 64, hj⟩ r k
  have hV : (fun k => vals m c b ⟨j.val / 64, hj⟩ ⟨j.val % 64, hd⟩ (key k))
      = fun k => Cert.ReferenceIdeal.RowsOf.rowOf (argT m c) (argV m c) (argCV m c) b ⟨j.val / 64, hj⟩ k ⟨j.val % 64, hd⟩ :=
    funext fun k => rowAt_key (laidV m c) (argV m c) (argCV m c) (argT m c) b ⟨j.val / 64, hj⟩ ⟨j.val % 64, hd⟩ (v16_apply m c b ⟨j.val / 64, hj⟩ ⟨j.val % 64, hd⟩) k
  have hs := fun V => Softmax.stateOf_univ (X m c b ⟨j.val / 64, hj⟩ ⟨r.val, by omega⟩) V key key_injective
    (fun i hi => X_past m c b ⟨j.val / 64, hj⟩ ⟨r.val, by omega⟩ i hi) a (by rw [hX]; exact ha)
  unfold cell
  rw [hs, hs, hX, hV]
  dsimp only
  refine (Softmax.weighted_eq _ _ a ha).trans ?_
  rw [Cert.ReferenceIdeal.RowsOf.v47_apply, Cert.ReferenceIdeal.RowsOf.v46_apply _ _ _ _ _ _ _ h0]
  exact Finset.sum_congr rfl fun k _ => mul_comm _ _

end

theorem ok_of_pre (m : (ℓ : Loc nD τ sig) → Buf (Elt Ideal) ℓ) (h : Cert.Pre_KernelIdeal m) : Ok m :=
  ok_of_range m (Cert.AttnPre.inRange _ _ _ _ _ _ _ (h 0))

theorem ok_of_attends (m : (ℓ : Loc nD τ sig) → Buf (Elt Ideal) ℓ) (h : Cert.Pre_KernelIdeal_attends m) : Ok m :=
  ok_of_range m (Cert.AttnPre.attends _ _ _ _ _ _ _ (h 0)).1

theorem frame_kernel : Cert.quiescent_KernelIdeal := fun m ρ h => Attn.frame m ρ (ok_of_pre m h)

theorem frame_attends : Cert.quiescent_KernelIdeal_pre_attends := fun m ρ h => Attn.frame m ρ (ok_of_attends m h)

theorem run_value (m : (ℓ : Loc nD τ sig) → Buf (Elt Ideal) ℓ) (ρ : Dev nD → PrngReg) (hO : Ok m) :
    θ_run defs (onTc (τ := τ) (main (F := Ideal))) ⟨m, fun _ => 0, ρ⟩ (fun r => ∀ c : Dev nD,
      r.2.mem ((c.tc : Thread nD τ).loc main_v22) = Pipeline.afterTail pcfgs (fun _ => adm m hO) (dats m hO) 0 (V0 m) [hostOps1] c main_v22) :=
  (θ_run defs _ _).mono (fun _ h c => (h c).2 main_v22 (by decide : main_v22 ∈ Pipeline.restRefs sig spec0)) (run_main m ρ hO)

/-- The sample attention computes its reference over the extended reals. -/
theorem algebraic : Cert.algebraic_KernelIdeal_ReferenceIdeal_pre_attends := by
  intro m g m' g' hpre hargs
  have hO := ok_of_attends m hpre
  refine ⟨fun c => Pipeline.afterTail pcfgs (fun _ => adm m hO) (dats m hO) 0 (V0 m) [hostOps1] c main_v22, ?_, ?_⟩
  · exact (θ_run defs _ _).mono (fun r h c => ⟨h.1 c, h.2 c⟩) (θ_run_and (run_value m g hO) (unchanged m g hO))
  · refine (θ_run Cert.ReferenceIdeal.defs _ _).mono (fun r h c => ⟨(h c).1.trans ?_, (h c).2⟩) (Cert.ReferenceIdeal.Value.run m' g')
    rw [Cert.ReferenceIdeal.Read.val_main_v47_eq]
    obtain ⟨e0, e1, e2, e3, e4, e5, e6⟩ := hargs c
    obtain ⟨p0, p1, p2, p5, pk⟩ := Cert.AttnPre.attends _ _ _ _ _ _ _ (hpre c)
    rw [e0, e1, e2, e3, e4, e5, e6]
    funext (i : S32x4x512.Idx)
    obtain ⟨b, r, j, rfl⟩ : ∃ (b : Fin 32) (r : Fin 4) (j : Fin 512), i = ix3 b r j := ⟨i 0, i 1, i 2, by
      funext a
      match a with
      | ⟨0, _⟩ => rfl
      | ⟨1, _⟩ => rfl
      | ⟨2, _⟩ => rfl⟩
    exact ((tail_eq m c hO (fun b g => p0 (ix2 b g)) b r j).trans (cell_eq m c (fun b g => p0 (ix2 b g)) p1 p2 p5 pk b r j)).symm

theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

theorem frame_reference_attends : Cert.quiescent_ReferenceIdeal_pre_attends := fun m ρ _ =>
  (θ_run _ _ _).mono (fun r h => ⟨fun c => (h c).2, sem_eq_zero_of_no_sems (by decide) r.2⟩) (Cert.ReferenceIdeal.Value.run m ρ)

end Cert.KernelIdeal.AttnProof

end
-- ==== Proof.Rows.lean ====
/-
  The layer's row arithmetic over the extended reals, written once: each function takes the rows and weights of ONE token
  and gives one entry of the result. The kernels compute it tile by tile, the reference all tokens at once; both are
  shown to be these functions of their arguments.
-/
module

public import Idealize.ShloMosaic.PureOps.Ideal
public import Idealize.ShloMosaic.Lib.Pointwise

@[expose] public section

noncomputable section

namespace Cert.Rows

open Idealize.ShloMosaic

/-- The normalised row: the entry times the reciprocal square root of (mean square + epsilon), times the gain. -/
def rms (v g : Fin 1024 → EReal) (j : Fin 1024) : EReal :=
  v j * Ideal.rsqrt (Ideal.div (∑ k, v k * v k) (Ideal.ofBits .f32 1149239296#32) + Ideal.ofBits .f32 897988541#32) * g j

/-- The pooling mixer's four groups of 128 columns through their own matrices, scaled, and beside them the attention's
    512 columns: the row that the output projection takes. -/
def mixed (p a : Fin 512 → EReal) (w : Fin 4 → Fin 128 → Fin 128 → EReal) (s : Fin 512 → EReal) (j : Fin 1024) : EReal :=
  if h : (j : Nat) < 512 then
    (if h₁ : (j : Nat) < 128 then ∑ x : Fin 128, p ⟨x, by omega⟩ * w 0 x ⟨j, h₁⟩
     else if h₂ : (j : Nat) - 128 < 128 then ∑ x : Fin 128, p ⟨128 + x, by omega⟩ * w 1 x ⟨j - 128, h₂⟩
     else if h₃ : (j : Nat) - 128 - 128 < 128 then ∑ x : Fin 128, p ⟨256 + x, by omega⟩ * w 2 x ⟨j - 128 - 128, h₃⟩
     else ∑ x : Fin 128, p ⟨384 + x, by omega⟩ * w 3 x ⟨j - 128 - 128 - 128, by omega⟩) * s ⟨j, h⟩
  else a ⟨j - 512, by omega⟩

/-- The residual row after the mixers. -/
def resid (x mix : Fin 1024 → EReal) (wo : Fin 1024 → Fin 1024 → EReal) (j : Fin 1024) : EReal :=
  x j + ∑ k, mix k * wo k j

/-- The squared rectified hidden unit `f`. -/
def act (hn : Fin 1024 → EReal) (w₁ : Fin 1024 → Fin 4096 → EReal) (f : Fin 4096) : EReal :=
  max (∑ k, hn k * w₁ k f) 0 * max (∑ k, hn k * w₁ k f) 0

/-- The residual row after the feed-forward block. -/
def ffn (h : Fin 1024 → EReal) (a : Fin 4096 → EReal) (w₂ : Fin 4096 → Fin 1024 → EReal) (j : Fin 1024) : EReal :=
  h j + ∑ f, a f * w₂ f j

/-- The whole of what follows the mixers, for one token. -/
def finish (x : Fin 1024 → EReal) (p a : Fin 512 → EReal) (w : Fin 4 → Fin 128 → Fin 128 → EReal) (s : Fin 512 → EReal)
    (wo : Fin 1024 → Fin 1024 → EReal) (g₂ : Fin 1024 → EReal) (w₁ : Fin 1024 → Fin 4096 → EReal)
    (w₂ : Fin 4096 → Fin 1024 → EReal) (gf : Fin 1024 → EReal) : Fin 1024 → EReal :=
  let h := resid x (mixed p a w s) wo
  rms (ffn h (act (rms h g₂) w₁) w₂) gf

theorem finish_congr {x x' : Fin 1024 → EReal} {p p' a a' : Fin 512 → EReal} {w w' : Fin 4 → Fin 128 → Fin 128 → EReal}
    {s s' : Fin 512 → EReal} {wo wo' : Fin 1024 → Fin 1024 → EReal} {g₂ g₂' : Fin 1024 → EReal}
    {w₁ w₁' : Fin 1024 → Fin 4096 → EReal} {w₂ w₂' : Fin 4096 → Fin 1024 → EReal} {gf gf' : Fin 1024 → EReal}
    (hx : ∀ k, x k = x' k) (hp : ∀ k, p k = p' k) (ha : ∀ k, a k = a' k) (hw : ∀ g i j, w g i j = w' g i j)
    (hs : ∀ k, s k = s' k) (hwo : ∀ k j, wo k j = wo' k j) (hg₂ : ∀ k, g₂ k = g₂' k) (hw₁ : ∀ k j, w₁ k j = w₁' k j)
    (hw₂ : ∀ k j, w₂ k j = w₂' k j) (hgf : ∀ k, gf k = gf' k) (j : Fin 1024) :
    finish x p a w s wo g₂ w₁ w₂ gf j = finish x' p' a' w' s' wo' g₂' w₁' w₂' gf' j := by
  rw [funext hx, funext hp, funext ha, funext fun g => funext fun i => funext (hw g i), funext hs,
    funext fun k => funext (hwo k), funext hg₂, funext fun k => funext (hw₁ k), funext fun k => funext (hw₂ k), funext hgf]

/-- The sequence and the position within it of a flattened token. -/
def seqOf (i : Fin 16384) : Fin 2 := ⟨i / 8192, by omega⟩
@[inherit_doc seqOf] def posOf (i : Fin 16384) : Fin 8192 := ⟨i % 8192, by omega⟩

/-- One column of the input projection of a normalised row. -/
def proj (x g w : Fin 1024 → EReal) : EReal := ∑ k, rms x g k * w k

theorem proj_congr {x x' g g' w w' : Fin 1024 → EReal} (hx : ∀ k, x k = x' k) (hg : ∀ k, g k = g' k) (hw : ∀ k, w k = w' k) :
    proj x g w = proj x' g' w' := by
  rw [funext hx, funext hg, funext hw]

/-- A sum over the 4096 hidden units is the sum of its four quarters, from the left. -/
theorem sum_quarters (F : Fin 4096 → EReal) :
    ∑ f, F f = ∑ x : Fin 1024, F ⟨x, by omega⟩ + ∑ x : Fin 1024, F ⟨1024 + x, by omega⟩
      + ∑ x : Fin 1024, F ⟨2048 + x, by omega⟩ + ∑ x : Fin 1024, F ⟨3072 + x, by omega⟩ := by
  have e : ∑ f, F f = ∑ f : Fin (1024 + 1024 + 1024 + 1024), F ⟨f, f.isLt⟩ := rfl
  rw [e, Fin.sum_univ_add, Fin.sum_univ_add, Fin.sum_univ_add]
  rfl

end Cert.Rows

end
-- ==== Proof.FinishBlock.lean ====
/-
  What the finishing kernel's body leaves in its output block: row `r` is `Rows.finish` of row `r` of the input blocks
  and of the weights.
-/
module

public import proofs.«01_k».proof.Proof.Gen.FinishIdeal.Frame
public import proofs.«01_k».proof.Proof.Rows
public import Idealize.ShloMosaic.Lib.Pipeline.Value

@[expose] public section

set_option maxRecDepth 16384

noncomputable section

namespace Cert.FinishIdeal.Block

open Cert.FinishIdeal Cert.FinishIdeal.Gen Cert.Rows Idealize.ShloMosaic

section
variable (x0 : Vec Ideal S256x1024 .f32) (x1 x2 : Vec Ideal S256x512 .bf16) (x3 : Vec Ideal S4x128x128 .bf16)
  (x4 : Vec Ideal S1x512 .f32) (x5 : Vec Ideal S1024x1024 .bf16) (x6 : Vec Ideal S1x1024 .f32)
  (x7 : Vec Ideal S1024x4096 .bf16) (x8 : Vec Ideal S4096x1024 .bf16) (x9 : Vec Ideal S1x1024 .f32) (r : Fin 256)

/-- The mixers' row. -/
abbrev mixRow : Fin 1024 → EReal :=
  mixed (fun k => x1 (ix2 r k)) (fun k => x2 (ix2 r k)) (fun g a b => x3 (ix3 g a b)) (fun k => x4 (ix2 0 k))

theorem pay7_apply (j : Fin 1024) :
    k0_pay7 x0 x1 x2 x3 x4 x5 x6 x7 x8 x9 (ix2 r j) = mixRow x1 x2 x3 x4 r j := by
  pointwise [k0_pay7, k0_pay1]
  rfl

/-- The residual row. -/
abbrev hRow : Fin 1024 → EReal :=
  resid (fun k => x0 (ix2 r k)) (mixRow x1 x2 x3 x4 r) (fun k j => x5 (ix2 k j))

theorem pay2_apply (j : Fin 1024) :
    k0_pay2 (k0_pay7 x0 x1 x2 x3 x4 x5 x6 x7 x8 x9) (View.ld x0 r0_10) (View.ld x5 r0_11) (ix2 r j)
      = hRow x0 x1 x2 x3 x4 x5 r j := by
  pointwise [k0_pay2]
  simp only [pay7_apply]
  rfl

/-- The normalised residual row. -/
abbrev nRow : Fin 1024 → EReal := rms (hRow x0 x1 x2 x3 x4 x5 r) (fun k => x6 (ix2 0 k))

theorem pay3_apply (j : Fin 1024) :
    k0_pay3 (k0_pay7 x0 x1 x2 x3 x4 x5 x6 x7 x8 x9) (View.ld x0 r0_10) (View.ld x5 r0_11) (View.ld x6 r0_12) (ix2 r j)
      = nRow x0 x1 x2 x3 x4 x5 x6 r j := by
  pointwise [k0_pay3]
  simp only [pay2_apply]
  rfl

/-- The hidden row. -/
abbrev aRow : Fin 4096 → EReal := act (nRow x0 x1 x2 x3 x4 x5 x6 r) (fun k f => x7 (ix2 k f))

theorem pay4_apply (j : Fin 1024) :
    k0_pay4 (k0_pay7 x0 x1 x2 x3 x4 x5 x6 x7 x8 x9) (View.ld x0 r0_10) (View.ld x5 r0_11) (View.ld x6 r0_12)
        (View.ld x7 r0_13) (View.ld x8 r0_14) (ix2 r j)
      = hRow x0 x1 x2 x3 x4 x5 r j
        + ∑ x : Fin 1024, aRow x0 x1 x2 x3 x4 x5 x6 x7 r ⟨x, by omega⟩ * x8 (ix2 ⟨x, by omega⟩ j) := by
  pointwise [k0_pay4]
  simp only [pay2_apply, pay3_apply]
  rfl

theorem pay5_apply (j : Fin 1024) :
    k0_pay5 (k0_pay7 x0 x1 x2 x3 x4 x5 x6 x7 x8 x9) (View.ld x0 r0_10) (View.ld x5 r0_11) (View.ld x6 r0_12)
        (View.ld x7 r0_15) (ix2 r j)
      = aRow x0 x1 x2 x3 x4 x5 x6 x7 r ⟨1024 + j, by omega⟩ := by
  pointwise [k0_pay5]
  simp only [pay3_apply]
  rfl

/-- The residual row after the feed-forward block, the hidden units taken in four quarters. -/
def quart (j : Fin 1024) : EReal :=
  hRow x0 x1 x2 x3 x4 x5 r j
    + ∑ x : Fin 1024, aRow x0 x1 x2 x3 x4 x5 x6 x7 r ⟨x, by omega⟩ * x8 (ix2 ⟨x, by omega⟩ j)
    + ∑ x : Fin 1024, aRow x0 x1 x2 x3 x4 x5 x6 x7 r ⟨1024 + x, by omega⟩ * x8 (ix2 ⟨1024 + x, by omega⟩ j)
    + ∑ x : Fin 1024, aRow x0 x1 x2 x3 x4 x5 x6 x7 r ⟨2048 + x, by omega⟩ * x8 (ix2 ⟨2048 + x, by omega⟩ j)
    + ∑ x : Fin 1024, aRow x0 x1 x2 x3 x4 x5 x6 x7 r ⟨3072 + x, by omega⟩ * x8 (ix2 ⟨3072 + x, by omega⟩ j)

theorem quart_eq (j : Fin 1024) : quart x0 x1 x2 x3 x4 x5 x6 x7 x8 r j
      = ffn (hRow x0 x1 x2 x3 x4 x5 r) (aRow x0 x1 x2 x3 x4 x5 x6 x7 r) (fun f j => x8 (ix2 f j)) j := by
  unfold quart ffn
  rw [sum_quarters]
  simp only [add_assoc]

/-- The body's output block, row by row. -/
theorem out_apply (j : Fin 1024) :
    out0_10 x0 x1 x2 x3 x4 x5 x6 x7 x8 x9 (ix2 r j)
      = finish (fun k => x0 (ix2 r k)) (fun k => x1 (ix2 r k)) (fun k => x2 (ix2 r k)) (fun g a b => x3 (ix3 g a b))
          (fun k => x4 (ix2 0 k)) (fun k j => x5 (ix2 k j)) (fun k => x6 (ix2 0 k)) (fun k f => x7 (ix2 k f))
          (fun f j => x8 (ix2 f j)) (fun k => x9 (ix2 0 k)) j := by
  have hz : (![0, 0] : Fin 2 → Nat) = fun _ => 0 := funext fun a => by fin_cases a <;> rfl
  unfold out0_10
  rw [View.canon_unit_zero hz]
  pointwise [k0_pay6]
  simp only [pay3_apply, pay4_apply, pay5_apply]
  have q := quart_eq x0 x1 x2 x3 x4 x5 x6 x7 x8 r
  show quart x0 x1 x2 x3 x4 x5 x6 x7 x8 r j
      * Ideal.rsqrt (Ideal.div (∑ k, quart x0 x1 x2 x3 x4 x5 x6 x7 x8 r k * quart x0 x1 x2 x3 x4 x5 x6 x7 x8 r k)
          (Ideal.ofBits .f32 1149239296#32) + Ideal.ofBits .f32 897988541#32) * x9 (ix2 0 j) = _
  simp only [q]
  rfl

end

end Cert.FinishIdeal.Block

end
-- ==== Proof.FinishArr.lean ====
/-
  The finishing call as a whole: what the host lays out in front of the region, what each grid point's blocks are of it,
  and so what the result array holds, `Rows.finish` of every token.
-/
module

public import proofs.«01_k».proof.Proof.FinishBlock
public import proofs.«01_k».proof.Proof.Gen.FinishIdeal.Value
public import Idealize.ShloMosaic.Lib.StableHlo.Run
public import Idealize.ShloMosaic.Lib.Pipeline.Value

@[expose] public section

set_option maxRecDepth 16384

noncomputable section

namespace Cert.FinishIdeal.Arr

open Cert.FinishIdeal Cert.FinishIdeal.Gen Cert.Rows Idealize.ShloMosaic Idealize.ShloMosaic.TcCoe

variable (m : (ℓ : Loc nD τ sig) → Buf (Elt Ideal) ℓ) (c : Dev nD)

/-! ## The arrays at the region's entry, read at an index -/

theorem v13_eq : V m c main_v13 = (shapeCast S16384x1024 (m ((c : Thread nD τ).loc main_arg0)) shapeCasts_S2x8192x1024_S16384x1024) := by
  show StableHlo.after hostOps0 (fun b => m (c, b)) (Proc.devRef .tc main_v13) = _
  simp only [hostOps0]
  after_results_simp
  rfl

theorem v13_apply (i : Fin 16384) (k : Fin 1024) : V m c main_v13 (ix2 i k) = m ((c : Thread nD τ).loc main_arg0) (ix3 (seqOf i) (posOf i) k) := by
  rw [v13_eq]
  exact shapeCast_apply _ shapeCasts_S2x8192x1024_S16384x1024 _ _ (by
    rewrite [Shape.rowMajor_val_three, Shape.rowMajor_val_two]
    show ((i : Nat) / 8192 * 8192 + i % 8192) * 1024 + k = i * 1024 + k
    omega)

theorem v15_eq : V m c main_v15 = (truncf .bf16 (shapeCast S16384x512 (m ((c : Thread nD τ).loc main_arg1)) shapeCasts_S2x8192x512_S16384x512) bitsLt_bf16_f32 : FVec Ideal S16384x512 .bf16) := by
  show StableHlo.after hostOps0 (fun b => m (c, b)) (Proc.devRef .tc main_v15) = _
  simp only [hostOps0]
  after_results_simp
  rfl

theorem v15_apply (i : Fin 16384) (k : Fin 512) : V m c main_v15 (ix2 i k) = m ((c : Thread nD τ).loc main_arg1) (ix3 (seqOf i) (posOf i) k) := by
  rw [v15_eq]
  exact shapeCast_apply _ shapeCasts_S2x8192x512_S16384x512 _ _ (by
    rewrite [Shape.rowMajor_val_three, Shape.rowMajor_val_two]
    show ((i : Nat) / 8192 * 8192 + i % 8192) * 512 + k = i * 512 + k
    omega)

theorem v17_eq : V m c main_v17 = (truncf .bf16 (shapeCast S16384x512 (m ((c : Thread nD τ).loc main_arg2)) shapeCasts_S2x8192x512_S16384x512) bitsLt_bf16_f32 : FVec Ideal S16384x512 .bf16) := by
  show StableHlo.after hostOps0 (fun b => m (c, b)) (Proc.devRef .tc main_v17) = _
  simp only [hostOps0]
  after_results_simp
  rfl

theorem v17_apply (i : Fin 16384) (k : Fin 512) : V m c main_v17 (ix2 i k) = m ((c : Thread nD τ).loc main_arg2) (ix3 (seqOf i) (posOf i) k) := by
  rw [v17_eq]
  exact shapeCast_apply _ shapeCasts_S2x8192x512_S16384x512 _ _ (by
    rewrite [Shape.rowMajor_val_three, Shape.rowMajor_val_two]
    show ((i : Nat) / 8192 * 8192 + i % 8192) * 512 + k = i * 512 + k
    omega)

theorem v1_eq : V m c main_v1 = (truncf .bf16 (shapeCast S4x128x128 (m ((c : Thread nD τ).loc main_arg3)) shapeCasts_S1x4x128x128_S4x128x128) bitsLt_bf16_f32 : FVec Ideal S4x128x128 .bf16) := by
  show StableHlo.after hostOps0 (fun b => m (c, b)) (Proc.devRef .tc main_v1) = _
  simp only [hostOps0]
  after_results_simp
  rfl

theorem v1_apply (g : Fin 4) (a b : Fin 128) : V m c main_v1 (ix3 g a b) = m ((c : Thread nD τ).loc main_arg3) (ix4 0 g a b) := by
  rw [v1_eq]
  exact shapeCast_apply _ shapeCasts_S1x4x128x128_S4x128x128 _ _ (by
    rewrite [Shape.rowMajor_val_four, Shape.rowMajor_val_three]
    simp [ix1, ix2, ix3, ix4])

theorem v12_eq : V m c main_v12 = (shapeCast S1x512 (shapeCast S512 (m ((c : Thread nD τ).loc main_arg4)) shapeCasts_S1x512_S512) shapeCasts_S512_S1x512) := by
  show StableHlo.after hostOps0 (fun b => m (c, b)) (Proc.devRef .tc main_v12) = _
  simp only [hostOps0]
  after_results_simp
  rfl

theorem v12_apply (k : Fin 512) : V m c main_v12 (ix2 0 k) = m ((c : Thread nD τ).loc main_arg4) (ix2 0 k) := by
  rw [v12_eq]
  exact (shapeCast_apply _ shapeCasts_S512_S1x512 _ (ix1 k) (by
      rewrite [Shape.rowMajor_val_one, Shape.rowMajor_val_two]
      simp [ix1, ix2])).trans
    (shapeCast_apply _ shapeCasts_S1x512_S512 _ _ (by
      rewrite [Shape.rowMajor_val_two, Shape.rowMajor_val_one]
      simp [ix1, ix2]))

theorem v3_eq : V m c main_v3 = (truncf .bf16 (shapeCast S1024x1024 (m ((c : Thread nD τ).loc main_arg5)) shapeCasts_S1x1024x1024_S1024x1024) bitsLt_bf16_f32 : FVec Ideal S1024x1024 .bf16) := by
  show StableHlo.after hostOps0 (fun b => m (c, b)) (Proc.devRef .tc main_v3) = _
  simp only [hostOps0]
  after_results_simp
  rfl

theorem v3_apply (a b : Fin 1024) : V m c main_v3 (ix2 a b) = m ((c : Thread nD τ).loc main_arg5) (ix3 0 a b) := by
  rw [v3_eq]
  exact shapeCast_apply _ shapeCasts_S1x1024x1024_S1024x1024 _ _ (by
    rewrite [Shape.rowMajor_val_three, Shape.rowMajor_val_two]
    simp [ix1, ix2, ix3, ix4])

theorem v9_eq : V m c main_v9 = (shapeCast S1x1024 (shapeCast S1024 (m ((c : Thread nD τ).loc main_arg6)) shapeCasts_S1x1024_S1024) shapeCasts_S1024_S1x1024) := by
  show StableHlo.after hostOps0 (fun b => m (c, b)) (Proc.devRef .tc main_v9) = _
  simp only [hostOps0]
  after_results_simp
  rfl

theorem v9_apply (k : Fin 1024) : V m c main_v9 (ix2 0 k) = m ((c : Thread nD τ).loc main_arg6) (ix2 0 k) := by
  rw [v9_eq]
  exact (shapeCast_apply _ shapeCasts_S1024_S1x1024 _ (ix1 k) (by
      rewrite [Shape.rowMajor_val_one, Shape.rowMajor_val_two]
      simp [ix1, ix2])).trans
    (shapeCast_apply _ shapeCasts_S1x1024_S1024 _ _ (by
      rewrite [Shape.rowMajor_val_two, Shape.rowMajor_val_one]
      simp [ix1, ix2]))

theorem v5_eq : V m c main_v5 = (truncf .bf16 (shapeCast S1024x4096 (m ((c : Thread nD τ).loc main_arg7)) shapeCasts_S1x1024x4096_S1024x4096) bitsLt_bf16_f32 : FVec Ideal S1024x4096 .bf16) := by
  show StableHlo.after hostOps0 (fun b => m (c, b)) (Proc.devRef .tc main_v5) = _
  simp only [hostOps0]
  after_results_simp
  rfl

theorem v5_apply (a : Fin 1024) (b : Fin 4096) : V m c main_v5 (ix2 a b) = m ((c : Thread nD τ).loc main_arg7) (ix3 0 a b) := by
  rw [v5_eq]
  exact shapeCast_apply _ shapeCasts_S1x1024x4096_S1024x4096 _ _ (by
    rewrite [Shape.rowMajor_val_three, Shape.rowMajor_val_two]
    simp [ix1, ix2, ix3, ix4])

theorem v7_eq : V m c main_v7 = (truncf .bf16 (shapeCast S4096x1024 (m ((c : Thread nD τ).loc main_arg8)) shapeCasts_S1x4096x1024_S4096x1024) bitsLt_bf16_f32 : FVec Ideal S4096x1024 .bf16) := by
  show StableHlo.after hostOps0 (fun b => m (c, b)) (Proc.devRef .tc main_v7) = _
  simp only [hostOps0]
  after_results_simp
  rfl

theorem v7_apply (a : Fin 4096) (b : Fin 1024) : V m c main_v7 (ix2 a b) = m ((c : Thread nD τ).loc main_arg8) (ix3 0 a b) := by
  rw [v7_eq]
  exact shapeCast_apply _ shapeCasts_S1x4096x1024_S4096x1024 _ _ (by
    rewrite [Shape.rowMajor_val_three, Shape.rowMajor_val_two]
    simp [ix1, ix2, ix3, ix4])

theorem v10_eq : V m c main_v10 = (shapeCast S1x1024 (m ((c : Thread nD τ).loc main_arg9)) shapeCasts_S1024_S1x1024) := by
  show StableHlo.after hostOps0 (fun b => m (c, b)) (Proc.devRef .tc main_v10) = _
  simp only [hostOps0]
  after_results_simp
  rfl

theorem v10_apply (k : Fin 1024) : V m c main_v10 (ix2 0 k) = m ((c : Thread nD τ).loc main_arg9) (ix1 k) := by
  rw [v10_eq]
  exact shapeCast_apply _ shapeCasts_S1024_S1x1024 _ _ (by
    rewrite [Shape.rowMajor_val_one, Shape.rowMajor_val_two]
    simp [ix1, ix2, ix3, ix4])

/-! ## The blocks of a grid point -/

theorem index0 : ∀ t : Fin cfg0.N, win0_0.index t 0 = t.val ∧ win0_0.index t 1 = 0 :=
  (by decide +kernel : ∀ t : Fin grid0.N, win0_0.index t 0 = t.val ∧ win0_0.index t 1 = 0)

theorem blk0 (t : Fin cfg0.N) (r : Fin 256) (k : Fin 1024) (h : t.val * 256 + r < 16384) :
    iblk m c 0 t (ix2 r k) = V m c main_v13 (ix2 ⟨t.val * 256 + r, h⟩ k) := by
  refine congrArg (V m c main_v13) (funext fun a => Fin.ext ?_)
  match a with
  | ⟨0, _⟩ => show win0_0.index t 0 * 256 + 1 * r.val = t.val * 256 + r; rw [(index0 t).1]; omega
  | ⟨1, _⟩ => show win0_0.index t 1 * 1024 + 1 * k.val = k; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

theorem blk1 (t : Fin cfg0.N) (r : Fin 256) (k : Fin 512) (h : t.val * 256 + r < 16384) :
    iblk m c 1 t (ix2 r k) = V m c main_v15 (ix2 ⟨t.val * 256 + r, h⟩ k) := by
  refine congrArg (V m c main_v15) (funext fun a => Fin.ext ?_)
  match a with
  | ⟨0, _⟩ => show win0_1.index t 0 * 256 + 1 * r.val = t.val * 256 + r; rw [(index1 t).1]; omega
  | ⟨1, _⟩ => show win0_1.index t 1 * 512 + 1 * k.val = k; rw [(index1 t).2]; omega

theorem index2 : ∀ t : Fin cfg0.N, win0_2.index t 0 = t.val ∧ win0_2.index t 1 = 0 :=
  (by decide +kernel : ∀ t : Fin grid0.N, win0_2.index t 0 = t.val ∧ win0_2.index t 1 = 0)

theorem blk2 (t : Fin cfg0.N) (r : Fin 256) (k : Fin 512) (h : t.val * 256 + r < 16384) :
    iblk m c 2 t (ix2 r k) = V m c main_v17 (ix2 ⟨t.val * 256 + r, h⟩ k) := by
  refine congrArg (V m c main_v17) (funext fun a => Fin.ext ?_)
  match a with
  | ⟨0, _⟩ => show win0_2.index t 0 * 256 + 1 * r.val = t.val * 256 + r; rw [(index2 t).1]; omega
  | ⟨1, _⟩ => show win0_2.index t 1 * 512 + 1 * k.val = k; rw [(index2 t).2]; omega

theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem blk3 (t : Fin cfg0.N) (a : Fin 4) (b : Fin 128) (d : Fin 128) : iblk m c 3 t (ix3 a b d) = V m c main_v1 (ix3 a b d) := by
  refine congrArg (V m c main_v1) (funext fun x => Fin.ext ?_)
  match x with
  | ⟨0, _⟩ => show win0_3.index t 0 * 4 + 1 * a.val = a; rw [(index3 t).1]; omega
  | ⟨1, _⟩ => show win0_3.index t 1 * 128 + 1 * b.val = b; rw [(index3 t).2.1]; omega
  | ⟨2, _⟩ => show win0_3.index t 2 * 128 + 1 * d.val = d; rw [(index3 t).2.2]; omega

theorem index4 : ∀ t : Fin cfg0.N, win0_4.index t 0 = 0 ∧ win0_4.index t 1 = 0 :=
  (by decide +kernel : ∀ t : Fin grid0.N, win0_4.index t 0 = 0 ∧ win0_4.index t 1 = 0)

theorem blk4 (t : Fin cfg0.N) (a : Fin 1) (b : Fin 512) : iblk m c 4 t (ix2 a b) = V m c main_v12 (ix2 a b) := by
  refine congrArg (V m c main_v12) (funext fun x => Fin.ext ?_)
  match x with
  | ⟨0, _⟩ => show win0_4.index t 0 * 1 + 1 * a.val = a; rw [(index4 t).1]; omega
  | ⟨1, _⟩ => show win0_4.index t 1 * 512 + 1 * b.val = b; rw [(index4 t).2]; omega

theorem index5 : ∀ t : Fin cfg0.N, win0_5.index t 0 = 0 ∧ win0_5.index t 1 = 0 :=
  (by decide +kernel : ∀ t : Fin grid0.N, win0_5.index t 0 = 0 ∧ win0_5.index t 1 = 0)

theorem blk5 (t : Fin cfg0.N) (a : Fin 1024) (b : Fin 1024) : iblk m c 5 t (ix2 a b) = V m c main_v3 (ix2 a b) := by
  refine congrArg (V m c main_v3) (funext fun x => Fin.ext ?_)
  match x with
  | ⟨0, _⟩ => show win0_5.index t 0 * 1024 + 1 * a.val = a; rw [(index5 t).1]; omega
  | ⟨1, _⟩ => show win0_5.index t 1 * 1024 + 1 * b.val = b; rw [(index5 t).2]; omega

theorem index6 : ∀ t : Fin cfg0.N, win0_6.index t 0 = 0 ∧ win0_6.index t 1 = 0 :=
  (by decide +kernel : ∀ t : Fin grid0.N, win0_6.index t 0 = 0 ∧ win0_6.index t 1 = 0)

theorem blk6 (t : Fin cfg0.N) (a : Fin 1) (b : Fin 1024) : iblk m c 6 t (ix2 a b) = V m c main_v9 (ix2 a b) := by
  refine congrArg (V m c main_v9) (funext fun x => Fin.ext ?_)
  match x with
  | ⟨0, _⟩ => show win0_6.index t 0 * 1 + 1 * a.val = a; rw [(index6 t).1]; omega
  | ⟨1, _⟩ => show win0_6.index t 1 * 1024 + 1 * b.val = b; rw [(index6 t).2]; omega

theorem index7 : ∀ t : Fin cfg0.N, win0_7.index t 0 = 0 ∧ win0_7.index t 1 = 0 :=
  (by decide +kernel : ∀ t : Fin grid0.N, win0_7.index t 0 = 0 ∧ win0_7.index t 1 = 0)

theorem blk7 (t : Fin cfg0.N) (a : Fin 1024) (b : Fin 4096) : iblk m c 7 t (ix2 a b) = V m c main_v5 (ix2 a b) := by
  refine congrArg (V m c main_v5) (funext fun x => Fin.ext ?_)
  match x with
  | ⟨0, _⟩ => show win0_7.index t 0 * 1024 + 1 * a.val = a; rw [(index7 t).1]; omega
  | ⟨1, _⟩ => show win0_7.index t 1 * 4096 + 1 * b.val = b; rw [(index7 t).2]; omega

theorem index8 : ∀ t : Fin cfg0.N, win0_8.index t 0 = 0 ∧ win0_8.index t 1 = 0 :=
  (by decide +kernel : ∀ t : Fin grid0.N, win0_8.index t 0 = 0 ∧ win0_8.index t 1 = 0)

theorem blk8 (t : Fin cfg0.N) (a : Fin 4096) (b : Fin 1024) : iblk m c 8 t (ix2 a b) = V m c main_v7 (ix2 a b) := by
  refine congrArg (V m c main_v7) (funext fun x => Fin.ext ?_)
  match x with
  | ⟨0, _⟩ => show win0_8.index t 0 * 4096 + 1 * a.val = a; rw [(index8 t).1]; omega
  | ⟨1, _⟩ => show win0_8.index t 1 * 1024 + 1 * b.val = b; rw [(index8 t).2]; omega

theorem index9 : ∀ t : Fin cfg0.N, win0_9.index t 0 = 0 ∧ win0_9.index t 1 = 0 :=
  (by decide +kernel : ∀ t : Fin grid0.N, win0_9.index t 0 = 0 ∧ win0_9.index t 1 = 0)

theorem blk9 (t : Fin cfg0.N) (a : Fin 1) (b : Fin 1024) : iblk m c 9 t (ix2 a b) = V m c main_v10 (ix2 a b) := by
  refine congrArg (V m c main_v10) (funext fun x => Fin.ext ?_)
  match x with
  | ⟨0, _⟩ => show win0_9.index t 0 * 1 + 1 * a.val = a; rw [(index9 t).1]; omega
  | ⟨1, _⟩ => show win0_9.index t 1 * 1024 + 1 * b.val = b; rw [(index9 t).2]; omega

/-! ## The result array -/

/-- The result at a flattened token: the finishing arithmetic of that token's rows. -/
def row (i : Fin 16384) (j : Fin 1024) : EReal :=
  finish (fun k => m ((c : Thread nD τ).loc main_arg0) (ix3 (seqOf i) (posOf i) k))
    (fun k => m ((c : Thread nD τ).loc main_arg1) (ix3 (seqOf i) (posOf i) k))
    (fun k => m ((c : Thread nD τ).loc main_arg2) (ix3 (seqOf i) (posOf i) k))
    (fun g a b => m ((c : Thread nD τ).loc main_arg3) (ix4 0 g a b)) (fun k => m ((c : Thread nD τ).loc main_arg4) (ix2 0 k))
    (fun k j => m ((c : Thread nD τ).loc main_arg5) (ix3 0 k j)) (fun k => m ((c : Thread nD τ).loc main_arg6) (ix2 0 k))
    (fun k f => m ((c : Thread nD τ).loc main_arg7) (ix3 0 k f)) (fun f j => m ((c : Thread nD τ).loc main_arg8) (ix3 0 f j))
    (fun k => m ((c : Thread nD τ).loc main_arg9) (ix1 k)) j

/-- and of all of them. -/
def result : Buf (Elt Ideal) ((c : Thread nD τ).loc main_v18) := fun (i : S16384x1024.Idx) => row m c (i 0) (i 1)

/-- The body's output at point `t`, row by row. -/
theorem out_eq (t : Fin cfg0.N) (r : Fin 256) (k : Fin 1024) (hr : t.val * 256 + r < 16384) :
    out0_10 (iblk m c 0 t) (iblk m c 1 t) (iblk m c 2 t) (iblk m c 3 t) (iblk m c 4 t) (iblk m c 5 t) (iblk m c 6 t)
      (iblk m c 7 t) (iblk m c 8 t) (iblk m c 9 t) (ix2 r k) = row m c ⟨t.val * 256 + r, hr⟩ k := by
  refine (Block.out_apply ..).trans ?_
  exact finish_congr
    (fun k => (blk0 m c t r k hr).trans (v13_apply m c _ k)) (fun k => (blk1 m c t r k hr).trans (v15_apply m c _ k))
    (fun k => (blk2 m c t r k hr).trans (v17_apply m c _ k)) (fun g i j => (blk3 m c t g i j).trans (v1_apply m c g i j))
    (fun k => (blk4 m c t 0 k).trans (v12_apply m c k)) (fun k j => (blk5 m c t k j).trans (v3_apply m c k j))
    (fun k => (blk6 m c t 0 k).trans (v9_apply m c k)) (fun k j => (blk7 m c t k j).trans (v5_apply m c k j))
    (fun k j => (blk8 m c t k j).trans (v7_apply m c k j)) (fun k => (blk9 m c t 0 k).trans (v10_apply m c k)) k

theorem index10 : ∀ t : Fin cfg0.N, win0_10.index t 0 = t.val ∧ win0_10.index t 1 = 0 :=
  (by decide +kernel : ∀ t : Fin grid0.N, win0_10.index t 0 = t.val ∧ win0_10.index t 1 = 0)

/-- What point `t` writes back is rows `256 t .. 256 t + 255` of `result`. -/
theorem flushed_eq (t : Fin cfg0.N) :
    (dats m 0 c).flushed 10 t = (win0_10.blk t).view.read (Elt Ideal) (result m c) := by
  rw [Value.flushed10]
  have ht : t.val < 64 := lt_of_lt_of_eq t.isLt N_0
  funext y
  obtain ⟨r, k, rfl⟩ : ∃ (r : Fin 256) (k : Fin 1024), y = ix2 r k := ⟨y 0, y 1, eq_ix2 y⟩
  have hr : t.val * 256 + r.val < 16384 := by have := r.isLt; omega
  have e : (win0_10.blk t).view.read (Elt Ideal) (result m c) (ix2 r k) = result m c (ix2 ⟨t.val * 256 + r, hr⟩ k) := by
    refine congrArg (result m c) (funext fun a => Fin.ext ?_)
    match a with
    | ⟨0, _⟩ => show win0_10.index t 0 * 256 + 1 * r.val = t.val * 256 + r; rw [(index10 t).1]; omega
    | ⟨1, _⟩ => show win0_10.index t 1 * 1024 + 1 * k.val = k; rw [(index10 t).2]; omega
  exact (out_eq m c t r k hr).trans e.symm

theorem mem_blk (t : Fin cfg0.N) (i : S16384x1024.Idx) :
    i ∈ ((cfg0.win 10).blk t).view.set ↔ t.val * 256 ≤ (i 0 : Nat) ∧ (i 0 : Nat) < t.val * 256 + 256 := by
  show i ∈ ((View.whole main_v18).slice (win0_10.rect t)).set ↔ _
  rw [View.set_slice_whole, Rect.mem_set_unit]
  have h1 : (i 1 : Nat) < 1024 := (i 1).isLt
  refine ⟨fun h => ?_, fun h a => ?_⟩
  · have : win0_10.index t 0 * 256 ≤ (i 0 : Nat) ∧ (i 0 : Nat) < win0_10.index t 0 * 256 + 256 := h 0
    rw [(index10 t).1] at this; exact this
  · match a with
    | ⟨0, _⟩ => show win0_10.index t 0 * 256 ≤ (i 0 : Nat) ∧ (i 0 : Nat) < win0_10.index t 0 * 256 + 256
                rw [(index10 t).1]; exact h
    | ⟨1, _⟩ => show win0_10.index t 1 * 1024 ≤ (i 1 : Nat) ∧ (i 1 : Nat) < win0_10.index t 1 * 1024 + 1024
                rw [(index10 t).2, Nat.zero_mul, Nat.zero_add]; exact ⟨Nat.zero_le _, h1⟩

/-- Every row lies in the block of the point that is its number over 256. -/
theorem cover (i : S16384x1024.Idx) :
    ∃ t : Fin cfg0.N, (cfg0.win 10).flush t = true ∧ i ∈ ((cfg0.win 10).blk t).view.set := by
  have h0 : (i 0 : Nat) < 16384 := (i 0).isLt
  have hN : cfg0.N = 64 := N_0
  refine ⟨⟨(i 0 : Nat) / 256, by omega⟩, flush0_10 _, ?_⟩
  rw [mem_blk]
  dsimp only
  omega

theorem final_eq : (dats m 0 c).arrAt 10 cfg0.N = result m c :=
  (dats m 0 c).arrAt_eq_of_cover 10 (result m c) (fun t _ => flushed_eq m c t) cover

end Cert.FinishIdeal.Arr

end
-- ==== Proof.FinishRef.lean ====
/-
  The reference of the finishing call, stage by stage: token `s` of sequence `b` comes out as `Rows.finish` of that
  token's rows and the weights.
-/
module

public import proofs.«01_k».proof.Proof.Gen.FinishRefIdeal.Read
public import proofs.«01_k».proof.Proof.Rows

@[expose] public section

set_option maxRecDepth 16384

noncomputable section

namespace Cert.FinishRefIdeal.RowsOf

open Cert.FinishRefIdeal Cert.FinishRefIdeal.Read Cert.Rows Idealize.ShloMosaic

section
variable (x0 : (⟨S2x8192x1024, .f32⟩ : BufTy).Contents (Elt Ideal)) (x1 x2 : (⟨S2x8192x512, .f32⟩ : BufTy).Contents (Elt Ideal))
  (x3 : (⟨S1x4x128x128, .f32⟩ : BufTy).Contents (Elt Ideal)) (x4 : (⟨S1x512, .f32⟩ : BufTy).Contents (Elt Ideal))
  (x5 : (⟨S1x1024x1024, .f32⟩ : BufTy).Contents (Elt Ideal)) (x6 : (⟨S1x1024, .f32⟩ : BufTy).Contents (Elt Ideal))
  (x7 : (⟨S1x1024x4096, .f32⟩ : BufTy).Contents (Elt Ideal)) (x8 : (⟨S1x4096x1024, .f32⟩ : BufTy).Contents (Elt Ideal))
  (x9 : (⟨S1024, .f32⟩ : BufTy).Contents (Elt Ideal)) (b : Fin 2) (s : Fin 8192)

/-- The mixers' row. -/
abbrev mixRow : Fin 1024 → EReal :=
  mixed (fun k => x1 (ix3 b s k)) (fun k => x2 (ix3 b s k)) (fun g a c => x3 (ix4 0 g a c)) (fun k => x4 (ix2 0 k))

theorem v21_apply (j : Fin 1024) :
    val_main_v21 (F := Ideal) x1 x2 x3 x4 (ix3 b s j) = mixRow x1 x2 x3 x4 b s j := by
  pointwise [val_main_v21, val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0]
  rfl

/-- The residual row. -/
abbrev hRow : Fin 1024 → EReal :=
  resid (fun k => x0 (ix3 b s k)) (mixRow x1 x2 x3 x4 b s) (fun k j => x5 (ix3 0 k j))

theorem v24_apply (j : Fin 1024) :
    val_main_v24 (F := Ideal) x0 x1 x2 x3 x4 x5 (ix3 b s j) = hRow x0 x1 x2 x3 x4 x5 b s j := by
  pointwise [val_main_v24, val_main_v23, val_main_v22]
  simp only [v21_apply]
  rfl

/-- The normalised residual row. -/
abbrev nRow : Fin 1024 → EReal := rms (hRow x0 x1 x2 x3 x4 x5 b s) (fun k => x6 (ix2 0 k))

theorem v38_apply (j : Fin 1024) :
    val_main_v38 (F := Ideal) x0 x1 x2 x3 x4 x5 x6 (ix3 b s j) = nRow x0 x1 x2 x3 x4 x5 x6 b s j := by
  pointwise [val_main_v38, val_main_v37, val_main_v36, val_main_v35, val_main_v34, val_main_v33, val_main_v32, val_main_v31,
    val_main_v30, val_main_v29, val_main_v28, val_main_v27, val_main_v26, val_main_v25, val_main_cst, val_main_cst_0,
    val_main_cst_1]
  simp only [v24_apply]
  rfl

/-- The hidden row. -/
abbrev aRow : Fin 4096 → EReal := act (nRow x0 x1 x2 x3 x4 x5 x6 b s) (fun k f => x7 (ix3 0 k f))

theorem v42_apply (f : Fin 4096) :
    val_main_v42 (F := Ideal) x0 x1 x2 x3 x4 x5 x6 x7 (ix3 b s f) = aRow x0 x1 x2 x3 x4 x5 x6 x7 b s f := by
  pointwise [val_main_v42, val_main_v41, val_main_v40, val_main_v39, val_main_call0_v0, val_main_call0_cst]
  simp only [v38_apply]
  rfl

/-- The residual row after the feed-forward block. -/
abbrev yRow : Fin 1024 → EReal :=
  ffn (hRow x0 x1 x2 x3 x4 x5 b s) (aRow x0 x1 x2 x3 x4 x5 x6 x7 b s) (fun f j => x8 (ix3 0 f j))

theorem v45_apply (j : Fin 1024) :
    val_main_v45 (F := Ideal) x0 x1 x2 x3 x4 x5 x6 x7 x8 (ix3 b s j) = yRow x0 x1 x2 x3 x4 x5 x6 x7 x8 b s j := by
  pointwise [val_main_v45, val_main_v44, val_main_v43]
  simp only [v24_apply, v42_apply]
  rfl

theorem v58_apply (j : Fin 1024) :
    val_main_v58 (F := Ideal) x0 x1 x2 x3 x4 x5 x6 x7 x8 x9 (ix3 b s j)
      = rms (yRow x0 x1 x2 x3 x4 x5 x6 x7 x8 b s) (fun k => x9 (ix1 k)) j := by
  pointwise [val_main_v58, val_main_v57, val_main_v56, val_main_v55, val_main_v54, val_main_v53, val_main_v52, val_main_v51,
    val_main_v50, val_main_v49, val_main_v48, val_main_v47, val_main_v46, val_main_cst_2, val_main_cst_3, val_main_cst_4]
  simp only [v45_apply]
  rfl

/-- The reference's result at row `i` of the flattened tokens: sequence `i / 8192`, token `i % 8192`. -/
theorem result_apply (i : Fin 16384) (j : Fin 1024) :
    val_main_v59 (F := Ideal) x0 x1 x2 x3 x4 x5 x6 x7 x8 x9 (ix2 i j)
      = finish (fun k => x0 (ix3 (seqOf i) (posOf i) k))
          (fun k => x1 (ix3 (seqOf i) (posOf i) k))
          (fun k => x2 (ix3 (seqOf i) (posOf i) k))
          (fun g a c => x3 (ix4 0 g a c)) (fun k => x4 (ix2 0 k)) (fun k j => x5 (ix3 0 k j)) (fun k => x6 (ix2 0 k))
          (fun k f => x7 (ix3 0 k f)) (fun f j => x8 (ix3 0 f j)) (fun k => x9 (ix1 k)) j := by
  rw [val_main_v59_apply]
  have e : idx_main_v59 (ix2 i j) = ix3 (seqOf i) (posOf i) j := by
    funext a
    match a with
    | ⟨0, _⟩ => exact Fin.ext (show ((i : Nat) * 1024 + j) / 8388608 = i / 8192 by omega)
    | ⟨1, _⟩ => exact Fin.ext (show ((i : Nat) * 1024 + j) / 1024 % 8192 = i % 8192 by omega)
    | ⟨2, _⟩ => exact Fin.ext (show ((i : Nat) * 1024 + j) % 1024 = j by omega)
  rw [e, v58_apply]
  rfl

end

end Cert.FinishRefIdeal.RowsOf

end
-- ==== Proof.FinishClaim.lean ====
/-
  The finishing call against its reference: the same extended reals, the arguments unchanged.
-/
module

public import proofs.«01_k».proof.Defs
public import proofs.«01_k».proof.Proof.FinishArr
public import proofs.«01_k».proof.Proof.FinishRef
public import proofs.«01_k».proof.Proof.Gen.FinishRefIdeal.Run

@[expose] public section

set_option maxRecDepth 16384

noncomputable section

namespace Cert.FinishProof

open Idealize.ShloMosaic Idealize.ShloMosaic.TcCoe Idealize.SL.Sem

/-- `Finish` computes its reference over the extended reals. -/
theorem algebraic : Cert.algebraic_FinishIdeal_FinishRefIdeal := by
  intro m g m' g' _ hargs
  refine ⟨fun c => Cert.FinishIdeal.Arr.result m c, ?_, ?_⟩
  · exact (θ_run Cert.FinishIdeal.defs _ _).mono (fun r h c => ⟨(h c).1.trans (Cert.FinishIdeal.Arr.final_eq m c), (h c).2⟩)
      (Cert.FinishIdeal.Value.run_blocks m g)
  · refine (θ_run Cert.FinishRefIdeal.defs _ _).mono (fun r h c => ⟨(h c).1.trans ?_, (h c).2⟩) (Cert.FinishRefIdeal.Value.run m' g')
    rw [Cert.FinishRefIdeal.Read.val_main_v59_eq]
    obtain ⟨e0, e1, e2, e3, e4, e5, e6, e7, e8, e9⟩ := hargs c
    funext (i : Cert.FinishRefIdeal.S16384x1024.Idx)
    obtain ⟨a, j, rfl⟩ : ∃ (a : Fin 16384) (j : Fin 1024), i = ix2 a j := ⟨i 0, i 1, eq_ix2 i⟩
    refine (Cert.FinishRefIdeal.RowsOf.result_apply _ _ _ _ _ _ _ _ _ _ a j).trans ?_
    exact Cert.Rows.finish_congr (fun k => congrFun e0 _) (fun k => congrFun e1 _) (fun k => congrFun e2 _)
      (fun g i j => congrFun e3 _) (fun k => congrFun e4 _) (fun k j => congrFun e5 _) (fun k => congrFun e6 _)
      (fun k j => congrFun e7 _) (fun k j => congrFun e8 _) (fun k => congrFun e9 _) j

end Cert.FinishProof

end
-- ==== Proof.ProjBlock.lean ====
/-
  What the projection kernel's body leaves in the output blocks of the pooling input, the keys, the values and the
  indexer's keys: entries of the normalised row times the weight's columns, the last three transposed.
-/
module

public import proofs.«01_k».proof.Proof.Gen.ProjIdeal.Frame
public import proofs.«01_k».proof.Proof.Rows
public import Idealize.ShloMosaic.Lib.Pipeline.Value

@[expose] public section

set_option maxRecDepth 16384

noncomputable section

namespace Cert.ProjIdeal.Block

open Cert.ProjIdeal Cert.ProjIdeal.Gen Cert.Rows Idealize.ShloMosaic

section
variable (x0 : Vec Ideal S512x1024 .f32) (x1 : Vec Ideal S1x1024 .f32) (x2 : Vec Ideal S1024x2432 .bf16) (r : Fin 512)

theorem pay2_apply (j : Fin 2432) :
    k0_pay2 (View.ld x0 r0_0) (View.ld x1 r0_1) (View.ld x2 r0_2) (ix2 r j)
      = proj (fun k => x0 (ix2 r k)) (fun k => x1 (ix2 0 k)) (fun k => x2 (ix2 k j)) := by
  pointwise [k0_pay2]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The pooling input's block. -/
theorem out3_apply (j : Fin 512) :
    out0_3 x0 x1 x2 (ix2 r j)
      = proj (fun k => x0 (ix2 r k)) (fun k => x1 (ix2 0 k)) (fun k => x2 (ix2 k ⟨j, by omega⟩)) := by
  unfold out0_3
  rw [View.canon_unit_zero hz2]
  pointwise [k0_pay3]
  simp only [pay2_apply]

/-- The keys' block, transposed. -/
theorem out4_apply (j : Fin 512) :
    out0_4 x0 x1 x2 (ix3 0 j r)
      = proj (fun k => x0 (ix2 r k)) (fun k => x1 (ix2 0 k)) (fun k => x2 (ix2 k ⟨1024 + j, by omega⟩)) := by
  unfold out0_4
  rw [View.canon_unit_zero hz3]
  pointwise [k0_pay10, k0_pay5]
  simp only [pay2_apply]

/-- The values' block, transposed. -/
theorem out5_apply (j : Fin 512) :
    out0_5 x0 x1 x2 (ix3 0 j r)
      = proj (fun k => x0 (ix2 r k)) (fun k => x1 (ix2 0 k)) (fun k => x2 (ix2 k ⟨1536 + j, by omega⟩)) := by
  unfold out0_5
  rw [View.canon_unit_zero hz3]
  pointwise [k0_pay11, k0_pay18, k0_pay8]
  simp only [pay2_apply]

/-- The indexer's keys' block, transposed. -/
theorem out6_apply (j : Fin 64) :
    out0_6 x0 x1 x2 (ix3 0 j r)
      = proj (fun k => x0 (ix2 r k)) (fun k => x1 (ix2 0 k)) (fun k => x2 (ix2 k ⟨2304 + j, by omega⟩)) := by
  unfold out0_6
  rw [View.canon_unit_zero hz3]
  pointwise [k0_pay12, k0_pay19, k0_pay9, k0_pay7]
  simp only [pay2_apply]

end

end Cert.ProjIdeal.Block

end
-- ==== Proof.ProjArr.lean ====
/-
  The projection as a whole: what the host lays out in front of the region, what each grid point's blocks are of it, and so
  what the four result arrays hold.
-/
module

public import proofs.«01_k».proof.Proof.ProjBlock
public import proofs.«01_k».proof.Proof.Gen.ProjIdeal.Value
public import Idealize.ShloMosaic.Lib.StableHlo.Run
public import Idealize.ShloMosaic.Lib.Pipeline.Value

@[expose] public section

set_option maxRecDepth 16384

noncomputable section

namespace Cert.ProjIdeal.Arr

open Cert.ProjIdeal Cert.ProjIdeal.Gen Cert.Rows Idealize.ShloMosaic Idealize.ShloMosaic.TcCoe

variable (m : (ℓ : Loc nD τ sig) → Buf (Elt Ideal) ℓ) (c : Dev nD)

/-! ## The arrays at the region's entry, read at an index -/

theorem v5_eq : V m c main_v5 = shapeCast S16384x1024 (m ((c : Thread nD τ).loc main_arg0)) shapeCasts_S2x8192x1024_S16384x1024 := by
  show StableHlo.after _ (fun b => m (c, b)) (Proc.devRef .tc main_v5) = _
  simp only [hostOps0, hostOps0_1, hostOps0_2, List.flatten_cons, List.flatten_nil, List.append_nil, List.cons_append, List.nil_append]
  after_results_simp
  rfl

theorem v5_apply (i : Fin 16384) (k : Fin 1024) :
    V m c main_v5 (ix2 i k) = m ((c : Thread nD τ).loc main_arg0) (ix3 (seqOf i) (posOf i) k) := by
  rw [v5_eq]
  exact shapeCast_apply _ shapeCasts_S2x8192x1024_S16384x1024 _ _ (by
    rewrite [Shape.rowMajor_val_three, Shape.rowMajor_val_two]
    show ((i : Nat) / 8192 * 8192 + i % 8192) * 1024 + k = i * 1024 + k
    omega)

theorem v4_eq : V m c main_v4 = shapeCast S1x1024 (shapeCast S1024 (m ((c : Thread nD τ).loc main_arg1)) shapeCasts_S1x1024_S1024) shapeCasts_S1024_S1x1024 := by
  show StableHlo.after _ (fun b => m (c, b)) (Proc.devRef .tc main_v4) = _
  simp only [hostOps0, hostOps0_1, hostOps0_2, List.flatten_cons, List.flatten_nil, List.append_nil, List.cons_append, List.nil_append]
  after_results_simp
  rfl

theorem v4_apply (k : Fin 1024) : V m c main_v4 (ix2 0 k) = m ((c : Thread nD τ).loc main_arg1) (ix2 0 k) := by
  rw [v4_eq]
  exact (shapeCast_apply _ shapeCasts_S1024_S1x1024 _ (ix1 k) (by
      rewrite [Shape.rowMajor_val_one, Shape.rowMajor_val_two]
      simp [ix1, ix2])).trans
    (shapeCast_apply _ shapeCasts_S1x1024_S1024 _ _ (by
      rewrite [Shape.rowMajor_val_two, Shape.rowMajor_val_one]
      simp [ix1, ix2]))

theorem v2_eq : V m c main_v2 = (truncf .bf16 (pad S1024x2432 ![0, 0] ![0, 60] ![0, 0]
      (shapeCast S1024x2372 (m ((c : Thread nD τ).loc main_arg2)) shapeCasts_S1x1024x2372_S1024x2372)
      (sitofp .f32 (constantI S_ 32 0#32) : FVec Ideal S_ .f32) pads_S1024x2372_S1024x2432_000_0600 h_S_) bitsLt_bf16_f32 : FVec Ideal S1024x2432 .bf16) := by
  show StableHlo.after _ (fun b => m (c, b)) (Proc.devRef .tc main_v2) = _
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The padded weight's first 2372 columns are the weight's. -/
theorem padded_apply (x : Vec Ideal S1x1024x2372 .f32) (k : Fin 1024) (j : Fin 2432) (h : (j : Nat) < 2372) :
    (truncf .bf16 (pad S1024x2432 ![0, 0] ![0, 60] ![0, 0] (shapeCast S1024x2372 x shapeCasts_S1x1024x2372_S1024x2372)
      (sitofp .f32 (constantI S_ 32 0#32) : FVec Ideal S_ .f32) pads_S1024x2372_S1024x2432_000_0600 h_S_) bitsLt_bf16_f32 :
        FVec Ideal S1024x2432 .bf16) (ix2 k j) = x (ix3 0 k ⟨j, h⟩) := by
  pointwise []
  rw [dif_pos h]

theorem v2_apply (k : Fin 1024) (j : Fin 2432) (h : (j : Nat) < 2372) :
    V m c main_v2 (ix2 k j) = m ((c : Thread nD τ).loc main_arg2) (ix3 0 k ⟨j, h⟩) := by
  rw [v2_eq]
  exact padded_apply (m ((c : Thread nD τ).loc main_arg2)) k j h

/-! ## The blocks of a grid point -/

theorem index0 : ∀ t : Fin cfg0.N, win0_0.index t 0 = t.val ∧ win0_0.index t 1 = 0 :=
  (by decide +kernel : ∀ t : Fin grid0.N, win0_0.index t 0 = t.val ∧ win0_0.index t 1 = 0)

theorem blk0 (t : Fin cfg0.N) (r : Fin 512) (k : Fin 1024) (h : t.val * 512 + r < 16384) :
    iblk m c 0 t (ix2 r k) = V m c main_v5 (ix2 ⟨t.val * 512 + r, h⟩ k) := by
  refine congrArg (V m c main_v5) (funext fun a => Fin.ext ?_)
  match a with
  | ⟨0, _⟩ => show win0_0.index t 0 * 512 + 1 * r.val = t.val * 512 + r; rw [(index0 t).1]; omega
  | ⟨1, _⟩ => show win0_0.index t 1 * 1024 + 1 * k.val = k; rw [(index0 t).2]; omega

theorem index1 : ∀ t : Fin cfg0.N, win0_1.index t 0 = 0 ∧ win0_1.index t 1 = 0 :=
  (by decide +kernel : ∀ t : Fin grid0.N, win0_1.index t 0 = 0 ∧ win0_1.index t 1 = 0)

theorem blk1 (t : Fin cfg0.N) (a : Fin 1) (b : Fin 1024) : iblk m c 1 t (ix2 a b) = V m c main_v4 (ix2 a b) := by
  refine congrArg (V m c main_v4) (funext fun x => Fin.ext ?_)
  match x with
  | ⟨0, _⟩ => show win0_1.index t 0 * 1 + 1 * a.val = a; rw [(index1 t).1]; omega
  | ⟨1, _⟩ => show win0_1.index t 1 * 1024 + 1 * b.val = b; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)

theorem blk2 (t : Fin cfg0.N) (a : Fin 1024) (b : Fin 2432) : iblk m c 2 t (ix2 a b) = V m c main_v2 (ix2 a b) := by
  refine congrArg (V m c main_v2) (funext fun x => Fin.ext ?_)
  match x with
  | ⟨0, _⟩ => show win0_2.index t 0 * 1024 + 1 * a.val = a; rw [(index2 t).1]; omega
  | ⟨1, _⟩ => show win0_2.index t 1 * 2432 + 1 * b.val = b; rw [(index2 t).2]; omega

/-- Column `j` of the projection of token `s` of sequence `b`. -/
def col (b : Fin 2) (s : Fin 8192) (j : Fin 2372) : EReal :=
  proj (fun k => m ((c : Thread nD τ).loc main_arg0) (ix3 b s k)) (fun k => m ((c : Thread nD τ).loc main_arg1) (ix2 0 k))
    (fun k => m ((c : Thread nD τ).loc main_arg2) (ix3 0 k j))

/-- The row of point `t`'s blocks times column `j`: the token it is. -/
theorem blocks_col (t : Fin cfg0.N) (r : Fin 512) (h : t.val * 512 + r < 16384) (j : Fin 2432) (hj : (j : Nat) < 2372) :
    proj (fun k => iblk m c 0 t (ix2 r k)) (fun k => iblk m c 1 t (ix2 0 k)) (fun k => iblk m c 2 t (ix2 k j))
      = col m c (seqOf ⟨t.val * 512 + r, h⟩) (posOf ⟨t.val * 512 + r, h⟩) ⟨j, hj⟩ :=
  proj_congr (fun k => (blk0 m c t r k h).trans (v5_apply m c _ k)) (fun k => (blk1 m c t 0 k).trans (v4_apply m c k))
    (fun k => (blk2 m c t k j).trans (v2_apply m c k j hj))

/-! ## The pooling input -/

/-- The pooling input, at a flattened token. -/
def resultU : Buf (Elt Ideal) ((c : Thread nD τ).loc main_v6_0) := fun (i : S16384x512.Idx) =>
  col m c (seqOf (i 0)) (posOf (i 0)) ((i 1).castLE (by decide))

theorem index3 : ∀ t : Fin cfg0.N, win0_3.index t 0 = t.val ∧ win0_3.index t 1 = 0 :=
  (by decide +kernel : ∀ t : Fin grid0.N, win0_3.index t 0 = t.val ∧ win0_3.index t 1 = 0)

theorem flushed3_eq (t : Fin cfg0.N) :
    (dats m 0 c).flushed 3 t = (win0_3.blk t).view.read (Elt Ideal) (resultU m c) := by
  rw [Value.flushed3]
  have ht : t.val < 32 := lt_of_lt_of_eq t.isLt N_0
  funext y
  obtain ⟨r, k, rfl⟩ : ∃ (r : Fin 512) (k : Fin 512), y = ix2 r k := ⟨y 0, y 1, eq_ix2 y⟩
  have hr : t.val * 512 + r.val < 16384 := by have := r.isLt; omega
  have e : (win0_3.blk t).view.read (Elt Ideal) (resultU m c) (ix2 r k) = resultU m c (ix2 ⟨t.val * 512 + r, hr⟩ k) := by
    refine congrArg (resultU m c) (funext fun a => Fin.ext ?_)
    match a with
    | ⟨0, _⟩ => show win0_3.index t 0 * 512 + 1 * r.val = t.val * 512 + r; rw [(index3 t).1]; omega
    | ⟨1, _⟩ => show win0_3.index t 1 * 512 + 1 * k.val = k; rw [(index3 t).2]; omega
  exact ((Block.out3_apply _ _ _ r k).trans (blocks_col m c t r hr _ (by have := k.isLt; show k.val < 2372; omega))).trans e.symm

theorem cover3 (i : S16384x512.Idx) :
    ∃ t : Fin cfg0.N, (cfg0.win 3).flush t = true ∧ i ∈ ((cfg0.win 3).blk t).view.set := by
  have h0 : (i 0 : Nat) < 16384 := (i 0).isLt
  have h1 : (i 1 : Nat) < 512 := (i 1).isLt
  have hN : cfg0.N = 32 := N_0
  obtain ⟨t, ht⟩ : ∃ t : Fin cfg0.N, t.val = (i 0 : Nat) / 512 := ⟨⟨_, by omega⟩, rfl⟩
  refine ⟨t, flush0_3 t, ?_⟩
  show i ∈ ((View.whole main_v6_0).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + 512
              rw [(index3 t).1, ht]; omega
  | ⟨1, _⟩ => show win0_3.index t 1 * 512 ≤ (i 1 : Nat) ∧ (i 1 : Nat) < win0_3.index t 1 * 512 + 512
              rw [(index3 t).2, Nat.zero_mul, Nat.zero_add]; exact ⟨Nat.zero_le _, h1⟩

theorem final3 : (dats m 0 c).arrAt 3 cfg0.N = resultU m c :=
  (dats m 0 c).arrAt_eq_of_cover 3 (resultU m c) (fun t _ => flushed3_eq m c t) cover3

/-! ## The keys, transposed -/

/-- The keys: column first, then the token. -/
def resultK : Buf (Elt Ideal) ((c : Thread nD τ).loc main_v6_1) := fun (i : S2x512x8192.Idx) =>
  col m c (i 0) (i 2) (Fin.castLE (by decide) (Fin.natAdd 1024 (i 1)))

theorem index4 : ∀ t : Fin cfg0.N, win0_4.index t 0 = t.val / 16 ∧ win0_4.index t 1 = 0 ∧ win0_4.index t 2 = t.val % 16 :=
  (by decide +kernel : ∀ t : Fin grid0.N, win0_4.index t 0 = t.val / 16 ∧ win0_4.index t 1 = 0 ∧ win0_4.index t 2 = t.val % 16)

theorem flushed4_eq (t : Fin cfg0.N) :
    (dats m 0 c).flushed 4 t = (win0_4.blk t).view.read (Elt Ideal) (resultK m c) := by
  rw [Value.flushed4]
  have ht : t.val < 32 := lt_of_lt_of_eq t.isLt N_0
  funext y
  obtain ⟨z, k, r, rfl⟩ : ∃ (z : Fin 1) (k : Fin 512) (r : Fin 512), y = ix3 z k r := ⟨y 0, y 1, y 2, eq_ix3 y⟩
  obtain rfl : z = 0 := Subsingleton.elim _ _
  have hr : t.val * 512 + r.val < 16384 := by have := r.isLt; omega
  have e : (win0_4.blk t).view.read (Elt Ideal) (resultK m c) (ix3 0 k r)
      = resultK m c (ix3 (seqOf ⟨t.val * 512 + r, hr⟩) k (posOf ⟨t.val * 512 + r, hr⟩)) := by
    refine congrArg (resultK m c) (funext fun a => Fin.ext ?_)
    match a with
    | ⟨0, _⟩ => show win0_4.index t 0 * 1 + 1 * 0 = (t.val * 512 + r.val) / 8192; rw [(index4 t).1]; omega
    | ⟨1, _⟩ => show win0_4.index t 1 * 512 + 1 * k.val = k; rw [(index4 t).2.1]; omega
    | ⟨2, _⟩ => show win0_4.index t 2 * 512 + 1 * r.val = (t.val * 512 + r.val) % 8192; rw [(index4 t).2.2]; omega
  exact ((Block.out4_apply _ _ _ r k).trans (blocks_col m c t r hr _ (by have := k.isLt; show 1024 + k.val < 2372; omega))).trans e.symm

theorem cover4 (i : S2x512x8192.Idx) :
    ∃ t : Fin cfg0.N, (cfg0.win 4).flush t = true ∧ i ∈ ((cfg0.win 4).blk t).view.set := by
  have h0 : (i 0 : Nat) < 2 := (i 0).isLt
  have h1 : (i 1 : Nat) < 512 := (i 1).isLt
  have h2 : (i 2 : Nat) < 8192 := (i 2).isLt
  have hN : cfg0.N = 32 := N_0
  obtain ⟨t, ht⟩ : ∃ t : Fin cfg0.N, t.val = (i 0 : Nat) * 16 + (i 2 : Nat) / 512 := ⟨⟨_, by omega⟩, rfl⟩
  refine ⟨t, flush0_4 t, ?_⟩
  show i ∈ ((View.whole main_v6_1).slice (win0_4.rect t)).set
  rw [View.set_slice_whole, Rect.mem_set_unit]
  intro a
  match a with
  | ⟨0, _⟩ => show win0_4.index t 0 * 1 ≤ (i 0 : Nat) ∧ (i 0 : Nat) < win0_4.index t 0 * 1 + 1
              rw [(index4 t).1, ht]; omega
  | ⟨1, _⟩ => show win0_4.index t 1 * 512 ≤ (i 1 : Nat) ∧ (i 1 : Nat) < win0_4.index t 1 * 512 + 512
              rw [(index4 t).2.1, Nat.zero_mul, Nat.zero_add]; exact ⟨Nat.zero_le _, h1⟩
  | ⟨2, _⟩ => show win0_4.index t 2 * 512 ≤ (i 2 : Nat) ∧ (i 2 : Nat) < win0_4.index t 2 * 512 + 512
              rw [(index4 t).2.2, ht]; omega

theorem final4 : (dats m 0 c).arrAt 4 cfg0.N = resultK m c :=
  (dats m 0 c).arrAt_eq_of_cover 4 (resultK m c) (fun t _ => flushed4_eq m c t) cover4

/-! ## The values, transposed -/

/-- The values: column first, then the token. -/
def resultV : Buf (Elt Ideal) ((c : Thread nD τ).loc main_v6_2) := fun (i : S2x512x8192.Idx) =>
  col m c (i 0) (i 2) (Fin.castLE (by decide) (Fin.natAdd 1536 (i 1)))

theorem index5 : ∀ t : Fin cfg0.N, win0_5.index t 0 = t.val / 16 ∧ win0_5.index t 1 = 0 ∧ win0_5.index t 2 = t.val % 16 :=
  (by decide +kernel : ∀ t : Fin grid0.N, win0_5.index t 0 = t.val / 16 ∧ win0_5.index t 1 = 0 ∧ win0_5.index t 2 = t.val % 16)

theorem flushed5_eq (t : Fin cfg0.N) :
    (dats m 0 c).flushed 5 t = (win0_5.blk t).view.read (Elt Ideal) (resultV m c) := by
  rw [Value.flushed5]
  have ht : t.val < 32 := lt_of_lt_of_eq t.isLt N_0
  funext y
  obtain ⟨z, k, r, rfl⟩ : ∃ (z : Fin 1) (k : Fin 512) (r : Fin 512), y = ix3 z k r := ⟨y 0, y 1, y 2, eq_ix3 y⟩
  obtain rfl : z = 0 := Subsingleton.elim _ _
  have hr : t.val * 512 + r.val < 16384 := by have := r.isLt; omega
  have e : (win0_5.blk t).view.read (Elt Ideal) (resultV m c) (ix3 0 k r)
      = resultV m c (ix3 (seqOf ⟨t.val * 512 + r, hr⟩) k (posOf ⟨t.val * 512 + r, hr⟩)) := by
    refine congrArg (resultV m c) (funext fun a => Fin.ext ?_)
    match a with
    | ⟨0, _⟩ => show win0_5.index t 0 * 1 + 1 * 0 = (t.val * 512 + r.val) / 8192; rw [(index5 t).1]; omega
    | ⟨1, _⟩ => show win0_5.index t 1 * 512 + 1 * k.val = k; rw [(index5 t).2.1]; omega
    | ⟨2, _⟩ => show win0_5.index t 2 * 512 + 1 * r.val = (t.val * 512 + r.val) % 8192; rw [(index5 t).2.2]; omega
  exact ((Block.out5_apply _ _ _ r k).trans (blocks_col m c t r hr _ (by have := k.isLt; show 1536 + k.val < 2372; omega))).trans e.symm

theorem cover5 (i : S2x512x8192.Idx) :
    ∃ t : Fin cfg0.N, (cfg0.win 5).flush t = true ∧ i ∈ ((cfg0.win 5).blk t).view.set := by
  have h0 : (i 0 : Nat) < 2 := (i 0).isLt
  have h1 : (i 1 : Nat) < 512 := (i 1).isLt
  have h2 : (i 2 : Nat) < 8192 := (i 2).isLt
  have hN : cfg0.N = 32 := N_0
  obtain ⟨t, ht⟩ : ∃ t : Fin cfg0.N, t.val = (i 0 : Nat) * 16 + (i 2 : Nat) / 512 := ⟨⟨_, by omega⟩, rfl⟩
  refine ⟨t, flush0_5 t, ?_⟩
  show i ∈ ((View.whole main_v6_2).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1
              rw [(index5 t).1, ht]; omega
  | ⟨1, _⟩ => show win0_5.index t 1 * 512 ≤ (i 1 : Nat) ∧ (i 1 : Nat) < win0_5.index t 1 * 512 + 512
              rw [(index5 t).2.1, Nat.zero_mul, Nat.zero_add]; exact ⟨Nat.zero_le _, h1⟩
  | ⟨2, _⟩ => show win0_5.index t 2 * 512 ≤ (i 2 : Nat) ∧ (i 2 : Nat) < win0_5.index t 2 * 512 + 512
              rw [(index5 t).2.2, ht]; omega

theorem final5 : (dats m 0 c).arrAt 5 cfg0.N = resultV m c :=
  (dats m 0 c).arrAt_eq_of_cover 5 (resultV m c) (fun t _ => flushed5_eq m c t) cover5

/-! ## The indexer's keys, transposed -/

/-- The indexer's keys: column first, then the token. -/
def resultI : Buf (Elt Ideal) ((c : Thread nD τ).loc main_v6_3) := fun (i : S2x64x8192.Idx) =>
  col m c (i 0) (i 2) (Fin.castLE (by decide) (Fin.natAdd 2304 (i 1)))

theorem index6 : ∀ t : Fin cfg0.N, win0_6.index t 0 = t.val / 16 ∧ win0_6.index t 1 = 0 ∧ win0_6.index t 2 = t.val % 16 :=
  (by decide +kernel : ∀ t : Fin grid0.N, win0_6.index t 0 = t.val / 16 ∧ win0_6.index t 1 = 0 ∧ win0_6.index t 2 = t.val % 16)

theorem flushed6_eq (t : Fin cfg0.N) :
    (dats m 0 c).flushed 6 t = (win0_6.blk t).view.read (Elt Ideal) (resultI m c) := by
  rw [Value.flushed6]
  have ht : t.val < 32 := lt_of_lt_of_eq t.isLt N_0
  funext y
  obtain ⟨z, k, r, rfl⟩ : ∃ (z : Fin 1) (k : Fin 64) (r : Fin 512), y = ix3 z k r := ⟨y 0, y 1, y 2, eq_ix3 y⟩
  obtain rfl : z = 0 := Subsingleton.elim _ _
  have hr : t.val * 512 + r.val < 16384 := by have := r.isLt; omega
  have e : (win0_6.blk t).view.read (Elt Ideal) (resultI m c) (ix3 0 k r)
      = resultI m c (ix3 (seqOf ⟨t.val * 512 + r, hr⟩) k (posOf ⟨t.val * 512 + r, hr⟩)) := by
    refine congrArg (resultI m c) (funext fun a => Fin.ext ?_)
    match a with
    | ⟨0, _⟩ => show win0_6.index t 0 * 1 + 1 * 0 = (t.val * 512 + r.val) / 8192; rw [(index6 t).1]; omega
    | ⟨1, _⟩ => show win0_6.index t 1 * 64 + 1 * k.val = k; rw [(index6 t).2.1]; omega
    | ⟨2, _⟩ => show win0_6.index t 2 * 512 + 1 * r.val = (t.val * 512 + r.val) % 8192; rw [(index6 t).2.2]; omega
  exact ((Block.out6_apply _ _ _ r k).trans (blocks_col m c t r hr _ (by have := k.isLt; show 2304 + k.val < 2372; omega))).trans e.symm

theorem cover6 (i : S2x64x8192.Idx) :
    ∃ t : Fin cfg0.N, (cfg0.win 6).flush t = true ∧ i ∈ ((cfg0.win 6).blk t).view.set := by
  have h0 : (i 0 : Nat) < 2 := (i 0).isLt
  have h1 : (i 1 : Nat) < 64 := (i 1).isLt
  have h2 : (i 2 : Nat) < 8192 := (i 2).isLt
  have hN : cfg0.N = 32 := N_0
  obtain ⟨t, ht⟩ : ∃ t : Fin cfg0.N, t.val = (i 0 : Nat) * 16 + (i 2 : Nat) / 512 := ⟨⟨_, by omega⟩, rfl⟩
  refine ⟨t, flush0_6 t, ?_⟩
  show i ∈ ((View.whole main_v6_3).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1
              rw [(index6 t).1, ht]; omega
  | ⟨1, _⟩ => show win0_6.index t 1 * 64 ≤ (i 1 : Nat) ∧ (i 1 : Nat) < win0_6.index t 1 * 64 + 64
              rw [(index6 t).2.1, Nat.zero_mul, Nat.zero_add]; exact ⟨Nat.zero_le _, h1⟩
  | ⟨2, _⟩ => show win0_6.index t 2 * 512 ≤ (i 2 : Nat) ∧ (i 2 : Nat) < win0_6.index t 2 * 512 + 512
              rw [(index6 t).2.2, ht]; omega

theorem final6 : (dats m 0 c).arrAt 6 cfg0.N = resultI m c :=
  (dats m 0 c).arrAt_eq_of_cover 6 (resultI m c) (fun t _ => flushed6_eq m c t) cover6

end Cert.ProjIdeal.Arr

end
-- ==== Proof.ProjRef.lean ====
/-
  The reference of the projection, read at a token: the normalised row times the weight's columns.
-/
module

public import proofs.«01_k».proof.Proof.Gen.ProjRefIdeal.Read
public import proofs.«01_k».proof.Proof.Rows

@[expose] public section

set_option maxRecDepth 16384

noncomputable section

namespace Cert.ProjRefIdeal.RowsOf

open Cert.ProjRefIdeal Cert.ProjRefIdeal.Read Cert.Rows Idealize.ShloMosaic

section
variable (x0 : (⟨S2x8192x1024, .f32⟩ : BufTy).Contents (Elt Ideal)) (x1 : (⟨S1x1024, .f32⟩ : BufTy).Contents (Elt Ideal))
  (x2 : (⟨S1x1024x2372, .f32⟩ : BufTy).Contents (Elt Ideal)) (b : Fin 2) (s : Fin 8192)

/-- Column `j` of the projection of token `s` of sequence `b`. -/
abbrev col (j : Fin 2372) : EReal :=
  proj (fun k => x0 (ix3 b s k)) (fun k => x1 (ix2 0 k)) (fun k => x2 (ix3 0 k j))

theorem v15_apply (j : Fin 2372) : val_main_v15 (F := Ideal) x0 x1 x2 (ix3 b s j) = col x0 x1 x2 b s j := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  rfl

theorem v20_apply (i : Fin 16384) (j : Fin 512) :
    val_main_v20 (F := Ideal) x0 x1 x2 (ix2 i j) = col x0 x1 x2 (seqOf i) (posOf i) ⟨j, by omega⟩ := by
  rw [val_main_v20_apply]
  have e : idx_main_v20 (ix2 i j) = ix3 (seqOf i) (posOf i) j := by
    funext a
    match a with
    | ⟨0, _⟩ => exact Fin.ext (show ((i : Nat) * 512 + j) / 4194304 = i / 8192 by omega)
    | ⟨1, _⟩ => exact Fin.ext (show ((i : Nat) * 512 + j) / 512 % 8192 = i % 8192 by omega)
    | ⟨2, _⟩ => exact Fin.ext (show ((i : Nat) * 512 + j) % 512 = j by omega)
  rw [e]
  pointwise [val_main_v16]
  simp only [v15_apply]

theorem v21_apply (j : Fin 512) :
    val_main_v21 (F := Ideal) x0 x1 x2 (ix3 b j s) = col x0 x1 x2 b s ⟨1024 + j, by omega⟩ := by
  pointwise [val_main_v21, val_main_v17]
  simp only [v15_apply]

theorem v22_apply (j : Fin 512) :
    val_main_v22 (F := Ideal) x0 x1 x2 (ix3 b j s) = col x0 x1 x2 b s ⟨1536 + j, by omega⟩ := by
  pointwise [val_main_v22, val_main_v18]
  simp only [v15_apply]

theorem v23_apply (j : Fin 64) :
    val_main_v23 (F := Ideal) x0 x1 x2 (ix3 b j s) = col x0 x1 x2 b s ⟨2304 + j, by omega⟩ := by
  pointwise [val_main_v23, val_main_v19]
  simp only [v15_apply]

end

end Cert.ProjRefIdeal.RowsOf

end
-- ==== Proof.ProjClaim.lean ====
/-
  The projection against its reference: the same extended reals in its four results, the arguments unchanged.
-/
module

public import proofs.«01_k».proof.Defs
public import proofs.«01_k».proof.Proof.ProjArr
public import proofs.«01_k».proof.Proof.ProjRef
public import proofs.«01_k».proof.Proof.Gen.ProjRefIdeal.Run

@[expose] public section

set_option maxRecDepth 16384

noncomputable section

namespace Cert.ProjProof

open Idealize.ShloMosaic Idealize.ShloMosaic.TcCoe Idealize.SL.Sem Cert.Rows

/-- `Proj` computes its reference over the extended reals. -/
theorem algebraic : Cert.algebraic_ProjIdeal_ProjRefIdeal := by
  intro m g m' g' _ hargs
  refine ⟨fun c => Cert.ProjIdeal.Arr.resultU m c, fun c => Cert.ProjIdeal.Arr.resultK m c,
    fun c => Cert.ProjIdeal.Arr.resultV m c, fun c => Cert.ProjIdeal.Arr.resultI m c, ?_, ?_⟩
  · exact (θ_run Cert.ProjIdeal.defs _ _).mono (fun r h c => ⟨(h c).1.trans (Cert.ProjIdeal.Arr.final3 m c),
        (h c).2.1.trans (Cert.ProjIdeal.Arr.final4 m c), (h c).2.2.1.trans (Cert.ProjIdeal.Arr.final5 m c),
        (h c).2.2.2.1.trans (Cert.ProjIdeal.Arr.final6 m c), (h c).2.2.2.2.2.2.2.2.2.2⟩)
      (Cert.ProjIdeal.Value.run_blocks m g)
  · refine (θ_run Cert.ProjRefIdeal.defs _ _).mono
      (fun r h c => ⟨(h c).1.trans ?_, (h c).2.1.trans ?_, (h c).2.2.1.trans ?_, (h c).2.2.2.1.trans ?_, (h c).2.2.2.2⟩)
      (Cert.ProjRefIdeal.Value.run m' g')
    · rw [Cert.ProjRefIdeal.Read.val_main_v20_eq]
      obtain ⟨e0, e1, e2⟩ := hargs c
      funext (i : Cert.ProjRefIdeal.S16384x512.Idx)
      obtain ⟨a, j, rfl⟩ : ∃ (a : Fin 16384) (j : Fin 512), i = ix2 a j := ⟨i 0, i 1, eq_ix2 i⟩
      refine (Cert.ProjRefIdeal.RowsOf.v20_apply _ _ _ a j).trans ?_
      exact proj_congr (fun k => congrFun e0 _) (fun k => congrFun e1 _) (fun k => congrFun e2 _)
    · rw [Cert.ProjRefIdeal.Read.val_main_v21_eq]
      obtain ⟨e0, e1, e2⟩ := hargs c
      funext (i : Cert.ProjRefIdeal.S2x512x8192.Idx)
      obtain ⟨b, j, s, rfl⟩ : ∃ (b : Fin 2) (j : Fin 512) (s : Fin 8192), i = ix3 b j s := ⟨i 0, i 1, i 2, eq_ix3 i⟩
      refine (Cert.ProjRefIdeal.RowsOf.v21_apply _ _ _ b s j).trans ?_
      exact proj_congr (fun k => congrFun e0 _) (fun k => congrFun e1 _) (fun k => congrFun e2 _)
    · rw [Cert.ProjRefIdeal.Read.val_main_v22_eq]
      obtain ⟨e0, e1, e2⟩ := hargs c
      funext (i : Cert.ProjRefIdeal.S2x512x8192.Idx)
      obtain ⟨b, j, s, rfl⟩ : ∃ (b : Fin 2) (j : Fin 512) (s : Fin 8192), i = ix3 b j s := ⟨i 0, i 1, i 2, eq_ix3 i⟩
      refine (Cert.ProjRefIdeal.RowsOf.v22_apply _ _ _ b s j).trans ?_
      exact proj_congr (fun k => congrFun e0 _) (fun k => congrFun e1 _) (fun k => congrFun e2 _)
    · rw [Cert.ProjRefIdeal.Read.val_main_v23_eq]
      obtain ⟨e0, e1, e2⟩ := hargs c
      funext (i : Cert.ProjRefIdeal.S2x64x8192.Idx)
      obtain ⟨b, j, s, rfl⟩ : ∃ (b : Fin 2) (j : Fin 64) (s : Fin 8192), i = ix3 b j s := ⟨i 0, i 1, i 2, eq_ix3 i⟩
      refine (Cert.ProjRefIdeal.RowsOf.v23_apply _ _ _ b s j).trans ?_
      exact proj_congr (fun k => congrFun e0 _) (fun k => congrFun e1 _) (fun k => congrFun e2 _)

end Cert.ProjProof

end
-- ==== Proof.lean ====
module

public import proofs.«01_k».proof.Defs
public import proofs.«01_k».proof.Proof.Gen.FinishIdeal.Value
public import proofs.«01_k».proof.Proof.Gen.ProjIdeal.Value
public import proofs.«01_k».proof.Proof.Gen.FinishRefIdeal.Run
public import proofs.«01_k».proof.Proof.Gen.ProjRefIdeal.Run
public import proofs.«01_k».proof.Proof.Gen.FinishRefIdeal.Read
public import proofs.«01_k».proof.Proof.Gen.ProjRefIdeal.Read
public import proofs.«01_k».proof.Proof.Gen.Kernel
public import proofs.«01_k».proof.Proof.Gen.KernelIdeal
public import proofs.«01_k».proof.Proof.Gen.ReferenceIdeal
public import proofs.«01_k».proof.Proof.Gen.Pre_table_in_range
public import proofs.«01_k».proof.Proof.Gen.Pre_attends
public import proofs.«01_k».proof.Proof.AttnBits
public import proofs.«01_k».proof.Proof.AttnClaim
public import proofs.«01_k».proof.Proof.FinishClaim
public import proofs.«01_k».proof.Proof.ProjClaim
public import Idealize.ShloMosaic.Lib.Quiescent
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import Idealize.ShloMosaic.Adequacy
public import Idealize.ShloMosaic.Init

@[expose] public section

noncomputable section

namespace Cert.Proof

open Idealize.ShloMosaic Idealize.SL.Sem Cert.Finish

/-- The finishing reference's frame: its run's arguments, and a program without semaphores leaves none counted. -/
theorem frame_finishRef : Cert.quiescent_FinishRefIdeal := fun m ρ _ =>
  (θ_run Cert.FinishRefIdeal.defs _ _).mono (fun r h => ⟨fun c => (h c).2, sem_eq_zero_of_no_sems (by decide) r.2⟩)
    (Cert.FinishRefIdeal.Value.run m ρ)

/-- The projection reference's frame, the same way. -/
theorem frame_projRef : Cert.quiescent_ProjRefIdeal := fun m ρ _ =>
  (θ_run Cert.ProjRefIdeal.defs _ _).mono
    (fun r h => ⟨fun c => by obtain ⟨_, _, _, _, h⟩ := h c; exact h, sem_eq_zero_of_no_sems (by decide) r.2⟩)
    (Cert.ProjRefIdeal.Value.run m ρ)

theorem claim : Cert.Claim := ⟨Cert.Kernel.Gen.facts, Cert.KernelIdeal.Gen.facts, Cert.ReferenceIdeal.Gen.facts,
  Cert.Finish.Gen.facts, Cert.FinishIdeal.Gen.facts, Cert.FinishRefIdeal.Gen.facts, Cert.Proj.Gen.facts, Cert.ProjIdeal.Gen.facts, Cert.ProjRefIdeal.Gen.facts,
  Cert.Pre_table_in_range.Gen.facts, Cert.Pre_attends.Gen.facts,
  Cert.Kernel.Attn.frame_bits, Cert.KernelIdeal.AttnProof.frame_kernel, Cert.KernelIdeal.AttnProof.frame_attends,
  Cert.KernelIdeal.AttnProof.frame_reference, Cert.KernelIdeal.AttnProof.frame_reference_attends,
  fun m ρ _ => Cert.Finish.Gen.frame m ρ, fun m ρ _ => Cert.FinishIdeal.Gen.frame m ρ, frame_finishRef,
  fun m ρ _ => Cert.Proj.Gen.frame m ρ, fun m ρ _ => Cert.ProjIdeal.Gen.frame m ρ, frame_projRef,
  trivial, Cert.KernelIdeal.AttnProof.algebraic, trivial, Cert.FinishProof.algebraic, trivial, Cert.ProjProof.algebraic⟩

end Cert.Proof

end
